-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inverse_tables [hPre_inverse_tables : Cert.Pre_inverse_tables.Facts] (m : (ℓ : Loc Cert.KernelIdeal.nD Cert.KernelIdeal.τ Cert.KernelIdeal.sig) → Buf (Elt Ideal) ℓ) : Prop :=
  ∀ c : Dev Cert.KernelIdeal.nD,
    (Cert.Pre_inverse_tables.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inverse_tables [hPre_inverse_tables : Cert.Pre_inverse_tables.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inverse_tables.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_inverse_tables [hKernelIdeal : Cert.KernelIdeal.Facts] [hPre_inverse_tables : Cert.Pre_inverse_tables.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inverse_tables m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_inverse_tables [hReferenceIdeal : Cert.ReferenceIdeal.Facts] [hPre_inverse_tables : Cert.Pre_inverse_tables.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inverse_tables m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal_pre_inverse_tables [hKernelIdeal : Cert.KernelIdeal.Facts] [hReferenceIdeal : Cert.ReferenceIdeal.Facts] [hPre_inverse_tables : Cert.Pre_inverse_tables.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inverse_tables m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v6_2)) (v1 : (c : Dev Cert.KernelIdeal.nD) → Buf (Elt Ideal) ((c.tc : Thread Cert.KernelIdeal.nD Cert.KernelIdeal.τ).loc Cert.KernelIdeal.main_v6_3)) (v2 : (c : Dev Cert.KernelIdeal.nD) → Buf (Elt Ideal) ((c.tc : Thread Cert.KernelIdeal.nD Cert.KernelIdeal.τ).loc Cert.KernelIdeal.main_v6_5)) (v3 : (c : Dev Cert.KernelIdeal.nD) → Buf (Elt Ideal) ((c.tc : Thread Cert.KernelIdeal.nD Cert.KernelIdeal.τ).loc Cert.KernelIdeal.main_v6_6)) (v4 : (c : Dev Cert.KernelIdeal.nD) → Buf (Elt Ideal) ((c.tc : Thread Cert.KernelIdeal.nD Cert.KernelIdeal.τ).loc Cert.KernelIdeal.main_v6_7)) (v5 : (c : Dev Cert.KernelIdeal.nD) → Buf (Elt Ideal) ((c.tc : Thread Cert.KernelIdeal.nD Cert.KernelIdeal.τ).loc Cert.KernelIdeal.main_v6_8)) (v6 : (c : Dev Cert.KernelIdeal.nD) → Buf (Elt Ideal) ((c.tc : Thread Cert.KernelIdeal.nD Cert.KernelIdeal.τ).loc Cert.KernelIdeal.main_v6_9)) (v7 : (c : Dev Cert.KernelIdeal.nD) → Buf (Elt Ideal) ((c.tc : Thread Cert.KernelIdeal.nD Cert.KernelIdeal.τ).loc Cert.KernelIdeal.main_v6_10)) (v8 : (c : Dev Cert.KernelIdeal.nD) → Buf (Elt Ideal) ((c.tc : Thread Cert.KernelIdeal.nD Cert.KernelIdeal.τ).loc Cert.KernelIdeal.main_v6_11)) (v9 : (c : Dev Cert.KernelIdeal.nD) → Buf (Elt Ideal) ((c.tc : Thread Cert.KernelIdeal.nD Cert.KernelIdeal.τ).loc Cert.KernelIdeal.main_v6_12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_2) = v0 c
          ∧ r.2.mem ((c.tc : Thread Cert.KernelIdeal.nD Cert.KernelIdeal.τ).loc Cert.KernelIdeal.main_v6_3) = v1 c
          ∧ r.2.mem ((c.tc : Thread Cert.KernelIdeal.nD Cert.KernelIdeal.τ).loc Cert.KernelIdeal.main_v6_5) = v2 c
          ∧ r.2.mem ((c.tc : Thread Cert.KernelIdeal.nD Cert.KernelIdeal.τ).loc Cert.KernelIdeal.main_v6_6) = v3 c
          ∧ r.2.mem ((c.tc : Thread Cert.KernelIdeal.nD Cert.KernelIdeal.τ).loc Cert.KernelIdeal.main_v6_7) = v4 c
          ∧ r.2.mem ((c.tc : Thread Cert.KernelIdeal.nD Cert.KernelIdeal.τ).loc Cert.KernelIdeal.main_v6_8) = v5 c
          ∧ r.2.mem ((c.tc : Thread Cert.KernelIdeal.nD Cert.KernelIdeal.τ).loc Cert.KernelIdeal.main_v6_9) = v6 c
          ∧ r.2.mem ((c.tc : Thread Cert.KernelIdeal.nD Cert.KernelIdeal.τ).loc Cert.KernelIdeal.main_v6_10) = v7 c
          ∧ r.2.mem ((c.tc : Thread Cert.KernelIdeal.nD Cert.KernelIdeal.τ).loc Cert.KernelIdeal.main_v6_11) = v8 c
          ∧ r.2.mem ((c.tc : Thread Cert.KernelIdeal.nD Cert.KernelIdeal.τ).loc Cert.KernelIdeal.main_v6_12) = v9 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12_0) = v0 c
          ∧ r.2.mem ((c.tc : Thread Cert.ReferenceIdeal.nD Cert.ReferenceIdeal.τ).loc Cert.ReferenceIdeal.main_v12_1) = v1 c
          ∧ r.2.mem ((c.tc : Thread Cert.ReferenceIdeal.nD Cert.ReferenceIdeal.τ).loc Cert.ReferenceIdeal.main_v12_2) = v2 c
          ∧ r.2.mem ((c.tc : Thread Cert.ReferenceIdeal.nD Cert.ReferenceIdeal.τ).loc Cert.ReferenceIdeal.main_v12_3) = v3 c
          ∧ r.2.mem ((c.tc : Thread Cert.ReferenceIdeal.nD Cert.ReferenceIdeal.τ).loc Cert.ReferenceIdeal.main_v12_4) = v4 c
          ∧ r.2.mem ((c.tc : Thread Cert.ReferenceIdeal.nD Cert.ReferenceIdeal.τ).loc Cert.ReferenceIdeal.main_v12_5) = v5 c
          ∧ r.2.mem ((c.tc : Thread Cert.ReferenceIdeal.nD Cert.ReferenceIdeal.τ).loc Cert.ReferenceIdeal.main_v12_6) = v6 c
          ∧ r.2.mem ((c.tc : Thread Cert.ReferenceIdeal.nD Cert.ReferenceIdeal.τ).loc Cert.ReferenceIdeal.main_v12_7) = v7 c
          ∧ r.2.mem ((c.tc : Thread Cert.ReferenceIdeal.nD Cert.ReferenceIdeal.τ).loc Cert.ReferenceIdeal.main_v12_8) = v8 c
          ∧ r.2.mem ((c.tc : Thread Cert.ReferenceIdeal.nD Cert.ReferenceIdeal.τ).loc Cert.ReferenceIdeal.main_v12_9) = v9 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_inverse_tables : Cert.Pre_inverse_tables.Facts),
    quiescent_Kernel (hKernel := hKernel)
    ∧ quiescent_KernelIdeal (hKernelIdeal := hKernelIdeal)
    ∧ quiescent_KernelIdeal_pre_inverse_tables (hKernelIdeal := hKernelIdeal) (hPre_inverse_tables := hPre_inverse_tables)
    ∧ quiescent_ReferenceIdeal (hReferenceIdeal := hReferenceIdeal)
    ∧ quiescent_ReferenceIdeal_pre_inverse_tables (hReferenceIdeal := hReferenceIdeal) (hPre_inverse_tables := hPre_inverse_tables)
    ∧ preserves_Kernel_KernelIdeal
    ∧ algebraic_KernelIdeal_ReferenceIdeal_pre_inverse_tables (hKernelIdeal := hKernelIdeal) (hReferenceIdeal := hReferenceIdeal) (hPre_inverse_tables := hPre_inverse_tables)
-- ==== Pre_inverse_tables.lean ====
abbrev S256x768 : Shape := ⟨2, ![256, 768]⟩
abbrev S4x768x3072 : Shape := ⟨3, ![4, 768, 3072]⟩
abbrev S4 : Shape := ⟨1, ![4]⟩
abbrev S4x3072x768 : Shape := ⟨3, ![4, 3072, 768]⟩
abbrev S_ : Shape := ⟨0, ![]⟩
abbrev S256x1 : Shape := ⟨2, ![256, 1]⟩
abbrev S4x80 : Shape := ⟨2, ![4, 80]⟩
abbrev S256x320 : Shape := ⟨2, ![256, 320]⟩
abbrev S1x320 : Shape := ⟨2, ![1, 320]⟩

class Facts : Prop where
  bcast_S256x1_S256x320_0_1 : S256x1.BroadcastsInDim S256x320 (![0, 1] : Fin 2 → Fin S256x320.rank)
  shapeCasts_S4x80_S1x320 : S4x80.ShapeCasts S1x320
  bcast_S1x320_S256x320_0_1 : S1x320.BroadcastsInDim S256x320 (![0, 1] : Fin 2 → Fin S256x320.rank)
  bcast_S_S256x320 : S_.BroadcastsInDim S256x320 (![] : Fin 0 → Fin S256x320.rank)

variable [Facts]

def fn {F : FTy → Type} [FloatOps F] (main_arg0 : FVec F S256x768 .bf16) (main_arg1 : FVec F S256x768 .bf16) (main_arg2 : FVec F S4x768x3072 .fp8e4m3) (main_arg3 : FVec F S4 .f32) (main_arg4 : FVec F S4x3072x768 .fp8e4m3) (main_arg5 : FVec F S4 .f32) (main_arg6 : FVec F S_ .f32) (main_arg7 : FVec F S_ .f32) (main_arg8 : FVec F S_ .f32) (main_arg9 : FVec F S_ .f32) (main_arg10 : FVec F S256x1 .f32) (main_arg11 : IVec S4x80 32) (main_arg12 : IVec S256x1 32) : IVec S256x320 1 :=
  let main_v0 : IVec S256x320 32 := iotaInDim S256x320 32 1
  let main_v1 : IVec S256x320 32 := iotaInDim S256x320 32 0
  let main_v2 : IVec S256x320 32 := broadcastInDim S256x320 ![0, 1] bcast_S256x1_S256x320_0_1 main_arg12
  let main_v3 : IVec S1x320 32 := shapeCast S1x320 main_arg11 shapeCasts_S4x80_S1x320
  let main_v4 : IVec S256x320 32 := broadcastInDim S256x320 ![0, 1] bcast_S1x320_S256x320_0_1 main_v3
  let main_v5 : IVec S256x320 1 := cmpi .eq main_v2 main_v0
  let main_v6 : IVec S256x320 1 := cmpi .eq main_v4 main_v1
  let main_v7 : IVec S256x320 1 := cmpi .eq main_v5 main_v6
  let main_c : IVec S_ 32 := constantI S_ 32 0#32
  let main_v8 : IVec S256x320 32 := broadcastInDim S256x320 ![] bcast_S_S256x320 main_c
  let main_v9 : IVec S256x320 1 := cmpi .sge main_v4 main_v8
  let main_v10 : IVec S256x320 1 := andi main_v7 main_v9
  main_v10
-- ==== Kernel.lean ====
abbrev S256x768 : Shape := ⟨2, ![256, 768]⟩
abbrev S4x768x3072 : Shape := ⟨3, ![4, 768, 3072]⟩
abbrev S4 : Shape := ⟨1, ![4]⟩
abbrev S4x3072x768 : Shape := ⟨3, ![4, 3072, 768]⟩
abbrev S_ : Shape := ⟨0, ![]⟩
abbrev S256x1 : Shape := ⟨2, ![256, 1]⟩
abbrev S4x80 : Shape := ⟨2, ![4, 80]⟩
abbrev S1 : Shape := ⟨1, ![1]⟩
abbrev S1x256 : Shape := ⟨2, ![1, 256]⟩
abbrev S4x80x3072 : Shape := ⟨3, ![4, 80, 3072]⟩
abbrev S4x80x768 : Shape := ⟨3, ![4, 80, 768]⟩
abbrev S1x768x512 : Shape := ⟨3, ![1, 768, 512]⟩
abbrev S1x512x768 : Shape := ⟨3, ![1, 512, 768]⟩
abbrev S1x80x512 : Shape := ⟨3, ![1, 80, 512]⟩
abbrev S1x80x768 : Shape := ⟨3, ![1, 80, 768]⟩
abbrev S96x768 : Shape := ⟨2, ![96, 768]⟩
abbrev S768x96 : Shape := ⟨2, ![768, 96]⟩
abbrev S96x128 : Shape := ⟨2, ![96, 128]⟩
abbrev S1x128 : Shape := ⟨2, ![1, 128]⟩
abbrev S1x256x768 : Shape := ⟨3, ![1, 256, 768]⟩
abbrev S1x1x1 : Shape := ⟨3, ![1, 1, 1]⟩
abbrev S96x256 : Shape := ⟨2, ![96, 256]⟩
abbrev S96 : Shape := ⟨1, ![96]⟩
abbrev S96x1 : Shape := ⟨2, ![96, 1]⟩
abbrev S80x768 : Shape := ⟨2, ![80, 768]⟩
abbrev S1x96x768 : Shape := ⟨3, ![1, 96, 768]⟩
abbrev S768x512 : Shape := ⟨2, ![768, 512]⟩
abbrev S512x768 : Shape := ⟨2, ![512, 768]⟩
abbrev S96x512 : Shape := ⟨2, ![96, 512]⟩
abbrev S1x96x512 : Shape := ⟨3, ![1, 96, 512]⟩
abbrev S80x512 : Shape := ⟨2, ![80, 512]⟩
abbrev S1x80 : Shape := ⟨2, ![1, 80]⟩
abbrev S256x128 : Shape := ⟨2, ![256, 128]⟩
abbrev S256x96 : Shape := ⟨2, ![256, 96]⟩
abbrev S256 : Shape := ⟨1, ![256]⟩

abbrev nBuf : Space → Nat
  | .hbm => 32
  | .vmem => 33
  | .smem => 10
  | _ => 0

abbrev bufTy : (tb : Table) → Fin (tcTables nBuf tb) → BufTy
  | .hbm, ⟨0, _⟩ => ⟨S256x768, .bf16⟩
  | .hbm, ⟨1, _⟩ => ⟨S256x768, .bf16⟩
  | .hbm, ⟨2, _⟩ => ⟨S4x768x3072, .fp8e4m3⟩
  | .hbm, ⟨3, _⟩ => ⟨S4, .f32⟩
  | .hbm, ⟨4, _⟩ => ⟨S4x3072x768, .fp8e4m3⟩
  | .hbm, ⟨5, _⟩ => ⟨S4, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S256x1, .f32⟩
  | .hbm, ⟨11, _⟩ => ⟨S4x80, .i32⟩
  | .hbm, ⟨12, _⟩ => ⟨S256x1, .i32⟩
  | .hbm, ⟨13, _⟩ => ⟨S1, .f32⟩
  | .hbm, ⟨14, _⟩ => ⟨S1, .f32⟩
  | .hbm, ⟨15, _⟩ => ⟨S1, .f32⟩
  | .hbm, ⟨16, _⟩ => ⟨S1, .f32⟩
  | .hbm, ⟨17, _⟩ => ⟨S1x256, .i32⟩
  | .hbm, ⟨18, _⟩ => ⟨S1x256, .f32⟩
  | .hbm, ⟨19, _⟩ => ⟨S256x768, .bf16⟩
  | .hbm, ⟨20, _⟩ => ⟨S256x768, .bf16⟩
  | .hbm, ⟨21, _⟩ => ⟨S4x768x3072, .bf16⟩
  | .hbm, ⟨22, _⟩ => ⟨S4x3072x768, .bf16⟩
  | .hbm, ⟨23, _⟩ => ⟨S1x256, .f32⟩
  | .hbm, ⟨24, _⟩ => ⟨S256x768, .fp8e4m3⟩
  | .hbm, ⟨25, _⟩ => ⟨S1, .f32⟩
  | .hbm, ⟨26, _⟩ => ⟨S4x80x3072, .fp8e4m3⟩
  | .hbm, ⟨27, _⟩ => ⟨S1, .f32⟩
  | .hbm, ⟨28, _⟩ => ⟨S4x80x768, .fp8e5m2⟩
  | .hbm, ⟨29, _⟩ => ⟨S1, .f32⟩
  | .hbm, ⟨30, _⟩ => ⟨S4x80x3072, .fp8e5m2⟩
  | .hbm, ⟨31, _⟩ => ⟨S1, .f32⟩
  | .local _ .vmem, ⟨0, _⟩ => ⟨S4x80, .i32⟩
  | .local _ .vmem, ⟨1, _⟩ => ⟨S1x256, .i32⟩
  | .local _ .vmem, ⟨2, _⟩ => ⟨S1x256, .f32⟩
  | .local _ .vmem, ⟨3, _⟩ => ⟨S256x768, .bf16⟩
  | .local _ .vmem, ⟨4, _⟩ => ⟨S256x768, .bf16⟩
  | .local _ .vmem, ⟨5, _⟩ => ⟨S1x768x512, .fp8e4m3⟩
  | .local _ .vmem, ⟨6, _⟩ => ⟨S1x768x512, .fp8e4m3⟩
  | .local _ .vmem, ⟨7, _⟩ => ⟨S1x512x768, .fp8e4m3⟩
  | .local _ .vmem, ⟨8, _⟩ => ⟨S1x512x768, .fp8e4m3⟩
  | .local _ .vmem, ⟨9, _⟩ => ⟨S256x768, .bf16⟩
  | .local _ .vmem, ⟨10, _⟩ => ⟨S256x768, .bf16⟩
  | .local _ .vmem, ⟨11, _⟩ => ⟨S1x768x512, .bf16⟩
  | .local _ .vmem, ⟨12, _⟩ => ⟨S1x768x512, .bf16⟩
  | .local _ .vmem, ⟨13, _⟩ => ⟨S1x512x768, .bf16⟩
  | .local _ .vmem, ⟨14, _⟩ => ⟨S1x512x768, .bf16⟩
  | .local _ .vmem, ⟨15, _⟩ => ⟨S1x256, .f32⟩
  | .local _ .vmem, ⟨16, _⟩ => ⟨S256x768, .fp8e4m3⟩
  | .local _ .vmem, ⟨17, _⟩ => ⟨S1x80x512, .fp8e4m3⟩
  | .local _ .vmem, ⟨18, _⟩ => ⟨S1x80x512, .fp8e4m3⟩
  | .local _ .vmem, ⟨19, _⟩ => ⟨S1x80x768, .fp8e5m2⟩
  | .local _ .vmem, ⟨20, _⟩ => ⟨S1x80x768, .fp8e5m2⟩
  | .local _ .vmem, ⟨21, _⟩ => ⟨S1x80x512, .fp8e5m2⟩
  | .local _ .vmem, ⟨22, _⟩ => ⟨S1x80x512, .fp8e5m2⟩
  | .local _ .vmem, ⟨23, _⟩ => ⟨S96x768, .fp8e4m3⟩
  | .local _ .vmem, ⟨24, _⟩ => ⟨S96x768, .fp8e5m2⟩
  | .local _ .vmem, ⟨25, _⟩ => ⟨S768x96, .fp8e4m3⟩
  | .local _ .vmem, ⟨26, _⟩ => ⟨S96x768, .f32⟩
  | .local _ .vmem, ⟨27, _⟩ => ⟨S96x768, .f32⟩
  | .local _ .vmem, ⟨28, _⟩ => ⟨S96x768, .f32⟩
  | .local _ .vmem, ⟨29, _⟩ => ⟨S96x128, .f32⟩
  | .local _ .vmem, ⟨30, _⟩ => ⟨S1x128, .i32⟩
  | .local _ .vmem, ⟨31, _⟩ => ⟨S256x768, .f32⟩
  | .local _ .vmem, ⟨32, _⟩ => ⟨S256x768, .f32⟩
  | .local _ .smem, ⟨0, _⟩ => ⟨S1, .f32⟩
  | .local _ .smem, ⟨1, _⟩ => ⟨S1, .f32⟩
  | .local _ .smem, ⟨2, _⟩ => ⟨S1, .f32⟩
  | .local _ .smem, ⟨3, _⟩ => ⟨S1, .f32⟩
  | .local _ .smem, ⟨4, _⟩ => ⟨S4, .f32⟩
  | .local _ .smem, ⟨5, _⟩ => ⟨S4, .f32⟩
  | .local _ .smem, ⟨6, _⟩ => ⟨S1, .f32⟩
  | .local _ .smem, ⟨7, _⟩ => ⟨S1, .f32⟩
  | .local _ .smem, ⟨8, _⟩ => ⟨S1, .f32⟩
  | .local _ .smem, ⟨9, _⟩ => ⟨S1, .f32⟩
  | _, _ => ⟨S256x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | .smem, ⟨6, _⟩ => true
  | .smem, ⟨7, _⟩ => true
  | .smem, ⟨8, _⟩ => true
  | .smem, ⟨9, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6_0 : Ref sig .tc := ⟨.hbm, 19, rfl⟩
abbrev main_v6_1 : Ref sig .tc := ⟨.hbm, 20, rfl⟩
abbrev main_v6_2 : Ref sig .tc := ⟨.hbm, 21, rfl⟩
abbrev main_v6_3 : Ref sig .tc := ⟨.hbm, 22, rfl⟩
abbrev main_v6_4 : Ref sig .tc := ⟨.hbm, 23, rfl⟩
abbrev main_v6_5 : Ref sig .tc := ⟨.hbm, 24, rfl⟩
abbrev main_v6_6 : Ref sig .tc := ⟨.hbm, 25, rfl⟩
abbrev main_v6_7 : Ref sig .tc := ⟨.hbm, 26, rfl⟩
abbrev main_v6_8 : Ref sig .tc := ⟨.hbm, 27, rfl⟩
abbrev main_v6_9 : Ref sig .tc := ⟨.hbm, 28, rfl⟩
abbrev main_v6_10 : Ref sig .tc := ⟨.hbm, 29, rfl⟩
abbrev main_v6_11 : Ref sig .tc := ⟨.hbm, 30, rfl⟩
abbrev main_v6_12 : Ref sig .tc := ⟨.hbm, 31, rfl⟩
abbrev cc0_stg6_0 : Ref sig .tc := ⟨.vmem, 0, rfl⟩
abbrev cc0_stg7_0 : Ref sig .tc := ⟨.vmem, 1, rfl⟩
abbrev cc0_stg8_0 : Ref sig .tc := ⟨.vmem, 2, rfl⟩
abbrev cc0_stg9_0 : Ref sig .tc := ⟨.vmem, 3, rfl⟩
abbrev cc0_stg10_0 : Ref sig .tc := ⟨.vmem, 4, rfl⟩
abbrev cc0_stg11_0 : Ref sig .tc := ⟨.vmem, 5, rfl⟩
abbrev cc0_stg11_1 : Ref sig .tc := ⟨.vmem, 6, rfl⟩
abbrev cc0_stg12_0 : Ref sig .tc := ⟨.vmem, 7, rfl⟩
abbrev cc0_stg12_1 : Ref sig .tc := ⟨.vmem, 8, rfl⟩
abbrev cc0_stg13_0 : Ref sig .tc := ⟨.vmem, 9, rfl⟩
abbrev cc0_stg14_0 : Ref sig .tc := ⟨.vmem, 10, rfl⟩
abbrev cc0_stg15_0 : Ref sig .tc := ⟨.vmem, 11, rfl⟩
abbrev cc0_stg15_1 : Ref sig .tc := ⟨.vmem, 12, rfl⟩
abbrev cc0_stg16_0 : Ref sig .tc := ⟨.vmem, 13, rfl⟩
abbrev cc0_stg16_1 : Ref sig .tc := ⟨.vmem, 14, rfl⟩
abbrev cc0_stg17_0 : Ref sig .tc := ⟨.vmem, 15, rfl⟩
abbrev cc0_stg18_0 : Ref sig .tc := ⟨.vmem, 16, rfl⟩
abbrev cc0_stg20_0 : Ref sig .tc := ⟨.vmem, 17, rfl⟩
abbrev cc0_stg20_1 : Ref sig .tc := ⟨.vmem, 18, rfl⟩
abbrev cc0_stg22_0 : Ref sig .tc := ⟨.vmem, 19, rfl⟩
abbrev cc0_stg22_1 : Ref sig .tc := ⟨.vmem, 20, rfl⟩
abbrev cc0_stg24_0 : Ref sig .tc := ⟨.vmem, 21, rfl⟩
abbrev cc0_stg24_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_scratch4 : Ref sig .tc := ⟨.vmem, 27, rfl⟩
abbrev cc0_scratch5 : Ref sig .tc := ⟨.vmem, 28, rfl⟩
abbrev cc0_scratch6 : Ref sig .tc := ⟨.vmem, 29, rfl⟩
abbrev cc0_scratch7 : Ref sig .tc := ⟨.vmem, 30, rfl⟩
abbrev cc0_scratch8 : Ref sig .tc := ⟨.vmem, 31, rfl⟩
abbrev cc0_scratch9 : Ref sig .tc := ⟨.vmem, 32, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_stg4_0 : Ref sig .tc := ⟨.smem, 4, rfl⟩
abbrev cc0_stg5_0 : Ref sig .tc := ⟨.smem, 5, rfl⟩
abbrev cc0_stg19_0 : Ref sig .tc := ⟨.smem, 6, rfl⟩
abbrev cc0_stg21_0 : Ref sig .tc := ⟨.smem, 7, rfl⟩
abbrev cc0_stg23_0 : Ref sig .tc := ⟨.smem, 8, rfl⟩
abbrev cc0_stg25_0 : Ref sig .tc := ⟨.smem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem11_1 : DmaSem sig := 12
abbrev cc0_sem12_0 : DmaSem sig := 13
abbrev cc0_sem12_1 : DmaSem sig := 14
abbrev cc0_sem13_0 : DmaSem sig := 15
abbrev cc0_sem14_0 : DmaSem sig := 16
abbrev cc0_sem15_0 : DmaSem sig := 17
abbrev cc0_sem15_1 : DmaSem sig := 18
abbrev cc0_sem16_0 : DmaSem sig := 19
abbrev cc0_sem16_1 : DmaSem sig := 20
abbrev cc0_sem17_0 : DmaSem sig := 21
abbrev cc0_sem18_0 : DmaSem sig := 22
abbrev cc0_sem19_0 : DmaSem sig := 23
abbrev cc0_sem20_0 : DmaSem sig := 24
abbrev cc0_sem20_1 : DmaSem sig := 25
abbrev cc0_sem21_0 : DmaSem sig := 26
abbrev cc0_sem22_0 : DmaSem sig := 27
abbrev cc0_sem22_1 : DmaSem sig := 28
abbrev cc0_sem23_0 : DmaSem sig := 29
abbrev cc0_sem24_0 : DmaSem sig := 30
abbrev cc0_sem24_1 : DmaSem sig := 31
abbrev cc0_sem25_0 : DmaSem sig := 32

abbrev nD : Nat := 1
abbrev τ : Topo := Topo.v7x

variable {F : FTy → Type} [FloatOps F]

abbrev grid0 : Pipeline.Grid := ⟨2, ![4, 6], ![false, false]⟩

def k0_off1 (i : grid0.Coords) : Fin 1 → Nat :=
  let arg0 : BitVec 32 := BitVec.ofNat 32 (i 0).val
  let v4 : Index := Scalar.indexCast arg0
  ![v4.toNat]
def k0_cond3 (i : grid0.Coords) : BitVec 1 :=
  let arg1 : BitVec 32 := BitVec.ofNat 32 (i 1).val
  let c5_i32 : BitVec 32 := 5#32
  let v104 : BitVec 1 := Scalar.cmpi .eq arg1 c5_i32
  let v105 : BitVec 32 := Scalar.extui v104
  let c0_i32_58 : BitVec 32 := 0#32
  let v106 : BitVec 1 := Scalar.cmpi .ne v105 c0_i32_58
  v106

def k0_off2 (i : grid0.Coords) : Fin 2 → Nat :=
  let arg0 : BitVec 32 := BitVec.ofNat 32 (i 0).val
  let v116 : Index := Scalar.indexCast arg0
  let c0_63 : Index := 0#32
  ![v116.toNat, 0]
def k0_cond4 (i : grid0.Coords) : BitVec 1 :=
  let arg0 : BitVec 32 := BitVec.ofNat 32 (i 0).val
  let c3_i32 : BitVec 32 := 3#32
  let v107 : BitVec 1 := Scalar.cmpi .eq arg0 c3_i32
  let arg1 : BitVec 32 := BitVec.ofNat 32 (i 1).val
  let c5_i32_59 : BitVec 32 := 5#32
  let v108 : BitVec 1 := Scalar.cmpi .eq arg1 c5_i32_59
  let v109 : BitVec 1 := Scalar.andi v107 v108
  let v110 : BitVec 32 := Scalar.extui v109
  let c0_i32_60 : BitVec 32 := 0#32
  let v111 : BitVec 1 := Scalar.cmpi .ne v110 c0_i32_60
  v111

def k0_cond1 (i : grid0.Coords) : BitVec 1 :=
  let arg0 : BitVec 32 := BitVec.ofNat 32 (i 0).val
  let c0_i32 : BitVec 32 := 0#32
  let v8 : BitVec 1 := Scalar.cmpi .eq arg0 c0_i32
  let arg1 : BitVec 32 := BitVec.ofNat 32 (i 1).val
  let c0_i32_3 : BitVec 32 := 0#32
  let v9 : BitVec 1 := Scalar.cmpi .eq arg1 c0_i32_3
  let v10 : BitVec 1 := Scalar.andi v8 v9
  let v11 : BitVec 32 := Scalar.extui v10
  let c0_i32_4 : BitVec 32 := 0#32
  let v12 : BitVec 1 := Scalar.cmpi .ne v11 c0_i32_4
  v12

def k0_cond2 (i : grid0.Coords) : BitVec 1 :=
  let arg1 : BitVec 32 := BitVec.ofNat 32 (i 1).val
  let c0_i32_5 : BitVec 32 := 0#32
  let v13 : BitVec 1 := Scalar.cmpi .eq arg1 c0_i32_5
  let v14 : BitVec 32 := Scalar.extui v13
  let c0_i32_6 : BitVec 32 := 0#32
  let v15 : BitVec 1 := Scalar.cmpi .ne v14 c0_i32_6
  v15

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_21 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_23 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_24 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_25 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .smem S4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .smem S4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x80 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x768 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256x768 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x768x512 .fp8e4m3 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x768 .fp8e4m3 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 1 → Memref sig .tc .vmem S256x768 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S256x768 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x768x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x768 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 1 → Memref sig .tc .vmem S1x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S256x768 .fp8e4m3 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .smem S1 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 2 → Memref sig .tc .vmem S1x80x512 .fp8e4m3 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 1 → Memref sig .tc .smem S1 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false, false]

abbrev stage0_22 : Fin 2 → Memref sig .tc .vmem S1x80x768 .fp8e5m2 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, false]

abbrev stage0_23 : Fin 1 → Memref sig .tc .smem S1 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false, false]

abbrev stage0_24 : Fin 2 → Memref sig .tc .vmem S1x80x512 .fp8e5m2 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]

abbrev stage0_25 : Fin 1 → Memref sig .tc .smem S1 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false, false]
-- ==== ReferenceIdeal.lean ====
abbrev S256x768 : Shape := ⟨2, ![256, 768]⟩
abbrev S4x768x3072 : Shape := ⟨3, ![4, 768, 3072]⟩
abbrev S4 : Shape := ⟨1, ![4]⟩
abbrev S4x3072x768 : Shape := ⟨3, ![4, 3072, 768]⟩
abbrev S_ : Shape := ⟨0, ![]⟩
abbrev S256x1 : Shape := ⟨2, ![256, 1]⟩
abbrev S4x80 : Shape := ⟨2, ![4, 80]⟩
abbrev S4x80x1 : Shape := ⟨3, ![4, 80, 1]⟩
abbrev S1 : Shape := ⟨1, ![1]⟩
abbrev S1x1x1 : Shape := ⟨3, ![1, 1, 1]⟩
abbrev S4x80x768 : Shape := ⟨3, ![4, 80, 768]⟩
abbrev S4x1x1 : Shape := ⟨3, ![4, 1, 1]⟩
abbrev S4x80x3072 : Shape := ⟨3, ![4, 80, 3072]⟩
abbrev S1x256x768 : Shape := ⟨3, ![1, 256, 768]⟩
abbrev S1x4x80x3072 : Shape := ⟨4, ![1, 4, 80, 3072]⟩
abbrev S1x1x1x1 : Shape := ⟨4, ![1, 1, 1, 1]⟩
abbrev S1x4x80x768 : Shape := ⟨4, ![1, 4, 80, 768]⟩

abbrev nBuf : Space → Nat
  | .hbm => 79
  | .vmem => 13
  | .smem => 8
  | _ => 0

abbrev bufTy : (tb : Table) → Fin (tcTables nBuf tb) → BufTy
  | .hbm, ⟨0, _⟩ => ⟨S256x768, .bf16⟩
  | .hbm, ⟨1, _⟩ => ⟨S256x768, .bf16⟩
  | .hbm, ⟨2, _⟩ => ⟨S4x768x3072, .fp8e4m3⟩
  | .hbm, ⟨3, _⟩ => ⟨S4, .f32⟩
  | .hbm, ⟨4, _⟩ => ⟨S4x3072x768, .fp8e4m3⟩
  | .hbm, ⟨5, _⟩ => ⟨S4, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S256x1, .f32⟩
  | .hbm, ⟨11, _⟩ => ⟨S4x80, .i32⟩
  | .hbm, ⟨12, _⟩ => ⟨S256x1, .i32⟩
  | .hbm, ⟨13, _⟩ => ⟨S256x768, .f32⟩
  | .hbm, ⟨14, _⟩ => ⟨S256x768, .f32⟩
  | .hbm, ⟨15, _⟩ => ⟨S_, .i32⟩
  | .hbm, ⟨16, _⟩ => ⟨S4x80, .i32⟩
  | .hbm, ⟨17, _⟩ => ⟨S4x80, .i1⟩
  | .hbm, ⟨18, _⟩ => ⟨S_, .i32⟩
  | .hbm, ⟨19, _⟩ => ⟨S4x80, .i32⟩
  | .hbm, ⟨20, _⟩ => ⟨S4x80, .i32⟩
  | .hbm, ⟨21, _⟩ => ⟨S4x80, .i32⟩
  | .hbm, ⟨22, _⟩ => ⟨S4x80x1, .i32⟩
  | .hbm, ⟨23, _⟩ => ⟨S1, .i32⟩
  | .hbm, ⟨24, _⟩ => ⟨S_, .i32⟩
  | .hbm, ⟨25, _⟩ => ⟨S4x80x1, .i32⟩
  | .hbm, ⟨26, _⟩ => ⟨S4x80x1, .i1⟩
  | .hbm, ⟨27, _⟩ => ⟨S1x1x1, .i32⟩
  | .hbm, ⟨28, _⟩ => ⟨S4x80x1, .i32⟩
  | .hbm, ⟨29, _⟩ => ⟨S4x80x1, .i1⟩
  | .hbm, ⟨30, _⟩ => ⟨S4x80x1, .i1⟩
  | .hbm, ⟨31, _⟩ => ⟨S_, .i1⟩
  | .hbm, ⟨32, _⟩ => ⟨S4x80, .i1⟩
  | .hbm, ⟨33, _⟩ => ⟨S4x80x768, .f32⟩
  | .hbm, ⟨34, _⟩ => ⟨S4x80x768, .i1⟩
  | .hbm, ⟨35, _⟩ => ⟨S_, .f32⟩
  | .hbm, ⟨36, _⟩ => ⟨S4x80x768, .f32⟩
  | .hbm, ⟨37, _⟩ => ⟨S4x80x768, .f32⟩
  | .hbm, ⟨38, _⟩ => ⟨S256x768, .f32⟩
  | .hbm, ⟨39, _⟩ => ⟨S256x768, .f32⟩
  | .hbm, ⟨40, _⟩ => ⟨S_, .i32⟩
  | .hbm, ⟨41, _⟩ => ⟨S4x80, .i32⟩
  | .hbm, ⟨42, _⟩ => ⟨S4x80, .i1⟩
  | .hbm, ⟨43, _⟩ => ⟨S_, .i32⟩
  | .hbm, ⟨44, _⟩ => ⟨S4x80, .i32⟩
  | .hbm, ⟨45, _⟩ => ⟨S4x80, .i32⟩
  | .hbm, ⟨46, _⟩ => ⟨S4x80, .i32⟩
  | .hbm, ⟨47, _⟩ => ⟨S4x80x1, .i32⟩
  | .hbm, ⟨48, _⟩ => ⟨S1, .i32⟩
  | .hbm, ⟨49, _⟩ => ⟨S_, .i32⟩
  | .hbm, ⟨50, _⟩ => ⟨S4x80x1, .i32⟩
  | .hbm, ⟨51, _⟩ => ⟨S4x80x1, .i1⟩
  | .hbm, ⟨52, _⟩ => ⟨S1x1x1, .i32⟩
  | .hbm, ⟨53, _⟩ => ⟨S4x80x1, .i32⟩
  | .hbm, ⟨54, _⟩ => ⟨S4x80x1, .i1⟩
  | .hbm, ⟨55, _⟩ => ⟨S4x80x1, .i1⟩
  | .hbm, ⟨56, _⟩ => ⟨S_, .i1⟩
  | .hbm, ⟨57, _⟩ => ⟨S4x80, .i1⟩
  | .hbm, ⟨58, _⟩ => ⟨S4x80x768, .f32⟩
  | .hbm, ⟨59, _⟩ => ⟨S4x80x768, .i1⟩
  | .hbm, ⟨60, _⟩ => ⟨S_, .f32⟩
  | .hbm, ⟨61, _⟩ => ⟨S4x80x768, .f32⟩
  | .hbm, ⟨62, _⟩ => ⟨S4x80x768, .f32⟩
  | .hbm, ⟨63, _⟩ => ⟨S4x1x1, .f32⟩
  | .hbm, ⟨64, _⟩ => ⟨S4x1x1, .f32⟩
  | .hbm, ⟨65, _⟩ => ⟨S1, .f32⟩
  | .hbm, ⟨66, _⟩ => ⟨S1, .f32⟩
  | .hbm, ⟨67, _⟩ => ⟨S1, .f32⟩
  | .hbm, ⟨68, _⟩ => ⟨S1, .f32⟩
  | .hbm, ⟨69, _⟩ => ⟨S4x768x3072, .bf16⟩
  | .hbm, ⟨70, _⟩ => ⟨S4x3072x768, .bf16⟩
  | .hbm, ⟨71, _⟩ => ⟨S256x768, .fp8e4m3⟩
  | .hbm, ⟨72, _⟩ => ⟨S1, .f32⟩
  | .hbm, ⟨73, _⟩ => ⟨S4x80x3072, .fp8e4m3⟩
  | .hbm, ⟨74, _⟩ => ⟨S1, .f32⟩
  | .hbm, ⟨75, _⟩ => ⟨S4x80x768, .fp8e5m2⟩
  | .hbm, ⟨76, _⟩ => ⟨S1, .f32⟩
  | .hbm, ⟨77, _⟩ => ⟨S4x80x3072, .fp8e5m2⟩
  | .hbm, ⟨78, _⟩ => ⟨S1, .f32⟩
  | .local _ .vmem, ⟨0, _⟩ => ⟨S256x768, .f32⟩
  | .local _ .vmem, ⟨1, _⟩ => ⟨S4x80x768, .f32⟩
  | .local _ .vmem, ⟨2, _⟩ => ⟨S4x80x768, .f32⟩
  | .local _ .vmem, ⟨3, _⟩ => ⟨S4x768x3072, .fp8e4m3⟩
  | .local _ .vmem, ⟨4, _⟩ => ⟨S4x1x1, .f32⟩
  | .local _ .vmem, ⟨5, _⟩ => ⟨S4x3072x768, .fp8e4m3⟩
  | .local _ .vmem, ⟨6, _⟩ => ⟨S4x1x1, .f32⟩
  | .local _ .vmem, ⟨7, _⟩ => ⟨S4x768x3072, .bf16⟩
  | .local _ .vmem, ⟨8, _⟩ => ⟨S4x3072x768, .bf16⟩
  | .local _ .vmem, ⟨9, _⟩ => ⟨S256x768, .fp8e4m3⟩
  | .local _ .vmem, ⟨10, _⟩ => ⟨S4x80x3072, .fp8e4m3⟩
  | .local _ .vmem, ⟨11, _⟩ => ⟨S4x80x768, .fp8e5m2⟩
  | .local _ .vmem, ⟨12, _⟩ => ⟨S4x80x3072, .fp8e5m2⟩
  | .local _ .smem, ⟨0, _⟩ => ⟨S1, .f32⟩
  | .local _ .smem, ⟨1, _⟩ => ⟨S1, .f32⟩
  | .local _ .smem, ⟨2, _⟩ => ⟨S1, .f32⟩
  | .local _ .smem, ⟨3, _⟩ => ⟨S1, .f32⟩
  | .local _ .smem, ⟨4, _⟩ => ⟨S1, .f32⟩
  | .local _ .smem, ⟨5, _⟩ => ⟨S1, .f32⟩
  | .local _ .smem, ⟨6, _⟩ => ⟨S1, .f32⟩
  | .local _ .smem, ⟨7, _⟩ => ⟨S1, .f32⟩
  | _, _ => ⟨S256x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | .smem, ⟨6, _⟩ => true
  | .smem, ⟨7, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_c_1 : Ref sig .tc := ⟨.hbm, 23, rfl⟩
abbrev main_call0_c_2 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_3 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_call0_cst : Ref sig .tc := ⟨.hbm, 35, rfl⟩
abbrev main_call0_v15 : Ref sig .tc := ⟨.hbm, 36, rfl⟩
abbrev main_v2 : Ref sig .tc := ⟨.hbm, 37, rfl⟩
abbrev main_v3 : Ref sig .tc := ⟨.hbm, 38, rfl⟩
abbrev main_v4 : Ref sig .tc := ⟨.hbm, 39, rfl⟩
abbrev main_call1_c : Ref sig .tc := ⟨.hbm, 40, rfl⟩
abbrev main_call1_v0 : Ref sig .tc := ⟨.hbm, 41, rfl⟩
abbrev main_call1_v1 : Ref sig .tc := ⟨.hbm, 42, rfl⟩
abbrev main_call1_c_0 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_v5 : Ref sig .tc := ⟨.hbm, 47, rfl⟩
abbrev main_call1_c_1 : Ref sig .tc := ⟨.hbm, 48, rfl⟩
abbrev main_call1_c_2 : Ref sig .tc := ⟨.hbm, 49, rfl⟩
abbrev main_call1_v6 : Ref sig .tc := ⟨.hbm, 50, rfl⟩
abbrev main_call1_v7 : Ref sig .tc := ⟨.hbm, 51, rfl⟩
abbrev main_call1_v8 : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_c_3 : Ref sig .tc := ⟨.hbm, 56, rfl⟩
abbrev main_call1_v12 : Ref sig .tc := ⟨.hbm, 57, rfl⟩
abbrev main_call1_v13 : Ref sig .tc := ⟨.hbm, 58, rfl⟩
abbrev main_call1_v14 : Ref sig .tc := ⟨.hbm, 59, rfl⟩
abbrev main_call1_cst : Ref sig .tc := ⟨.hbm, 60, rfl⟩
abbrev main_call1_v15 : Ref sig .tc := ⟨.hbm, 61, rfl⟩
abbrev main_v5 : Ref sig .tc := ⟨.hbm, 62, rfl⟩
abbrev main_v6 : Ref sig .tc := ⟨.hbm, 63, rfl⟩
abbrev main_v7 : Ref sig .tc := ⟨.hbm, 64, rfl⟩
abbrev main_v8 : Ref sig .tc := ⟨.hbm, 65, rfl⟩
abbrev main_v9 : Ref sig .tc := ⟨.hbm, 66, rfl⟩
abbrev main_v10 : Ref sig .tc := ⟨.hbm, 67, rfl⟩
abbrev main_v11 : Ref sig .tc := ⟨.hbm, 68, rfl⟩
abbrev main_v12_0 : Ref sig .tc := ⟨.hbm, 69, rfl⟩
abbrev main_v12_1 : Ref sig .tc := ⟨.hbm, 70, rfl⟩
abbrev main_v12_2 : Ref sig .tc := ⟨.hbm, 71, rfl⟩
abbrev main_v12_3 : Ref sig .tc := ⟨.hbm, 72, rfl⟩
abbrev main_v12_4 : Ref sig .tc := ⟨.hbm, 73, rfl⟩
abbrev main_v12_5 : Ref sig .tc := ⟨.hbm, 74, rfl⟩
abbrev main_v12_6 : Ref sig .tc := ⟨.hbm, 75, rfl⟩
abbrev main_v12_7 : Ref sig .tc := ⟨.hbm, 76, rfl⟩
abbrev main_v12_8 : Ref sig .tc := ⟨.hbm, 77, rfl⟩
abbrev main_v12_9 : Ref sig .tc := ⟨.hbm, 78, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg11_0 : Ref sig .tc := ⟨.vmem, 7, rfl⟩
abbrev cc0_stg12_0 : Ref sig .tc := ⟨.vmem, 8, rfl⟩
abbrev cc0_stg13_0 : Ref sig .tc := ⟨.vmem, 9, rfl⟩
abbrev cc0_stg15_0 : Ref sig .tc := ⟨.vmem, 10, rfl⟩
abbrev cc0_stg17_0 : Ref sig .tc := ⟨.vmem, 11, rfl⟩
abbrev cc0_stg19_0 : Ref sig .tc := ⟨.vmem, 12, rfl⟩
abbrev cc0_stg7_0 : Ref sig .tc := ⟨.smem, 0, rfl⟩
abbrev cc0_stg8_0 : Ref sig .tc := ⟨.smem, 1, rfl⟩
abbrev cc0_stg9_0 : Ref sig .tc := ⟨.smem, 2, rfl⟩
abbrev cc0_stg10_0 : Ref sig .tc := ⟨.smem, 3, rfl⟩
abbrev cc0_stg14_0 : Ref sig .tc := ⟨.smem, 4, rfl⟩
abbrev cc0_stg16_0 : Ref sig .tc := ⟨.smem, 5, rfl⟩
abbrev cc0_stg18_0 : Ref sig .tc := ⟨.smem, 6, rfl⟩
abbrev cc0_stg20_0 : Ref sig .tc := ⟨.smem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := .none

abbrev stage0_0 : Fin 1 → Memref sig .tc .vmem S256x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x80x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x80x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x768x3072 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x3072x768 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .smem S1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .smem S1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .smem S1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .smem S1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S4x768x3072 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S4x3072x768 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S256x768 .fp8e4m3 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .smem S1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S4x80x3072 .fp8e4m3 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .smem S1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S4x80x768 .fp8e5m2 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .smem S1 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S4x80x3072 .fp8e5m2 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .smem S1 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
-- ==== Proof.Body.lean ====
module

public import proofs.«01_k».proof.Proof.Gen.KernelIdeal.Skeleton
public import proofs.«01_k».proof.Proof.Gen.KernelIdeal.Points
public import proofs.«01_k».proof.Proof.Gen.KernelIdeal.Frame
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the kernel's input windows hold at one grid point: the four activation scales, the two tables of weight scales, the slot
    table, the token table, the gates, the activations, the cotangent and the point's two weight tiles. -/
structure In (F : FTy → Type) [FloatOps F] where
  sx : Vec F S1 .f32
  sh : Vec F S1 .f32
  sdo : Vec F S1 .f32
  sda : Vec F S1 .f32
  w1s : Vec F S4 .f32
  w2s : Vec F S4 .f32
  slot : Vec F S4x80 .i32
  tok : Vec F S1x256 .i32
  gate : Vec F S1x256 .f32
  x : Vec F S256x768 .bf16
  dy : Vec F S256x768 .bf16
  w1 : Vec F S1x768x512 .fp8e4m3
  w2 : Vec F S1x512x768 .fp8e4m3

/-- What the kernel's output windows and scratch buffers hold between two grid points (all but the slot row, which every use writes first). -/
structure St (F : FTy → Type) [FloatOps F] where
  y : Vec F S256x768 .bf16
  dx : Vec F S256x768 .bf16
  dw1 : Vec F S1x768x512 .bf16
  dw2 : Vec F S1x512x768 .bf16
  dgate : Vec F S1x256 .f32
  xc : Vec F S256x768 .fp8e4m3
  ax : Vec F S1 .f32
  h : Vec F S1x80x512 .fp8e4m3
  ah : Vec F S1 .f32
  doc : Vec F S1x80x768 .fp8e5m2
  ado : Vec F S1 .f32
  da : Vec F S1x80x512 .fp8e5m2
  ada : Vec F S1 .f32
  xs : Vec F S96x768 .fp8e4m3
  dO : Vec F S96x768 .fp8e5m2
  xst : Vec F S768x96 .fp8e4m3
  o : Vec F S96x768 .f32
  dxs : Vec F S96x768 .f32
  dyg : Vec F S96x768 .f32
  gs : Vec F S96x128 .f32
  yacc : Vec F S256x768 .f32
  dxacc : Vec F S256x768 .f32

/-- The one element of a one-element table. -/
def sc (x : Vec F S1 .f32) : Elt F .f32 := x (Shape.Idx.first (s := S1) (by decide))

/-- The element of a table of four weight scales that the point's expert reads. -/
def sc4 (i : grid0.Coords) (x : Vec F S4 .f32) : Elt F .f32 :=
  x ((Rect.unit (s := S4) (k0_off1 i) S1.size (k0_off1_inb i)).toLoadRect.idx (Shape.Idx.first (s := S1) (by decide)))

/-- The grid point's expert number as the kernel's word. -/
def wE (i : grid0.Coords) : BitVec 32 := BitVec.ofNat 32 (i 0).val

/-- The first point: the activations quantised, the running maxima and the accumulators at zero. -/
def firstSt (I : In F) (s : St F) : St F :=
  { s with xc := k0_pay6 (sc I.sx) I.x, ax := fun _ => k0_pay7 I.x, ah := fun _ => Scalar.ofBits .f32 0x00000000#32,
           ado := fun _ => Scalar.ofBits .f32 0x00000000#32, ada := fun _ => Scalar.ofBits .f32 0x00000000#32,
           yacc := k0_pay8, dxacc := k0_pay9, dgate := k0_pay10 }

/-- An expert's first point: its rows selected by the one-hot product, its output cotangent quantised, its two accumulators at zero. -/
def expertSt (i : grid0.Coords) (I : In F) (s : St F) : St F :=
  { s with xs := k0_pay14 (wE i) (sc I.sx) I.tok I.x, xst := k0_pay15 (wE i) (sc I.sx) I.tok I.x, dyg := k0_pay17 (wE i) I.tok I.dy,
           gs := k0_pay19 (k0_pay11 (wE i) I.tok) I.gate,
           dO := k0_pay21 (sc I.sdo) (k0_pay11 (wE i) I.tok) (k0_pay16 (wE i) I.tok I.dy) I.gate,
           doc := k0_pay22 (fun y => k0_pay21 (sc I.sdo) (k0_pay11 (wE i) I.tok) (k0_pay16 (wE i) I.tok I.dy) I.gate
             ((Rect.unit (s := S96x768) ![0, 0] S80x768.size inb_S96x768_S80x768_0_0).toLoadRect.idx y)),
           ado := fun _ => k0_pay23 (k0_pay11 (wE i) I.tok) (k0_pay16 (wE i) I.tok I.dy) I.gate (sc s.ado),
           o := k0_pay31 k0_pay24, dxs := k0_pay32 }

/-- The pre-activation of the point's tile. -/
def tA (i : grid0.Coords) (I : In F) (s : St F) : FVec F S96x512 .f32 := k0_pay35 (sc I.sx) (sc4 i I.w1s) I.w1 s.xs
/-- The activation of the point's tile, -/
def tR (i : grid0.Coords) (I : In F) (s : St F) : FVec F S96x512 .f32 := k0_pay36 (sc I.sx) (sc4 i I.w1s) I.w1 s.xs
/-- and its codes. -/
def tH (i : grid0.Coords) (I : In F) (s : St F) : FVec F S96x512 .fp8e4m3 := k0_pay37 (sc I.sx) (sc I.sh) (sc4 i I.w1s) I.w1 s.xs
/-- The codes of the tile's cotangent of the pre-activation. -/
def tD (i : grid0.Coords) (I : In F) (s : St F) : FVec F S96x512 .fp8e5m2 :=
  k0_pay42 (sc I.sdo) (sc I.sda) (sc4 i I.w2s) (k0_pay34 I.w2) (tA i I s) s.dO

/-- Every point: the tile's activation codes, cotangent codes and weight gradients, the two accumulators and the two running maxima. -/
def tileSt (i : grid0.Coords) (I : In F) (s : St F) : St F :=
  { s with ah := fun _ => k0_pay38 (tR i I s) (sc s.ah), h := k0_pay39 (tH i I s), o := k0_pay40 (k0_pay34 I.w2) (tH i I s) s.o,
           ada := fun _ => k0_pay44 (sc s.ada) (k0_pay43 (sc I.sdo) (sc4 i I.w2s) (k0_pay34 I.w2) (tA i I s) s.dO),
           da := k0_pay45 (tD i I s), dxs := k0_pay46 (k0_pay33 I.w1) (tD i I s) s.dxs,
           dw1 := k0_pay47 (sc I.sx) (sc I.sda) (tD i I s) s.xst,
           dw2 := k0_pay48 (sc I.sh) (sc I.sdo) (tH i I s) s.dO }

/-- The expert's row of the slot table, padded. -/
def slotRow (i : grid0.Coords) (h3 : k0_cond3 i = 1#1) (I : In F) : Vec F S1x128 .i32 :=
  VecWindow.put (k0_pay25 : IVec S1x128 32) ![0, 0] S1x80.size (k0_pay26 (F := F) fun y => I.slot
    ((Rect.unit (s := S4x80) (k0_off2 i) S1x80.size (k0_off2_inb i h3)).toLoadRect.idx y))

/-- An expert's last point: its output and its input cotangent added into the accumulators, its gates' cotangent. -/
def combineSt (i : grid0.Coords) (h3 : k0_cond3 i = 1#1) (I : In F) (s : St F) : St F :=
  { s with yacc := k0_pay29 (sc I.sh) (sc4 i I.w2s) (slotRow i h3 I) s.o
             (fun y => s.gs ((Rect.unit (s := S96x128) ![0, 0] S96x1.size inb_S96x128_S96x1_0_0).toLoadRect.idx y)) s.yacc,
           dgate := k0_pay1 (wE i) (k0_pay30 (sc I.sh) (sc4 i I.w2s) s.o s.dyg) s.dgate I.tok,
           dxacc := k0_pay2 (sc I.sda) (sc4 i I.w1s) (k0_pay27 (slotRow i h3 I)) s.dxs s.dxacc }

/-- The last point: the two accumulators rounded into the results. -/
def finishSt (s : St F) : St F := { s with y := k0_pay3 s.yacc, dx := k0_pay4 s.dxacc }

/-- Up to the tile: what an expert's first point, or the first point, prepares. -/
def prep (i : grid0.Coords) (I : In F) (s : St F) : St F :=
  if k0_cond2 i = 1#1 then expertSt i I (if k0_cond1 i = 1#1 then firstSt I s else s) else if k0_cond1 i = 1#1 then firstSt I s else s

/-- After the tile: what an expert's last point, or the last point, adds. -/
def fin (i : grid0.Coords) (I : In F) (s : St F) : St F :=
  if k0_cond4 i = 1#1 then finishSt (if h3 : k0_cond3 i = 1#1 then combineSt i h3 I s else s) else if h3 : k0_cond3 i = 1#1 then combineSt i h3 I s else s

/-- One grid point of the kernel as a function on what its buffers hold. -/
def step (i : grid0.Coords) (I : In F) (s : St F) : St F := fin i I (tileSt i I (prep i I s))

/-- A buffer whose last store covered it is owned at that store's payload. -/
theorem owns_store {c : Thread nD τ} {cs : Space} {s : Shape} {e : EltTy} {M : Memref sig c.2.kind cs s e} {g : Buf (Elt F) (M.view.loc c)} {q : PosShare TreeShare}
    {off : Fin s.rank → ℕ} {inb : ∀ a, off a + s.size a ≤ s.size a} {w : (Rect.unit off s.size inb).shape.Idx → Elt F e} {L : List (View.Piece (Elt F) s e)}
    {w' : s.Idx → Elt F e} (h : w = w') :
    (M.view.loc c ↦[M.view.set]{q} M.view.writes (Elt F) g (⟨Rect.unit off s.size inb, w⟩ :: L) : sProp 𝕄) ⊢ owns c M q w' := by
  iintro H; unfold owns; iexists _; isplitr; swap; · iexact H
  ipureintro; subst h; exact View.read_writes_full _ _ _ _ _

/-- A buffer nothing was stored in is owned at what it held. -/
theorem owns_keep {c : Thread nD τ} {cs : Space} {s : Shape} {e : EltTy} {M : Memref sig c.2.kind cs s e} {g : Buf (Elt F) (M.view.loc c)} {q : PosShare TreeShare}
    {w' : s.Idx → Elt F e} (h : M.view.read (Elt F) g = w') :
    (M.view.loc c ↦[M.view.set]{q} g : sProp 𝕄) ⊢ owns c M q w' := by
  iintro H; unfold owns; iexists _; isplitr; swap; · iexact H
  ipureintro; exact h

/-- A load is the contents at the rectangle's indices. -/
theorem rd_at {κ : Kind} {sp : Space} {s : Shape} {e : EltTy} (v : View sig κ sp s e) (r : LoadRect s) (f : v.ty.Contents (Elt F)) {X : s.Idx → Elt F e}
    (h : v.read (Elt F) f = X) : v.readAt (Elt F) r f = fun y => X (r.idx y) := by
  subst h; rfl

variable (c : Dev nD) (i : grid0.Coords)
  (arg2 : Memref sig .tc .smem S1 .f32) (harg2 : arg2.IsWhole)
  (arg3 : Memref sig .tc .smem S1 .f32) (harg3 : arg3.IsWhole)
  (arg4 : Memref sig .tc .smem S1 .f32) (harg4 : arg4.IsWhole)
  (arg5 : Memref sig .tc .smem S1 .f32) (harg5 : arg5.IsWhole)
  (arg6 : Memref sig .tc .smem S4 .f32) (harg6 : arg6.IsWhole)
  (arg7 : Memref sig .tc .smem S4 .f32) (harg7 : arg7.IsWhole)
  (arg8 : Memref sig .tc .vmem S4x80 .i32) (harg8 : arg8.IsWhole)
  (arg9 : Memref sig .tc .vmem S1x256 .i32) (harg9 : arg9.IsWhole)
  (arg10 : Memref sig .tc .vmem S1x256 .f32) (harg10 : arg10.IsWhole)
  (arg11 : Memref sig .tc .vmem S256x768 .bf16) (harg11 : arg11.IsWhole)
  (arg12 : Memref sig .tc .vmem S256x768 .bf16) (harg12 : arg12.IsWhole)
  (arg13 : Memref sig .tc .vmem S1x768x512 .fp8e4m3) (harg13 : arg13.IsWhole)
  (arg14 : Memref sig .tc .vmem S1x512x768 .fp8e4m3) (harg14 : arg14.IsWhole)
  (arg15 : Memref sig .tc .vmem S256x768 .bf16) (harg15 : arg15.IsWhole)
  (arg16 : Memref sig .tc .vmem S256x768 .bf16) (harg16 : arg16.IsWhole)
  (arg17 : Memref sig .tc .vmem S1x768x512 .bf16) (harg17 : arg17.IsWhole)
  (arg18 : Memref sig .tc .vmem S1x512x768 .bf16) (harg18 : arg18.IsWhole)
  (arg19 : Memref sig .tc .vmem S1x256 .f32) (harg19 : arg19.IsWhole)
  (arg20 : Memref sig .tc .vmem S256x768 .fp8e4m3) (harg20 : arg20.IsWhole)
  (arg21 : Memref sig .tc .smem S1 .f32) (harg21 : arg21.IsWhole)
  (arg22 : Memref sig .tc .vmem S1x80x512 .fp8e4m3) (harg22 : arg22.IsWhole)
  (arg23 : Memref sig .tc .smem S1 .f32) (harg23 : arg23.IsWhole)
  (arg24 : Memref sig .tc .vmem S1x80x768 .fp8e5m2) (harg24 : arg24.IsWhole)
  (arg25 : Memref sig .tc .smem S1 .f32) (harg25 : arg25.IsWhole)
  (arg26 : Memref sig .tc .vmem S1x80x512 .fp8e5m2) (harg26 : arg26.IsWhole)
  (arg27 : Memref sig .tc .smem S1 .f32) (harg27 : arg27.IsWhole)
  (arg28 : Memref sig .tc .vmem S96x768 .fp8e4m3) (harg28 : arg28.IsWhole)
  (arg29 : Memref sig .tc .vmem S96x768 .fp8e5m2) (harg29 : arg29.IsWhole)
  (arg30 : Memref sig .tc .vmem S768x96 .fp8e4m3) (harg30 : arg30.IsWhole)
  (arg31 : Memref sig .tc .vmem S96x768 .f32) (harg31 : arg31.IsWhole)
  (arg32 : Memref sig .tc .vmem S96x768 .f32) (harg32 : arg32.IsWhole)
  (arg33 : Memref sig .tc .vmem S96x768 .f32) (harg33 : arg33.IsWhole)
  (arg34 : Memref sig .tc .vmem S96x128 .f32) (harg34 : arg34.IsWhole)
  (arg35 : Memref sig .tc .vmem S1x128 .i32) (harg35 : arg35.IsWhole)
  (arg36 : Memref sig .tc .vmem S256x768 .f32) (harg36 : arg36.IsWhole)
  (arg37 : Memref sig .tc .vmem S256x768 .f32) (harg37 : arg37.IsWhole)

/-- Owning a memref, spelt as its buffer at some contents that read so. -/
theorem owns_split (c : Dev nD) {sp : Space} {sh : Shape} {e : EltTy} (m : Memref sig .tc sp sh e) (X : sh.Idx → Elt F e) (q : PosShare TreeShare) :
    owns (c : Thread nD τ) m q X ⊣⊢ (iprop(∃ f, ⌜m.view.read (Elt F) f = X⌝ ∗ (m.view.loc (c : Thread nD τ) ↦[m.view.set]{q} f)) : sProp 𝕄) := by
  unfold owns; exact .rfl

/-- A load after a store of the whole buffer reads the payload at the rectangle's indices. -/
theorem cov_at {κ : Kind} {sp : Space} {s : Shape} {e : EltTy} (v : View sig κ sp s e) {off' : Fin s.rank → ℕ} (inb' : ∀ a, off' a + s.size a ≤ s.size a)
    (w : (Rect.unit off' s.size inb').shape.Idx → Elt F e) (L : List (View.Piece (Elt F) s e)) (r : LoadRect s) :
    v.readCov (⟨Rect.unit off' s.size inb', w⟩ :: L) r = fun y => w (r.idx y) :=
  rd_at v r _ (View.read_writes_full v _ inb' w L)

/-- The slot scratch, filled with padding and then with an expert's row, reads as the padded row. -/
theorem cov_slot {κ : Kind} {sp : Space} (v : View sig κ sp S1x128 .i32) (h : ∀ a, (![0, 0] : Fin 2 → ℕ) a + (![1, 80] : Fin 2 → ℕ) a ≤ S1x128.size a)
    (h' h'' : ∀ a, (![0, 0] : Fin 2 → ℕ) a + (![1, 128] : Fin 2 → ℕ) a ≤ S1x128.size a) (w : Vec F S1x80 .i32) (w' : Vec F S1x128 .i32) :
    v.readCov [⟨Rect.unit (s := S1x128) ![0, 0] ![1, 80] h, w⟩, ⟨Rect.unit (s := S1x128) ![0, 0] ![1, 128] h', w'⟩] (Rect.unit (s := S1x128) ![0, 0] ![1, 128] h'').toLoadRect
      = VecWindow.put w' ![0, 0] S1x80.size w :=
  (View.readAt_full v _ h'').trans ((View.read_writes_cons_put v _ h w _ rfl).trans (by rw [View.read_writes_full v _ h' w' []]; first | done | rfl))

set_option maxHeartbeats 2000000 in
/-- The body up to the tile's matrix products: the buffers go from `s` to what the first points prepare, and the values the rest of the body reads are returned. -/
theorem part5_spec (E : Set ℕ) (Q : (Σ' (arg0 : BitVec 32) (arg1 : BitVec 32) (v0 : Elt F .f32) (v1 : Elt F .f32) (v2 : Elt F .f32) (v3 : Elt F .f32) (v5 : Elt F .f32) (v7 : Elt F .f32) (v17 : FVec F S768x512 .fp8e4m3) (v19 : FVec F S512x768 .fp8e4m3) (v24 : FVec F S96x512 .f32) (v26 : FVec F S96x512 .f32), FVec F S96x512 .fp8e4m3) → sProp 𝕄) (I : In F) (s : St F) :
    iprop(owns (c : Thread nD τ) arg2 fullShare I.sx
      ∗ owns (c : Thread nD τ) arg3 fullShare I.sh
      ∗ owns (c : Thread nD τ) arg4 fullShare I.sdo
      ∗ owns (c : Thread nD τ) arg5 fullShare I.sda
      ∗ owns (c : Thread nD τ) arg6 fullShare I.w1s
      ∗ owns (c : Thread nD τ) arg7 fullShare I.w2s
      ∗ owns (c : Thread nD τ) arg9 fullShare I.tok
      ∗ owns (c : Thread nD τ) arg10 fullShare I.gate
      ∗ owns (c : Thread nD τ) arg11 fullShare I.x
      ∗ owns (c : Thread nD τ) arg12 fullShare I.dy
      ∗ owns (c : Thread nD τ) arg13 fullShare I.w1
      ∗ owns (c : Thread nD τ) arg14 fullShare I.w2
      ∗ owns (c : Thread nD τ) arg19 fullShare s.dgate
      ∗ owns (c : Thread nD τ) arg20 fullShare s.xc
      ∗ owns (c : Thread nD τ) arg21 fullShare s.ax
      ∗ owns (c : Thread nD τ) arg23 fullShare s.ah
      ∗ owns (c : Thread nD τ) arg24 fullShare s.doc
      ∗ owns (c : Thread nD τ) arg25 fullShare s.ado
      ∗ owns (c : Thread nD τ) arg27 fullShare s.ada
      ∗ owns (c : Thread nD τ) arg28 fullShare s.xs
      ∗ owns (c : Thread nD τ) arg29 fullShare s.dO
      ∗ owns (c : Thread nD τ) arg30 fullShare s.xst
      ∗ owns (c : Thread nD τ) arg31 fullShare s.o
      ∗ owns (c : Thread nD τ) arg32 fullShare s.dxs
      ∗ owns (c : Thread nD τ) arg33 fullShare s.dyg
      ∗ owns (c : Thread nD τ) arg34 fullShare s.gs
      ∗ owns (c : Thread nD τ) arg36 fullShare s.yacc
      ∗ owns (c : Thread nD τ) arg37 fullShare s.dxacc
      ∗ (∀ r, (⌜r = ⟨wE i, BitVec.ofNat 32 (i 1).val, sc I.sx, sc I.sh, sc I.sdo, sc I.sda, sc4 i I.w1s, sc4 i I.w2s, k0_pay33 I.w1, k0_pay34 I.w2, tA i I (prep i I s), tR i I (prep i I s), tH i I (prep i I s)⟩⌝ ∗ owns (c : Thread nD τ) arg2 fullShare I.sx
      ∗ owns (c : Thread nD τ) arg3 fullShare I.sh
      ∗ owns (c : Thread nD τ) arg4 fullShare I.sdo
      ∗ owns (c : Thread nD τ) arg5 fullShare I.sda
      ∗ owns (c : Thread nD τ) arg6 fullShare I.w1s
      ∗ owns (c : Thread nD τ) arg7 fullShare I.w2s
      ∗ owns (c : Thread nD τ) arg9 fullShare I.tok
      ∗ owns (c : Thread nD τ) arg10 fullShare I.gate
      ∗ owns (c : Thread nD τ) arg11 fullShare I.x
      ∗ owns (c : Thread nD τ) arg12 fullShare I.dy
      ∗ owns (c : Thread nD τ) arg13 fullShare I.w1
      ∗ owns (c : Thread nD τ) arg14 fullShare I.w2
      ∗ owns (c : Thread nD τ) arg19 fullShare (prep i I s).dgate
      ∗ owns (c : Thread nD τ) arg20 fullShare (prep i I s).xc
      ∗ owns (c : Thread nD τ) arg21 fullShare (prep i I s).ax
      ∗ owns (c : Thread nD τ) arg23 fullShare (prep i I s).ah
      ∗ owns (c : Thread nD τ) arg24 fullShare (prep i I s).doc
      ∗ owns (c : Thread nD τ) arg25 fullShare (prep i I s).ado
      ∗ owns (c : Thread nD τ) arg27 fullShare (prep i I s).ada
      ∗ owns (c : Thread nD τ) arg28 fullShare (prep i I s).xs
      ∗ owns (c : Thread nD τ) arg29 fullShare (prep i I s).dO
      ∗ owns (c : Thread nD τ) arg30 fullShare (prep i I s).xst
      ∗ owns (c : Thread nD τ) arg31 fullShare (prep i I s).o
      ∗ owns (c : Thread nD τ) arg32 fullShare (prep i I s).dxs
      ∗ owns (c : Thread nD τ) arg33 fullShare (prep i I s).dyg
      ∗ owns (c : Thread nD τ) arg34 fullShare (prep i I s).gs
      ∗ owns (c : Thread nD τ) arg36 fullShare (prep i I s).yacc
      ∗ owns (c : Thread nD τ) arg37 fullShare (prep i I s).dxacc)
        -∗ Q r))
    ⊢ wp frame (wpE (defs₀ (F := F)) Variants.none c none) E (k0_part5 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37) Q := by
  simp only [k0_part5_eq_skeleton]; unfold k0_part5_skel
  simp only [k0_part1_eq_skeleton, k0_part2_eq_skeleton, k0_part3_eq_skeleton]
  generalize hp : prep i I s = p
  unfold prep at hp
  iintro ⟨H2, H3, H4, H5, H6, H7, H9, H10, H11, H12, H13, H14, H19, H20, H21, H23, H24, H25, H27, H28, H29, H30, H31, H32, H33, H34, H36, H37, HQ⟩
  icases (owns_split c arg2 _ _).1 $$ H2 with ⟨%f2, %h2, H2⟩
  icases (owns_split c arg3 _ _).1 $$ H3 with ⟨%f3, %h3, H3⟩
  icases (owns_split c arg4 _ _).1 $$ H4 with ⟨%f4, %h4, H4⟩
  icases (owns_split c arg5 _ _).1 $$ H5 with ⟨%f5, %h5, H5⟩
  icases (owns_split c arg6 _ _).1 $$ H6 with ⟨%f6, %h6, H6⟩
  icases (owns_split c arg7 _ _).1 $$ H7 with ⟨%f7, %h7, H7⟩
  icases (owns_split c arg9 _ _).1 $$ H9 with ⟨%f9, %h9, H9⟩
  icases (owns_split c arg10 _ _).1 $$ H10 with ⟨%f10, %h10, H10⟩
  icases (owns_split c arg11 _ _).1 $$ H11 with ⟨%f11, %h11, H11⟩
  icases (owns_split c arg12 _ _).1 $$ H12 with ⟨%f12, %h12, H12⟩
  icases (owns_split c arg13 _ _).1 $$ H13 with ⟨%f13, %h13, H13⟩
  icases (owns_split c arg14 _ _).1 $$ H14 with ⟨%f14, %h14, H14⟩
  icases (owns_split c arg19 _ _).1 $$ H19 with ⟨%f19, %h19, H19⟩
  icases (owns_split c arg20 _ _).1 $$ H20 with ⟨%f20, %h20, H20⟩
  icases (owns_split c arg21 _ _).1 $$ H21 with ⟨%f21, %h21, H21⟩
  icases (owns_split c arg23 _ _).1 $$ H23 with ⟨%f23, %h23, H23⟩
  icases (owns_split c arg24 _ _).1 $$ H24 with ⟨%f24, %h24, H24⟩
  icases (owns_split c arg25 _ _).1 $$ H25 with ⟨%f25, %h25, H25⟩
  icases (owns_split c arg27 _ _).1 $$ H27 with ⟨%f27, %h27, H27⟩
  icases (owns_split c arg28 _ _).1 $$ H28 with ⟨%f28, %h28, H28⟩
  icases (owns_split c arg29 _ _).1 $$ H29 with ⟨%f29, %h29, H29⟩
  icases (owns_split c arg30 _ _).1 $$ H30 with ⟨%f30, %h30, H30⟩
  icases (owns_split c arg31 _ _).1 $$ H31 with ⟨%f31, %h31, H31⟩
  icases (owns_split c arg32 _ _).1 $$ H32 with ⟨%f32, %h32, H32⟩
  icases (owns_split c arg33 _ _).1 $$ H33 with ⟨%f33, %h33, H33⟩
  icases (owns_split c arg34 _ _).1 $$ H34 with ⟨%f34, %h34, H34⟩
  icases (owns_split c arg36 _ _).1 $$ H36 with ⟨%f36, %h36, H36⟩
  icases (owns_split c arg37 _ _).1 $$ H37 with ⟨%f37, %h37, H37⟩
  have r2 : ∀ h, View.readAt (Elt F) arg2.view (Rect.unit ![0] ![1] h).toLoadRect f2 = _ := fun h => (View.readAt_full arg2.view f2 h).trans h2
  have r3 : ∀ h, View.readAt (Elt F) arg3.view (Rect.unit ![0] ![1] h).toLoadRect f3 = _ := fun h => (View.readAt_full arg3.view f3 h).trans h3
  have r4 : ∀ h, View.readAt (Elt F) arg4.view (Rect.unit ![0] ![1] h).toLoadRect f4 = _ := fun h => (View.readAt_full arg4.view f4 h).trans h4
  have r5 : ∀ h, View.readAt (Elt F) arg5.view (Rect.unit ![0] ![1] h).toLoadRect f5 = _ := fun h => (View.readAt_full arg5.view f5 h).trans h5
  have r6 := fun r => rd_at arg6.view r f6 h6
  have r7 := fun r => rd_at arg7.view r f7 h7
  have r9 : ∀ h, View.readAt (Elt F) arg9.view (Rect.unit ![0, 0] ![1, 256] h).toLoadRect f9 = _ := fun h => (View.readAt_full arg9.view f9 h).trans h9
  have r10 : ∀ h, View.readAt (Elt F) arg10.view (Rect.unit ![0, 0] ![1, 256] h).toLoadRect f10 = _ := fun h => (View.readAt_full arg10.view f10 h).trans h10
  have r11 : ∀ h, View.readAt (Elt F) arg11.view (Rect.unit ![0, 0] ![256, 768] h).toLoadRect f11 = _ := fun h => (View.readAt_full arg11.view f11 h).trans h11
  have r12 : ∀ h, View.readAt (Elt F) arg12.view (Rect.unit ![0, 0] ![256, 768] h).toLoadRect f12 = _ := fun h => (View.readAt_full arg12.view f12 h).trans h12
  have r13 : ∀ h, View.readAt (Elt F) arg13.view (Rect.unit ![0, 0, 0] ![1, 768, 512] h).toLoadRect f13 = _ := fun h => (View.readAt_full arg13.view f13 h).trans h13
  have r14 : ∀ h, View.readAt (Elt F) arg14.view (Rect.unit ![0, 0, 0] ![1, 512, 768] h).toLoadRect f14 = _ := fun h => (View.readAt_full arg14.view f14 h).trans h14
  have r19 : ∀ h, View.readAt (Elt F) arg19.view (Rect.unit ![0, 0] ![1, 256] h).toLoadRect f19 = _ := fun h => (View.readAt_full arg19.view f19 h).trans h19
  have r20 : ∀ h, View.readAt (Elt F) arg20.view (Rect.unit ![0, 0] ![256, 768] h).toLoadRect f20 = _ := fun h => (View.readAt_full arg20.view f20 h).trans h20
  have r21 : ∀ h, View.readAt (Elt F) arg21.view (Rect.unit ![0] ![1] h).toLoadRect f21 = _ := fun h => (View.readAt_full arg21.view f21 h).trans h21
  have r23 : ∀ h, View.readAt (Elt F) arg23.view (Rect.unit ![0] ![1] h).toLoadRect f23 = _ := fun h => (View.readAt_full arg23.view f23 h).trans h23
  have r24 : ∀ h, View.readAt (Elt F) arg24.view (Rect.unit ![0, 0, 0] ![1, 80, 768] h).toLoadRect f24 = _ := fun h => (View.readAt_full arg24.view f24 h).trans h24
  have r25 : ∀ h, View.readAt (Elt F) arg25.view (Rect.unit ![0] ![1] h).toLoadRect f25 = _ := fun h => (View.readAt_full arg25.view f25 h).trans h25
  have r27 : ∀ h, View.readAt (Elt F) arg27.view (Rect.unit ![0] ![1] h).toLoadRect f27 = _ := fun h => (View.readAt_full arg27.view f27 h).trans h27
  have r28 : ∀ h, View.readAt (Elt F) arg28.view (Rect.unit ![0, 0] ![96, 768] h).toLoadRect f28 = _ := fun h => (View.readAt_full arg28.view f28 h).trans h28
  have r29 : ∀ h, View.readAt (Elt F) arg29.view (Rect.unit ![0, 0] ![96, 768] h).toLoadRect f29 = _ := fun h => (View.readAt_full arg29.view f29 h).trans h29
  have r30 : ∀ h, View.readAt (Elt F) arg30.view (Rect.unit ![0, 0] ![768, 96] h).toLoadRect f30 = _ := fun h => (View.readAt_full arg30.view f30 h).trans h30
  have r31 : ∀ h, View.readAt (Elt F) arg31.view (Rect.unit ![0, 0] ![96, 768] h).toLoadRect f31 = _ := fun h => (View.readAt_full arg31.view f31 h).trans h31
  have r32 : ∀ h, View.readAt (Elt F) arg32.view (Rect.unit ![0, 0] ![96, 768] h).toLoadRect f32 = _ := fun h => (View.readAt_full arg32.view f32 h).trans h32
  have r33 : ∀ h, View.readAt (Elt F) arg33.view (Rect.unit ![0, 0] ![96, 768] h).toLoadRect f33 = _ := fun h => (View.readAt_full arg33.view f33 h).trans h33
  have r34 := fun r => rd_at arg34.view r f34 h34
  have r36 : ∀ h, View.readAt (Elt F) arg36.view (Rect.unit ![0, 0] ![256, 768] h).toLoadRect f36 = _ := fun h => (View.readAt_full arg36.view f36 h).trans h36
  have r37 : ∀ h, View.readAt (Elt F) arg37.view (Rect.unit ![0, 0] ![256, 768] h).toLoadRect f37 = _ := fun h => (View.readAt_full arg37.view f37 h).trans h37
  by_cases hc1 : k0_cond1 i = 1#1 <;> by_cases hc2 : k0_cond2 i = 1#1
  rw [if_pos hc1, if_pos hc2] at hp; subst hp
  sl_exec (disch := first | sl_exact hc1 | sl_exact hc2)
  sl_step
  rotate_left
  rw [if_pos hc1, if_neg hc2] at hp; subst hp
  sl_exec (disch := first | sl_exact hc1 | sl_exact hc2)
  sl_step
  rotate_left
  rw [if_neg hc1, if_pos hc2] at hp; subst hp
  sl_exec (disch := first | sl_exact hc1 | sl_exact hc2)
  sl_step
  rotate_left
  rw [if_neg hc1, if_neg hc2] at hp; subst hp
  sl_exec (disch := first | sl_exact hc1 | sl_exact hc2)
  sl_step
  rotate_left
  all_goals try delta part5_spec.sl.H28_1 part5_spec.sl.H28_1_1 part5_spec.sl.H29_1 part5_spec.sl.H29_1_1 part5_spec.sl.cst_69 part5_spec.sl.cst_69_1 part5_spec.sl.r part5_spec.sl.r_1 part5_spec.sl.r_10 part5_spec.sl.r_11 part5_spec.sl.r_12 part5_spec.sl.r_13 part5_spec.sl.r_14 part5_spec.sl.r_15 part5_spec.sl.r_16 part5_spec.sl.r_17 part5_spec.sl.r_18 part5_spec.sl.r_19 part5_spec.sl.r_2 part5_spec.sl.r_20 part5_spec.sl.r_21 part5_spec.sl.r_22 part5_spec.sl.r_23 part5_spec.sl.r_24 part5_spec.sl.r_25 part5_spec.sl.r_26 part5_spec.sl.r_27 part5_spec.sl.r_28 part5_spec.sl.r_29 part5_spec.sl.r_3 part5_spec.sl.r_30 part5_spec.sl.r_31 part5_spec.sl.r_32 part5_spec.sl.r_33 part5_spec.sl.r_34 part5_spec.sl.r_35 part5_spec.sl.r_36 part5_spec.sl.r_4 part5_spec.sl.r_5 part5_spec.sl.r_6 part5_spec.sl.r_7 part5_spec.sl.r_8 part5_spec.sl.r_9 part5_spec.sl.v174 part5_spec.sl.v174_1 part5_spec.sl.v20 part5_spec.sl.v20_1
  all_goals
    iapply HQ
    isplitr
    · ipureintro; (try simp only [r2, r3, r4, r5, r6, r7, r9, r10, r11, r12, r13, r14, r19, r20, r21, r23, r24, r25, r27, r28, r29, r30, r31, r32, r33, r34, r36, r37]); (repeat first | rw [View.readCov_full] | rw [cov_slot] | rw [cov_at]); (try dsimp only [expertSt, firstSt, tileSt, combineSt, finishSt, tA, tR, tH, tD, sc, sc4, slotRow]); first | done | rfl
    isplitl [H2]
    · unfold owns; iexists _; isplitr; swap; · iexact H2
      ipureintro; first | exact h2 | (refine h2.trans ?_; rfl)
    isplitl [H3]
    · unfold owns; iexists _; isplitr; swap; · iexact H3
      ipureintro; first | exact h3 | (refine h3.trans ?_; rfl)
    isplitl [H4]
    · unfold owns; iexists _; isplitr; swap; · iexact H4
      ipureintro; first | exact h4 | (refine h4.trans ?_; rfl)
    isplitl [H5]
    · unfold owns; iexists _; isplitr; swap; · iexact H5
      ipureintro; first | exact h5 | (refine h5.trans ?_; rfl)
    isplitl [H6]
    · unfold owns; iexists _; isplitr; swap; · iexact H6
      ipureintro; first | exact h6 | (refine h6.trans ?_; rfl)
    isplitl [H7]
    · unfold owns; iexists _; isplitr; swap; · iexact H7
      ipureintro; first | exact h7 | (refine h7.trans ?_; rfl)
    isplitl [H9]
    · unfold owns; iexists _; isplitr; swap; · iexact H9
      ipureintro; first | exact h9 | (refine h9.trans ?_; rfl)
    isplitl [H10]
    · unfold owns; iexists _; isplitr; swap; · iexact H10
      ipureintro; first | exact h10 | (refine h10.trans ?_; rfl)
    isplitl [H11]
    · unfold owns; iexists _; isplitr; swap; · iexact H11
      ipureintro; first | exact h11 | (refine h11.trans ?_; rfl)
    isplitl [H12]
    · unfold owns; iexists _; isplitr; swap; · iexact H12
      ipureintro; first | exact h12 | (refine h12.trans ?_; rfl)
    isplitl [H13]
    · unfold owns; iexists _; isplitr; swap; · iexact H13
      ipureintro; first | exact h13 | (refine h13.trans ?_; rfl)
    isplitl [H14]
    · unfold owns; iexists _; isplitr; swap; · iexact H14
      ipureintro; first | exact h14 | (refine h14.trans ?_; rfl)
    isplitl [H19]
    · unfold owns; iexists _; isplitr; swap; · iexact H19
      ipureintro; first | (refine (View.read_writes_full _ _ _ _ _).trans ?_; (try simp only [r2, r3, r4, r5, r6, r7, r9, r10, r11, r12, r13, r14, r19, r20, r21, r23, r24, r25, r27, r28, r29, r30, r31, r32, r33, r34, r36, r37]); (repeat first | rw [View.readCov_full] | rw [cov_slot] | rw [cov_at]); (try dsimp only [expertSt, firstSt, tileSt, combineSt, finishSt, tA, tR, tH, tD, sc, sc4, slotRow]); first | done | rfl) | (first | exact h19 | (refine h19.trans ?_; rfl))
    isplitl [H20]
    · unfold owns; iexists _; isplitr; swap; · iexact H20
      ipureintro; first | (refine (View.read_writes_full _ _ _ _ _).trans ?_; (try simp only [r2, r3, r4, r5, r6, r7, r9, r10, r11, r12, r13, r14, r19, r20, r21, r23, r24, r25, r27, r28, r29, r30, r31, r32, r33, r34, r36, r37]); (repeat first | rw [View.readCov_full] | rw [cov_slot] | rw [cov_at]); (try dsimp only [expertSt, firstSt, tileSt, combineSt, finishSt, tA, tR, tH, tD, sc, sc4, slotRow]); first | done | rfl) | (first | exact h20 | (refine h20.trans ?_; rfl))
    isplitl [H21]
    · unfold owns; iexists _; isplitr; swap; · iexact H21
      ipureintro; first | (refine (View.read_writes_full _ _ _ _ _).trans ?_; (try simp only [r2, r3, r4, r5, r6, r7, r9, r10, r11, r12, r13, r14, r19, r20, r21, r23, r24, r25, r27, r28, r29, r30, r31, r32, r33, r34, r36, r37]); (repeat first | rw [View.readCov_full] | rw [cov_slot] | rw [cov_at]); (try dsimp only [expertSt, firstSt, tileSt, combineSt, finishSt, tA, tR, tH, tD, sc, sc4, slotRow]); first | done | rfl) | (first | exact h21 | (refine h21.trans ?_; rfl))
    isplitl [H23]
    · unfold owns; iexists _; isplitr; swap; · iexact H23
      ipureintro; first | (refine (View.read_writes_full _ _ _ _ _).trans ?_; (try simp only [r2, r3, r4, r5, r6, r7, r9, r10, r11, r12, r13, r14, r19, r20, r21, r23, r24, r25, r27, r28, r29, r30, r31, r32, r33, r34, r36, r37]); (repeat first | rw [View.readCov_full] | rw [cov_slot] | rw [cov_at]); (try dsimp only [expertSt, firstSt, tileSt, combineSt, finishSt, tA, tR, tH, tD, sc, sc4, slotRow]); first | done | rfl) | (first | exact h23 | (refine h23.trans ?_; rfl))
    isplitl [H24]
    · unfold owns; iexists _; isplitr; swap; · iexact H24
      ipureintro; first | (refine (View.read_writes_full _ _ _ _ _).trans ?_; (try simp only [r2, r3, r4, r5, r6, r7, r9, r10, r11, r12, r13, r14, r19, r20, r21, r23, r24, r25, r27, r28, r29, r30, r31, r32, r33, r34, r36, r37]); (repeat first | rw [View.readCov_full] | rw [cov_slot] | rw [cov_at]); (try dsimp only [expertSt, firstSt, tileSt, combineSt, finishSt, tA, tR, tH, tD, sc, sc4, slotRow]); first | done | rfl) | (first | exact h24 | (refine h24.trans ?_; rfl))
    isplitl [H25]
    · unfold owns; iexists _; isplitr; swap; · iexact H25
      ipureintro; first | (refine (View.read_writes_full _ _ _ _ _).trans ?_; (try simp only [r2, r3, r4, r5, r6, r7, r9, r10, r11, r12, r13, r14, r19, r20, r21, r23, r24, r25, r27, r28, r29, r30, r31, r32, r33, r34, r36, r37]); (repeat first | rw [View.readCov_full] | rw [cov_slot] | rw [cov_at]); (try dsimp only [expertSt, firstSt, tileSt, combineSt, finishSt, tA, tR, tH, tD, sc, sc4, slotRow]); first | done | rfl) | (first | exact h25 | (refine h25.trans ?_; rfl))
    isplitl [H27]
    · unfold owns; iexists _; isplitr; swap; · iexact H27
      ipureintro; first | (refine (View.read_writes_full _ _ _ _ _).trans ?_; (try simp only [r2, r3, r4, r5, r6, r7, r9, r10, r11, r12, r13, r14, r19, r20, r21, r23, r24, r25, r27, r28, r29, r30, r31, r32, r33, r34, r36, r37]); (repeat first | rw [View.readCov_full] | rw [cov_slot] | rw [cov_at]); (try dsimp only [expertSt, firstSt, tileSt, combineSt, finishSt, tA, tR, tH, tD, sc, sc4, slotRow]); first | done | rfl) | (first | exact h27 | (refine h27.trans ?_; rfl))
    isplitl [H28]
    · unfold owns; iexists _; isplitr; swap; · iexact H28
      ipureintro; first | (refine (View.read_writes_full _ _ _ _ _).trans ?_; (try simp only [r2, r3, r4, r5, r6, r7, r9, r10, r11, r12, r13, r14, r19, r20, r21, r23, r24, r25, r27, r28, r29, r30, r31, r32, r33, r34, r36, r37]); (repeat first | rw [View.readCov_full] | rw [cov_slot] | rw [cov_at]); (try dsimp only [expertSt, firstSt, tileSt, combineSt, finishSt, tA, tR, tH, tD, sc, sc4, slotRow]); first | done | rfl) | (first | exact h28 | (refine h28.trans ?_; rfl))
    isplitl [H29]
    · unfold owns; iexists _; isplitr; swap; · iexact H29
      ipureintro; first | (refine (View.read_writes_full _ _ _ _ _).trans ?_; (try simp only [r2, r3, r4, r5, r6, r7, r9, r10, r11, r12, r13, r14, r19, r20, r21, r23, r24, r25, r27, r28, r29, r30, r31, r32, r33, r34, r36, r37]); (repeat first | rw [View.readCov_full] | rw [cov_slot] | rw [cov_at]); (try dsimp only [expertSt, firstSt, tileSt, combineSt, finishSt, tA, tR, tH, tD, sc, sc4, slotRow]); first | done | rfl) | (first | exact h29 | (refine h29.trans ?_; rfl))
    isplitl [H30]
    · unfold owns; iexists _; isplitr; swap; · iexact H30
      ipureintro; first | (refine (View.read_writes_full _ _ _ _ _).trans ?_; (try simp only [r2, r3, r4, r5, r6, r7, r9, r10, r11, r12, r13, r14, r19, r20, r21, r23, r24, r25, r27, r28, r29, r30, r31, r32, r33, r34, r36, r37]); (repeat first | rw [View.readCov_full] | rw [cov_slot] | rw [cov_at]); (try dsimp only [expertSt, firstSt, tileSt, combineSt, finishSt, tA, tR, tH, tD, sc, sc4, slotRow]); first | done | rfl) | (first | exact h30 | (refine h30.trans ?_; rfl))
    isplitl [H31]
    · unfold owns; iexists _; isplitr; swap; · iexact H31
      ipureintro; first | (refine (View.read_writes_full _ _ _ _ _).trans ?_; (try simp only [r2, r3, r4, r5, r6, r7, r9, r10, r11, r12, r13, r14, r19, r20, r21, r23, r24, r25, r27, r28, r29, r30, r31, r32, r33, r34, r36, r37]); (repeat first | rw [View.readCov_full] | rw [cov_slot] | rw [cov_at]); (try dsimp only [expertSt, firstSt, tileSt, combineSt, finishSt, tA, tR, tH, tD, sc, sc4, slotRow]); first | done | rfl) | (first | exact h31 | (refine h31.trans ?_; rfl))
    isplitl [H32]
    · unfold owns; iexists _; isplitr; swap; · iexact H32
      ipureintro; first | (refine (View.read_writes_full _ _ _ _ _).trans ?_; (try simp only [r2, r3, r4, r5, r6, r7, r9, r10, r11, r12, r13, r14, r19, r20, r21, r23, r24, r25, r27, r28, r29, r30, r31, r32, r33, r34, r36, r37]); (repeat first | rw [View.readCov_full] | rw [cov_slot] | rw [cov_at]); (try dsimp only [expertSt, firstSt, tileSt, combineSt, finishSt, tA, tR, tH, tD, sc, sc4, slotRow]); first | done | rfl) | (first | exact h32 | (refine h32.trans ?_; rfl))
    isplitl [H33]
    · unfold owns; iexists _; isplitr; swap; · iexact H33
      ipureintro; first | (refine (View.read_writes_full _ _ _ _ _).trans ?_; (try simp only [r2, r3, r4, r5, r6, r7, r9, r10, r11, r12, r13, r14, r19, r20, r21, r23, r24, r25, r27, r28, r29, r30, r31, r32, r33, r34, r36, r37]); (repeat first | rw [View.readCov_full] | rw [cov_slot] | rw [cov_at]); (try dsimp only [expertSt, firstSt, tileSt, combineSt, finishSt, tA, tR, tH, tD, sc, sc4, slotRow]); first | done | rfl) | (first | exact h33 | (refine h33.trans ?_; rfl))
    isplitl [H34]
    · unfold owns; iexists _; isplitr; swap; · iexact H34
      ipureintro; first | (refine (View.read_writes_full _ _ _ _ _).trans ?_; (try simp only [r2, r3, r4, r5, r6, r7, r9, r10, r11, r12, r13, r14, r19, r20, r21, r23, r24, r25, r27, r28, r29, r30, r31, r32, r33, r34, r36, r37]); (repeat first | rw [View.readCov_full] | rw [cov_slot] | rw [cov_at]); (try dsimp only [expertSt, firstSt, tileSt, combineSt, finishSt, tA, tR, tH, tD, sc, sc4, slotRow]); first | done | rfl) | (first | exact h34 | (refine h34.trans ?_; rfl))
    isplitl [H36]
    · unfold owns; iexists _; isplitr; swap; · iexact H36
      ipureintro; first | (refine (View.read_writes_full _ _ _ _ _).trans ?_; (try simp only [r2, r3, r4, r5, r6, r7, r9, r10, r11, r12, r13, r14, r19, r20, r21, r23, r24, r25, r27, r28, r29, r30, r31, r32, r33, r34, r36, r37]); (repeat first | rw [View.readCov_full] | rw [cov_slot] | rw [cov_at]); (try dsimp only [expertSt, firstSt, tileSt, combineSt, finishSt, tA, tR, tH, tD, sc, sc4, slotRow]); first | done | rfl) | (first | exact h36 | (refine h36.trans ?_; rfl))
    unfold owns; iexists _; isplitr; swap; · iexact H37
    ipureintro; first | (refine (View.read_writes_full _ _ _ _ _).trans ?_; (try simp only [r2, r3, r4, r5, r6, r7, r9, r10, r11, r12, r13, r14, r19, r20, r21, r23, r24, r25, r27, r28, r29, r30, r31, r32, r33, r34, r36, r37]); (repeat first | rw [View.readCov_full] | rw [cov_slot] | rw [cov_at]); (try dsimp only [expertSt, firstSt, tileSt, combineSt, finishSt, tA, tR, tH, tD, sc, sc4, slotRow]); first | done | rfl) | (first | exact h37 | (refine h37.trans ?_; rfl))

set_option maxHeartbeats 2000000 in
/-- One grid point of the kernel as a triple: its buffers go from `s` to `step i I s`, the slot scratch at whatever it holds. -/
theorem body_spec (E : Set ℕ) (Q : PUnit → sProp 𝕄) (I : In F) (s : St F) :
    iprop(owns (c : Thread nD τ) arg2 fullShare I.sx
      ∗ owns (c : Thread nD τ) arg3 fullShare I.sh
      ∗ owns (c : Thread nD τ) arg4 fullShare I.sdo
      ∗ owns (c : Thread nD τ) arg5 fullShare I.sda
      ∗ owns (c : Thread nD τ) arg6 fullShare I.w1s
      ∗ owns (c : Thread nD τ) arg7 fullShare I.w2s
      ∗ owns (c : Thread nD τ) arg8 fullShare I.slot
      ∗ owns (c : Thread nD τ) arg9 fullShare I.tok
      ∗ owns (c : Thread nD τ) arg10 fullShare I.gate
      ∗ owns (c : Thread nD τ) arg11 fullShare I.x
      ∗ owns (c : Thread nD τ) arg12 fullShare I.dy
      ∗ owns (c : Thread nD τ) arg13 fullShare I.w1
      ∗ owns (c : Thread nD τ) arg14 fullShare I.w2
      ∗ owns (c : Thread nD τ) arg15 fullShare s.y
      ∗ owns (c : Thread nD τ) arg16 fullShare s.dx
      ∗ owns (c : Thread nD τ) arg17 fullShare s.dw1
      ∗ owns (c : Thread nD τ) arg18 fullShare s.dw2
      ∗ owns (c : Thread nD τ) arg19 fullShare s.dgate
      ∗ owns (c : Thread nD τ) arg20 fullShare s.xc
      ∗ owns (c : Thread nD τ) arg21 fullShare s.ax
      ∗ owns (c : Thread nD τ) arg22 fullShare s.h
      ∗ owns (c : Thread nD τ) arg23 fullShare s.ah
      ∗ owns (c : Thread nD τ) arg24 fullShare s.doc
      ∗ owns (c : Thread nD τ) arg25 fullShare s.ado
      ∗ owns (c : Thread nD τ) arg26 fullShare s.da
      ∗ owns (c : Thread nD τ) arg27 fullShare s.ada
      ∗ owns (c : Thread nD τ) arg28 fullShare s.xs
      ∗ owns (c : Thread nD τ) arg29 fullShare s.dO
      ∗ owns (c : Thread nD τ) arg30 fullShare s.xst
      ∗ owns (c : Thread nD τ) arg31 fullShare s.o
      ∗ owns (c : Thread nD τ) arg32 fullShare s.dxs
      ∗ owns (c : Thread nD τ) arg33 fullShare s.dyg
      ∗ owns (c : Thread nD τ) arg34 fullShare s.gs
      ∗ owns (c : Thread nD τ) arg36 fullShare s.yacc
      ∗ owns (c : Thread nD τ) arg37 fullShare s.dxacc
      ∗ (∃ d, owns (c : Thread nD τ) arg35 fullShare d)
      ∗ ((owns (c : Thread nD τ) arg2 fullShare I.sx
      ∗ owns (c : Thread nD τ) arg3 fullShare I.sh
      ∗ owns (c : Thread nD τ) arg4 fullShare I.sdo
      ∗ owns (c : Thread nD τ) arg5 fullShare I.sda
      ∗ owns (c : Thread nD τ) arg6 fullShare I.w1s
      ∗ owns (c : Thread nD τ) arg7 fullShare I.w2s
      ∗ owns (c : Thread nD τ) arg8 fullShare I.slot
      ∗ owns (c : Thread nD τ) arg9 fullShare I.tok
      ∗ owns (c : Thread nD τ) arg10 fullShare I.gate
      ∗ owns (c : Thread nD τ) arg11 fullShare I.x
      ∗ owns (c : Thread nD τ) arg12 fullShare I.dy
      ∗ owns (c : Thread nD τ) arg13 fullShare I.w1
      ∗ owns (c : Thread nD τ) arg14 fullShare I.w2
      ∗ owns (c : Thread nD τ) arg15 fullShare (step i I s).y
      ∗ owns (c : Thread nD τ) arg16 fullShare (step i I s).dx
      ∗ owns (c : Thread nD τ) arg17 fullShare (step i I s).dw1
      ∗ owns (c : Thread nD τ) arg18 fullShare (step i I s).dw2
      ∗ owns (c : Thread nD τ) arg19 fullShare (step i I s).dgate
      ∗ owns (c : Thread nD τ) arg20 fullShare (step i I s).xc
      ∗ owns (c : Thread nD τ) arg21 fullShare (step i I s).ax
      ∗ owns (c : Thread nD τ) arg22 fullShare (step i I s).h
      ∗ owns (c : Thread nD τ) arg23 fullShare (step i I s).ah
      ∗ owns (c : Thread nD τ) arg24 fullShare (step i I s).doc
      ∗ owns (c : Thread nD τ) arg25 fullShare (step i I s).ado
      ∗ owns (c : Thread nD τ) arg26 fullShare (step i I s).da
      ∗ owns (c : Thread nD τ) arg27 fullShare (step i I s).ada
      ∗ owns (c : Thread nD τ) arg28 fullShare (step i I s).xs
      ∗ owns (c : Thread nD τ) arg29 fullShare (step i I s).dO
      ∗ owns (c : Thread nD τ) arg30 fullShare (step i I s).xst
      ∗ owns (c : Thread nD τ) arg31 fullShare (step i I s).o
      ∗ owns (c : Thread nD τ) arg32 fullShare (step i I s).dxs
      ∗ owns (c : Thread nD τ) arg33 fullShare (step i I s).dyg
      ∗ owns (c : Thread nD τ) arg34 fullShare (step i I s).gs
      ∗ owns (c : Thread nD τ) arg36 fullShare (step i I s).yacc
      ∗ owns (c : Thread nD τ) arg37 fullShare (step i I s).dxacc
      ∗ (∃ d, owns (c : Thread nD τ) arg35 fullShare d))
        -∗ Q ⟨⟩))
    ⊢ wp frame (wpE (defs₀ (F := F)) Variants.none c none) E (cc0_moe_fwd_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37) Q := by
  simp only [cc0_moe_fwd_bwd_eq_skeleton]; unfold cc0_moe_fwd_bwd_skel
  rw [show step i I s = fin i I (tileSt i I (prep i I s)) from rfl]
  have e15 : (prep i I s).y = s.y := by unfold prep expertSt firstSt; split <;> split <;> rfl
  have e16 : (prep i I s).dx = s.dx := by unfold prep expertSt firstSt; split <;> split <;> rfl
  have e17 : (prep i I s).dw1 = s.dw1 := by unfold prep expertSt firstSt; split <;> split <;> rfl
  have e18 : (prep i I s).dw2 = s.dw2 := by unfold prep expertSt firstSt; split <;> split <;> rfl
  have e22 : (prep i I s).h = s.h := by unfold prep expertSt firstSt; split <;> split <;> rfl
  have e26 : (prep i I s).da = s.da := by unfold prep expertSt firstSt; split <;> split <;> rfl
  iintro ⟨H2, H3, H4, H5, H6, H7, H8, H9, H10, H11, H12, H13, H14, H15, H16, H17, H18, H19, H20, H21, H22, H23, H24, H25, H26, H27, H28, H29, H30, H31, H32, H33, H34, H36, H37, ⟨%d35, H35⟩, HQ⟩
  rw [wp_bind]
  iapply (part5_spec c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 E _ I s)
  isplitl [H2]; · iexact H2
  isplitl [H3]; · iexact H3
  isplitl [H4]; · iexact H4
  isplitl [H5]; · iexact H5
  isplitl [H6]; · iexact H6
  isplitl [H7]; · iexact H7
  isplitl [H9]; · iexact H9
  isplitl [H10]; · iexact H10
  isplitl [H11]; · iexact H11
  isplitl [H12]; · iexact H12
  isplitl [H13]; · iexact H13
  isplitl [H14]; · iexact H14
  isplitl [H19]; · iexact H19
  isplitl [H20]; · iexact H20
  isplitl [H21]; · iexact H21
  isplitl [H23]; · iexact H23
  isplitl [H24]; · iexact H24
  isplitl [H25]; · iexact H25
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H36]; · iexact H36
  isplitl [H37]; · iexact H37
  iintro %r ⟨%hr, H2, H3, H4, H5, H6, H7, H9, H10, H11, H12, H13, H14, H19, H20, H21, H23, H24, H25, H27, H28, H29, H30, H31, H32, H33, H34, H36, H37⟩
  subst hr
  generalize hp : prep i I s = p at *
  simp only [k0_part4_eq_skeleton, k0_part6_eq_skeleton, k0_part7_eq_skeleton]
  icases (owns_split c arg2 _ _).1 $$ H2 with ⟨%f2, %h2, H2⟩
  icases (owns_split c arg3 _ _).1 $$ H3 with ⟨%f3, %h3, H3⟩
  icases (owns_split c arg4 _ _).1 $$ H4 with ⟨%f4, %h4, H4⟩
  icases (owns_split c arg5 _ _).1 $$ H5 with ⟨%f5, %h5, H5⟩
  icases (owns_split c arg6 _ _).1 $$ H6 with ⟨%f6, %h6, H6⟩
  icases (owns_split c arg7 _ _).1 $$ H7 with ⟨%f7, %h7, H7⟩
  icases (owns_split c arg8 _ _).1 $$ H8 with ⟨%f8, %h8, H8⟩
  icases (owns_split c arg9 _ _).1 $$ H9 with ⟨%f9, %h9, H9⟩
  icases (owns_split c arg10 _ _).1 $$ H10 with ⟨%f10, %h10, H10⟩
  icases (owns_split c arg11 _ _).1 $$ H11 with ⟨%f11, %h11, H11⟩
  icases (owns_split c arg12 _ _).1 $$ H12 with ⟨%f12, %h12, H12⟩
  icases (owns_split c arg13 _ _).1 $$ H13 with ⟨%f13, %h13, H13⟩
  icases (owns_split c arg14 _ _).1 $$ H14 with ⟨%f14, %h14, H14⟩
  icases (owns_split c arg15 _ _).1 $$ H15 with ⟨%f15, %h15, H15⟩
  icases (owns_split c arg16 _ _).1 $$ H16 with ⟨%f16, %h16, H16⟩
  icases (owns_split c arg17 _ _).1 $$ H17 with ⟨%f17, %h17, H17⟩
  icases (owns_split c arg18 _ _).1 $$ H18 with ⟨%f18, %h18, H18⟩
  icases (owns_split c arg19 _ _).1 $$ H19 with ⟨%f19, %h19, H19⟩
  icases (owns_split c arg20 _ _).1 $$ H20 with ⟨%f20, %h20, H20⟩
  icases (owns_split c arg21 _ _).1 $$ H21 with ⟨%f21, %h21, H21⟩
  icases (owns_split c arg22 _ _).1 $$ H22 with ⟨%f22, %h22, H22⟩
  icases (owns_split c arg23 _ _).1 $$ H23 with ⟨%f23, %h23, H23⟩
  icases (owns_split c arg24 _ _).1 $$ H24 with ⟨%f24, %h24, H24⟩
  icases (owns_split c arg25 _ _).1 $$ H25 with ⟨%f25, %h25, H25⟩
  icases (owns_split c arg26 _ _).1 $$ H26 with ⟨%f26, %h26, H26⟩
  icases (owns_split c arg27 _ _).1 $$ H27 with ⟨%f27, %h27, H27⟩
  icases (owns_split c arg28 _ _).1 $$ H28 with ⟨%f28, %h28, H28⟩
  icases (owns_split c arg29 _ _).1 $$ H29 with ⟨%f29, %h29, H29⟩
  icases (owns_split c arg30 _ _).1 $$ H30 with ⟨%f30, %h30, H30⟩
  icases (owns_split c arg31 _ _).1 $$ H31 with ⟨%f31, %h31, H31⟩
  icases (owns_split c arg32 _ _).1 $$ H32 with ⟨%f32, %h32, H32⟩
  icases (owns_split c arg33 _ _).1 $$ H33 with ⟨%f33, %h33, H33⟩
  icases (owns_split c arg34 _ _).1 $$ H34 with ⟨%f34, %h34, H34⟩
  icases (owns_split c arg36 _ _).1 $$ H36 with ⟨%f36, %h36, H36⟩
  icases (owns_split c arg37 _ _).1 $$ H37 with ⟨%f37, %h37, H37⟩
  have r2 : ∀ h, View.readAt (Elt F) arg2.view (Rect.unit ![0] ![1] h).toLoadRect f2 = _ := fun h => (View.readAt_full arg2.view f2 h).trans h2
  have r3 : ∀ h, View.readAt (Elt F) arg3.view (Rect.unit ![0] ![1] h).toLoadRect f3 = _ := fun h => (View.readAt_full arg3.view f3 h).trans h3
  have r4 : ∀ h, View.readAt (Elt F) arg4.view (Rect.unit ![0] ![1] h).toLoadRect f4 = _ := fun h => (View.readAt_full arg4.view f4 h).trans h4
  have r5 : ∀ h, View.readAt (Elt F) arg5.view (Rect.unit ![0] ![1] h).toLoadRect f5 = _ := fun h => (View.readAt_full arg5.view f5 h).trans h5
  have r6 := fun r => rd_at arg6.view r f6 h6
  have r7 := fun r => rd_at arg7.view r f7 h7
  have r8 := fun r => rd_at arg8.view r f8 h8
  have r9 : ∀ h, View.readAt (Elt F) arg9.view (Rect.unit ![0, 0] ![1, 256] h).toLoadRect f9 = _ := fun h => (View.readAt_full arg9.view f9 h).trans h9
  have r10 : ∀ h, View.readAt (Elt F) arg10.view (Rect.unit ![0, 0] ![1, 256] h).toLoadRect f10 = _ := fun h => (View.readAt_full arg10.view f10 h).trans h10
  have r11 : ∀ h, View.readAt (Elt F) arg11.view (Rect.unit ![0, 0] ![256, 768] h).toLoadRect f11 = _ := fun h => (View.readAt_full arg11.view f11 h).trans h11
  have r12 : ∀ h, View.readAt (Elt F) arg12.view (Rect.unit ![0, 0] ![256, 768] h).toLoadRect f12 = _ := fun h => (View.readAt_full arg12.view f12 h).trans h12
  have r13 : ∀ h, View.readAt (Elt F) arg13.view (Rect.unit ![0, 0, 0] ![1, 768, 512] h).toLoadRect f13 = _ := fun h => (View.readAt_full arg13.view f13 h).trans h13
  have r14 : ∀ h, View.readAt (Elt F) arg14.view (Rect.unit ![0, 0, 0] ![1, 512, 768] h).toLoadRect f14 = _ := fun h => (View.readAt_full arg14.view f14 h).trans h14
  have r15 : ∀ h, View.readAt (Elt F) arg15.view (Rect.unit ![0, 0] ![256, 768] h).toLoadRect f15 = _ := fun h => (View.readAt_full arg15.view f15 h).trans h15
  have r16 : ∀ h, View.readAt (Elt F) arg16.view (Rect.unit ![0, 0] ![256, 768] h).toLoadRect f16 = _ := fun h => (View.readAt_full arg16.view f16 h).trans h16
  have r17 : ∀ h, View.readAt (Elt F) arg17.view (Rect.unit ![0, 0, 0] ![1, 768, 512] h).toLoadRect f17 = _ := fun h => (View.readAt_full arg17.view f17 h).trans h17
  have r18 : ∀ h, View.readAt (Elt F) arg18.view (Rect.unit ![0, 0, 0] ![1, 512, 768] h).toLoadRect f18 = _ := fun h => (View.readAt_full arg18.view f18 h).trans h18
  have r19 : ∀ h, View.readAt (Elt F) arg19.view (Rect.unit ![0, 0] ![1, 256] h).toLoadRect f19 = _ := fun h => (View.readAt_full arg19.view f19 h).trans h19
  have r20 : ∀ h, View.readAt (Elt F) arg20.view (Rect.unit ![0, 0] ![256, 768] h).toLoadRect f20 = _ := fun h => (View.readAt_full arg20.view f20 h).trans h20
  have r21 : ∀ h, View.readAt (Elt F) arg21.view (Rect.unit ![0] ![1] h).toLoadRect f21 = _ := fun h => (View.readAt_full arg21.view f21 h).trans h21
  have r22 : ∀ h, View.readAt (Elt F) arg22.view (Rect.unit ![0, 0, 0] ![1, 80, 512] h).toLoadRect f22 = _ := fun h => (View.readAt_full arg22.view f22 h).trans h22
  have r23 : ∀ h, View.readAt (Elt F) arg23.view (Rect.unit ![0] ![1] h).toLoadRect f23 = _ := fun h => (View.readAt_full arg23.view f23 h).trans h23
  have r24 : ∀ h, View.readAt (Elt F) arg24.view (Rect.unit ![0, 0, 0] ![1, 80, 768] h).toLoadRect f24 = _ := fun h => (View.readAt_full arg24.view f24 h).trans h24
  have r25 : ∀ h, View.readAt (Elt F) arg25.view (Rect.unit ![0] ![1] h).toLoadRect f25 = _ := fun h => (View.readAt_full arg25.view f25 h).trans h25
  have r26 : ∀ h, View.readAt (Elt F) arg26.view (Rect.unit ![0, 0, 0] ![1, 80, 512] h).toLoadRect f26 = _ := fun h => (View.readAt_full arg26.view f26 h).trans h26
  have r27 : ∀ h, View.readAt (Elt F) arg27.view (Rect.unit ![0] ![1] h).toLoadRect f27 = _ := fun h => (View.readAt_full arg27.view f27 h).trans h27
  have r28 : ∀ h, View.readAt (Elt F) arg28.view (Rect.unit ![0, 0] ![96, 768] h).toLoadRect f28 = _ := fun h => (View.readAt_full arg28.view f28 h).trans h28
  have r29 : ∀ h, View.readAt (Elt F) arg29.view (Rect.unit ![0, 0] ![96, 768] h).toLoadRect f29 = _ := fun h => (View.readAt_full arg29.view f29 h).trans h29
  have r30 : ∀ h, View.readAt (Elt F) arg30.view (Rect.unit ![0, 0] ![768, 96] h).toLoadRect f30 = _ := fun h => (View.readAt_full arg30.view f30 h).trans h30
  have r31 : ∀ h, View.readAt (Elt F) arg31.view (Rect.unit ![0, 0] ![96, 768] h).toLoadRect f31 = _ := fun h => (View.readAt_full arg31.view f31 h).trans h31
  have r32 : ∀ h, View.readAt (Elt F) arg32.view (Rect.unit ![0, 0] ![96, 768] h).toLoadRect f32 = _ := fun h => (View.readAt_full arg32.view f32 h).trans h32
  have r33 : ∀ h, View.readAt (Elt F) arg33.view (Rect.unit ![0, 0] ![96, 768] h).toLoadRect f33 = _ := fun h => (View.readAt_full arg33.view f33 h).trans h33
  have r34 := fun r => rd_at arg34.view r f34 h34
  have r36 : ∀ h, View.readAt (Elt F) arg36.view (Rect.unit ![0, 0] ![256, 768] h).toLoadRect f36 = _ := fun h => (View.readAt_full arg36.view f36 h).trans h36
  have r37 : ∀ h, View.readAt (Elt F) arg37.view (Rect.unit ![0, 0] ![256, 768] h).toLoadRect f37 = _ := fun h => (View.readAt_full arg37.view f37 h).trans h37
  icases (owns_split c arg35 _ _).1 $$ H35 with ⟨%f35, %h35, H35⟩
  by_cases hc3 : k0_cond3 i = 1#1 <;> by_cases hc4 : k0_cond4 i = 1#1
  rw [show fin i I (tileSt i I p) = (finishSt (combineSt i hc3 I (tileSt i I p))) from by unfold fin; rw [if_pos hc4, dif_pos hc3]]
  sl_exec (disch := first | sl_exact hc3 | sl_exact hc4)
  sl_step
  rotate_left
  rw [show fin i I (tileSt i I p) = (combineSt i hc3 I (tileSt i I p)) from by unfold fin; rw [if_neg hc4, dif_pos hc3]]
  sl_exec (disch := first | sl_exact hc3 | sl_exact hc4)
  sl_step
  rotate_left
  rw [show fin i I (tileSt i I p) = (finishSt (tileSt i I p)) from by unfold fin; rw [if_pos hc4, dif_neg hc3]]
  sl_exec (disch := first | sl_exact hc3 | sl_exact hc4)
  sl_step
  rotate_left
  rw [show fin i I (tileSt i I p) = (tileSt i I p) from by unfold fin; rw [if_neg hc4, dif_neg hc3]]
  sl_exec (disch := first | sl_exact hc3 | sl_exact hc4)
  sl_step
  rotate_left
  all_goals try delta body_spec.sl.H31_1 body_spec.sl.H31_1_1 body_spec.sl.H32_1 body_spec.sl.H32_1_1 body_spec.sl.H35_2 body_spec.sl.H35_2_1 body_spec.sl.H36_1 body_spec.sl.H37_1 body_spec.sl.r body_spec.sl.r_1 body_spec.sl.r_10 body_spec.sl.r_11 body_spec.sl.r_12 body_spec.sl.r_13 body_spec.sl.r_14 body_spec.sl.r_15 body_spec.sl.r_16 body_spec.sl.r_17 body_spec.sl.r_18 body_spec.sl.r_19 body_spec.sl.r_2 body_spec.sl.r_3 body_spec.sl.r_4 body_spec.sl.r_5 body_spec.sl.r_6 body_spec.sl.r_7 body_spec.sl.r_8 body_spec.sl.r_9 body_spec.sl.v104 body_spec.sl.v104_1 body_spec.sl.v104_2 body_spec.sl.v104_3 body_spec.sl.v105 body_spec.sl.v105_1 body_spec.sl.v105_2 body_spec.sl.v105_3 body_spec.sl.v112 body_spec.sl.v115 body_spec.sl.v122 body_spec.sl.v122_1 body_spec.sl.v129 body_spec.sl.v129_1 body_spec.sl.v168 body_spec.sl.v168_1
  all_goals
    iapply HQ
    isplitl [H2]
    · unfold owns; iexists _; isplitr; swap; · iexact H2
      ipureintro; first | exact h2 | (refine h2.trans ?_; rfl)
    isplitl [H3]
    · unfold owns; iexists _; isplitr; swap; · iexact H3
      ipureintro; first | exact h3 | (refine h3.trans ?_; rfl)
    isplitl [H4]
    · unfold owns; iexists _; isplitr; swap; · iexact H4
      ipureintro; first | exact h4 | (refine h4.trans ?_; rfl)
    isplitl [H5]
    · unfold owns; iexists _; isplitr; swap; · iexact H5
      ipureintro; first | exact h5 | (refine h5.trans ?_; rfl)
    isplitl [H6]
    · unfold owns; iexists _; isplitr; swap; · iexact H6
      ipureintro; first | exact h6 | (refine h6.trans ?_; rfl)
    isplitl [H7]
    · unfold owns; iexists _; isplitr; swap; · iexact H7
      ipureintro; first | exact h7 | (refine h7.trans ?_; rfl)
    isplitl [H8]
    · unfold owns; iexists _; isplitr; swap; · iexact H8
      ipureintro; first | exact h8 | (refine h8.trans ?_; rfl)
    isplitl [H9]
    · unfold owns; iexists _; isplitr; swap; · iexact H9
      ipureintro; first | exact h9 | (refine h9.trans ?_; rfl)
    isplitl [H10]
    · unfold owns; iexists _; isplitr; swap; · iexact H10
      ipureintro; first | exact h10 | (refine h10.trans ?_; rfl)
    isplitl [H11]
    · unfold owns; iexists _; isplitr; swap; · iexact H11
      ipureintro; first | exact h11 | (refine h11.trans ?_; rfl)
    isplitl [H12]
    · unfold owns; iexists _; isplitr; swap; · iexact H12
      ipureintro; first | exact h12 | (refine h12.trans ?_; rfl)
    isplitl [H13]
    · unfold owns; iexists _; isplitr; swap; · iexact H13
      ipureintro; first | exact h13 | (refine h13.trans ?_; rfl)
    isplitl [H14]
    · unfold owns; iexists _; isplitr; swap; · iexact H14
      ipureintro; first | exact h14 | (refine h14.trans ?_; rfl)
    isplitl [H15]
    · unfold owns; iexists _; isplitr; swap; · iexact H15
      ipureintro; first | (refine (View.read_writes_full _ _ _ _ _).trans ?_; (try simp only [r2, r3, r4, r5, r6, r7, r8, r9, r10, r11, r12, r13, r14, r15, r16, r17, r18, r19, r20, r21, r22, r23, r24, r25, r26, r27, r28, r29, r30, r31, r32, r33, r34, r36, r37]); (repeat first | rw [View.readCov_full] | rw [cov_slot] | rw [cov_at]); (try dsimp only [expertSt, firstSt, tileSt, combineSt, finishSt, tA, tR, tH, tD, sc, sc4, slotRow]); first | done | rfl) | (exact h15.trans e15.symm)
    isplitl [H16]
    · unfold owns; iexists _; isplitr; swap; · iexact H16
      ipureintro; first | (refine (View.read_writes_full _ _ _ _ _).trans ?_; (try simp only [r2, r3, r4, r5, r6, r7, r8, r9, r10, r11, r12, r13, r14, r15, r16, r17, r18, r19, r20, r21, r22, r23, r24, r25, r26, r27, r28, r29, r30, r31, r32, r33, r34, r36, r37]); (repeat first | rw [View.readCov_full] | rw [cov_slot] | rw [cov_at]); (try dsimp only [expertSt, firstSt, tileSt, combineSt, finishSt, tA, tR, tH, tD, sc, sc4, slotRow]); first | done | rfl) | (exact h16.trans e16.symm)
    isplitl [H17]
    · unfold owns; iexists _; isplitr; swap; · iexact H17
      ipureintro; refine (View.read_writes_full _ _ _ _ _).trans ?_; (try simp only [r2, r3, r4, r5, r6, r7, r8, r9, r10, r11, r12, r13, r14, r15, r16, r17, r18, r19, r20, r21, r22, r23, r24, r25, r26, r27, r28, r29, r30, r31, r32, r33, r34, r36, r37]); (repeat first | rw [View.readCov_full] | rw [cov_slot] | rw [cov_at]); (try dsimp only [expertSt, firstSt, tileSt, combineSt, finishSt, tA, tR, tH, tD, sc, sc4, slotRow]); first | done | rfl
    isplitl [H18]
    · unfold owns; iexists _; isplitr; swap; · iexact H18
      ipureintro; refine (View.read_writes_full _ _ _ _ _).trans ?_; (try simp only [r2, r3, r4, r5, r6, r7, r8, r9, r10, r11, r12, r13, r14, r15, r16, r17, r18, r19, r20, r21, r22, r23, r24, r25, r26, r27, r28, r29, r30, r31, r32, r33, r34, r36, r37]); (repeat first | rw [View.readCov_full] | rw [cov_slot] | rw [cov_at]); (try dsimp only [expertSt, firstSt, tileSt, combineSt, finishSt, tA, tR, tH, tD, sc, sc4, slotRow]); first | done | rfl
    isplitl [H19]
    · unfold owns; iexists _; isplitr; swap; · iexact H19
      ipureintro; first | (refine (View.read_writes_full _ _ _ _ _).trans ?_; (try simp only [r2, r3, r4, r5, r6, r7, r8, r9, r10, r11, r12, r13, r14, r15, r16, r17, r18, r19, r20, r21, r22, r23, r24, r25, r26, r27, r28, r29, r30, r31, r32, r33, r34, r36, r37]); (repeat first | rw [View.readCov_full] | rw [cov_slot] | rw [cov_at]); (try dsimp only [expertSt, firstSt, tileSt, combineSt, finishSt, tA, tR, tH, tD, sc, sc4, slotRow]); first | done | rfl) | (first | exact h19 | (refine h19.trans ?_; rfl))
    isplitl [H20]
    · unfold owns; iexists _; isplitr; swap; · iexact H20
      ipureintro; first | exact h20 | (refine h20.trans ?_; rfl)
    isplitl [H21]
    · unfold owns; iexists _; isplitr; swap; · iexact H21
      ipureintro; first | exact h21 | (refine h21.trans ?_; rfl)
    isplitl [H22]
    · unfold owns; iexists _; isplitr; swap; · iexact H22
      ipureintro; refine (View.read_writes_full _ _ _ _ _).trans ?_; (try simp only [r2, r3, r4, r5, r6, r7, r8, r9, r10, r11, r12, r13, r14, r15, r16, r17, r18, r19, r20, r21, r22, r23, r24, r25, r26, r27, r28, r29, r30, r31, r32, r33, r34, r36, r37]); (repeat first | rw [View.readCov_full] | rw [cov_slot] | rw [cov_at]); (try dsimp only [expertSt, firstSt, tileSt, combineSt, finishSt, tA, tR, tH, tD, sc, sc4, slotRow]); first | done | rfl
    isplitl [H23]
    · unfold owns; iexists _; isplitr; swap; · iexact H23
      ipureintro; refine (View.read_writes_full _ _ _ _ _).trans ?_; (try simp only [r2, r3, r4, r5, r6, r7, r8, r9, r10, r11, r12, r13, r14, r15, r16, r17, r18, r19, r20, r21, r22, r23, r24, r25, r26, r27, r28, r29, r30, r31, r32, r33, r34, r36, r37]); (repeat first | rw [View.readCov_full] | rw [cov_slot] | rw [cov_at]); (try dsimp only [expertSt, firstSt, tileSt, combineSt, finishSt, tA, tR, tH, tD, sc, sc4, slotRow]); first | done | rfl
    isplitl [H24]
    · unfold owns; iexists _; isplitr; swap; · iexact H24
      ipureintro; first | exact h24 | (refine h24.trans ?_; rfl)
    isplitl [H25]
    · unfold owns; iexists _; isplitr; swap; · iexact H25
      ipureintro; first | exact h25 | (refine h25.trans ?_; rfl)
    isplitl [H26]
    · unfold owns; iexists _; isplitr; swap; · iexact H26
      ipureintro; refine (View.read_writes_full _ _ _ _ _).trans ?_; (try simp only [r2, r3, r4, r5, r6, r7, r8, r9, r10, r11, r12, r13, r14, r15, r16, r17, r18, r19, r20, r21, r22, r23, r24, r25, r26, r27, r28, r29, r30, r31, r32, r33, r34, r36, r37]); (repeat first | rw [View.readCov_full] | rw [cov_slot] | rw [cov_at]); (try dsimp only [expertSt, firstSt, tileSt, combineSt, finishSt, tA, tR, tH, tD, sc, sc4, slotRow]); first | done | rfl
    isplitl [H27]
    · unfold owns; iexists _; isplitr; swap; · iexact H27
      ipureintro; refine (View.read_writes_full _ _ _ _ _).trans ?_; (try simp only [r2, r3, r4, r5, r6, r7, r8, r9, r10, r11, r12, r13, r14, r15, r16, r17, r18, r19, r20, r21, r22, r23, r24, r25, r26, r27, r28, r29, r30, r31, r32, r33, r34, r36, r37]); (repeat first | rw [View.readCov_full] | rw [cov_slot] | rw [cov_at]); (try dsimp only [expertSt, firstSt, tileSt, combineSt, finishSt, tA, tR, tH, tD, sc, sc4, slotRow]); first | done | rfl
    isplitl [H28]
    · unfold owns; iexists _; isplitr; swap; · iexact H28
      ipureintro; first | exact h28 | (refine h28.trans ?_; rfl)
    isplitl [H29]
    · unfold owns; iexists _; isplitr; swap; · iexact H29
      ipureintro; first | exact h29 | (refine h29.trans ?_; rfl)
    isplitl [H30]
    · unfold owns; iexists _; isplitr; swap; · iexact H30
      ipureintro; first | exact h30 | (refine h30.trans ?_; rfl)
    isplitl [H31]
    · unfold owns; iexists _; isplitr; swap; · iexact H31
      ipureintro; refine (View.read_writes_full _ _ _ _ _).trans ?_; (try simp only [r2, r3, r4, r5, r6, r7, r8, r9, r10, r11, r12, r13, r14, r15, r16, r17, r18, r19, r20, r21, r22, r23, r24, r25, r26, r27, r28, r29, r30, r31, r32, r33, r34, r36, r37]); (repeat first | rw [View.readCov_full] | rw [cov_slot] | rw [cov_at]); (try dsimp only [expertSt, firstSt, tileSt, combineSt, finishSt, tA, tR, tH, tD, sc, sc4, slotRow]); first | done | rfl
    isplitl [H32]
    · unfold owns; iexists _; isplitr; swap; · iexact H32
      ipureintro; refine (View.read_writes_full _ _ _ _ _).trans ?_; (try simp only [r2, r3, r4, r5, r6, r7, r8, r9, r10, r11, r12, r13, r14, r15, r16, r17, r18, r19, r20, r21, r22, r23, r24, r25, r26, r27, r28, r29, r30, r31, r32, r33, r34, r36, r37]); (repeat first | rw [View.readCov_full] | rw [cov_slot] | rw [cov_at]); (try dsimp only [expertSt, firstSt, tileSt, combineSt, finishSt, tA, tR, tH, tD, sc, sc4, slotRow]); first | done | rfl
    isplitl [H33]
    · unfold owns; iexists _; isplitr; swap; · iexact H33
      ipureintro; first | exact h33 | (refine h33.trans ?_; rfl)
    isplitl [H34]
    · unfold owns; iexists _; isplitr; swap; · iexact H34
      ipureintro; first | exact h34 | (refine h34.trans ?_; rfl)
    isplitl [H36]
    · unfold owns; iexists _; isplitr; swap; · iexact H36
      ipureintro; first | (refine (View.read_writes_full _ _ _ _ _).trans ?_; (try simp only [r2, r3, r4, r5, r6, r7, r8, r9, r10, r11, r12, r13, r14, r15, r16, r17, r18, r19, r20, r21, r22, r23, r24, r25, r26, r27, r28, r29, r30, r31, r32, r33, r34, r36, r37]); (repeat first | rw [View.readCov_full] | rw [cov_slot] | rw [cov_at]); (try dsimp only [expertSt, firstSt, tileSt, combineSt, finishSt, tA, tR, tH, tD, sc, sc4, slotRow]); first | done | rfl) | (first | exact h36 | (refine h36.trans ?_; rfl))
    isplitl [H37]
    · unfold owns; iexists _; isplitr; swap; · iexact H37
      ipureintro; first | (refine (View.read_writes_full _ _ _ _ _).trans ?_; (try simp only [r2, r3, r4, r5, r6, r7, r8, r9, r10, r11, r12, r13, r14, r15, r16, r17, r18, r19, r20, r21, r22, r23, r24, r25, r26, r27, r28, r29, r30, r31, r32, r33, r34, r36, r37]); (repeat first | rw [View.readCov_full] | rw [cov_slot] | rw [cov_at]); (try dsimp only [expertSt, firstSt, tileSt, combineSt, finishSt, tA, tR, tH, tD, sc, sc4, slotRow]); first | done | rfl) | (first | exact h37 | (refine h37.trans ?_; rfl))
    iexists _; unfold owns; iexists _; isplitr; swap; · iexact H35
    ipureintro; rfl

end Cert.KernelIdeal.Hand
end
-- ==== Proof.Data.lean ====
module

public import proofs.«01_k».proof.Proof.Body
public import Idealize.ShloMosaic.Lib.Pipeline.TableIdle
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- When the body's condition 1 holds, by the point's number. -/
theorem hc1 : ∀ t : Fin cfg0.N, k0_cond1 (grid0.coords t) = 1#1 ↔ t.val % 24 = 0 :=
  (fun t => by
    have ht : t.val < 24 := Nat.lt_of_lt_of_eq t.isLt N_0
    have e0 : (grid0.coords t 0).val = t.val / 6 % 4 := Pipeline.Grid.coords_val t 0 (by decide) rfl
    have e1 : (grid0.coords t 1).val = t.val / 1 % 6 := Pipeline.Grid.coords_val t 1 (by decide) rfl
    simp only [k0_cond1, e0, e1]
    word_cmp
   : ∀ t : Fin grid0.N, k0_cond1 (grid0.coords t) = 1#1 ↔ t.val % 24 = 0)

/-- When the body's condition 2 holds, by the point's number. -/
theorem hc2 : ∀ t : Fin cfg0.N, k0_cond2 (grid0.coords t) = 1#1 ↔ t.val % 6 = 0 :=
  (fun t => by
    have ht : t.val < 24 := Nat.lt_of_lt_of_eq t.isLt N_0
    have e0 : (grid0.coords t 0).val = t.val / 6 % 4 := Pipeline.Grid.coords_val t 0 (by decide) rfl
    have e1 : (grid0.coords t 1).val = t.val / 1 % 6 := Pipeline.Grid.coords_val t 1 (by decide) rfl
    simp only [k0_cond2, e0, e1]
    word_cmp
   : ∀ t : Fin grid0.N, k0_cond2 (grid0.coords t) = 1#1 ↔ t.val % 6 = 0)

/-- When the body's condition 3 holds, by the point's number. -/
theorem hc3 : ∀ t : Fin cfg0.N, k0_cond3 (grid0.coords t) = 1#1 ↔ t.val % 6 = 5 :=
  (fun t => by
    have ht : t.val < 24 := Nat.lt_of_lt_of_eq t.isLt N_0
    have e0 : (grid0.coords t 0).val = t.val / 6 % 4 := Pipeline.Grid.coords_val t 0 (by decide) rfl
    have e1 : (grid0.coords t 1).val = t.val / 1 % 6 := Pipeline.Grid.coords_val t 1 (by decide) rfl
    simp only [k0_cond3, e0, e1]
    word_cmp
   : ∀ t : Fin grid0.N, k0_cond3 (grid0.coords t) = 1#1 ↔ t.val % 6 = 5)

/-- When the body's condition 4 holds, by the point's number. -/
theorem hc4 : ∀ t : Fin cfg0.N, k0_cond4 (grid0.coords t) = 1#1 ↔ t.val % 24 = 23 :=
  (fun t => by
    have ht : t.val < 24 := Nat.lt_of_lt_of_eq t.isLt N_0
    have e0 : (grid0.coords t 0).val = t.val / 6 % 4 := Pipeline.Grid.coords_val t 0 (by decide) rfl
    have e1 : (grid0.coords t 1).val = t.val / 1 % 6 := Pipeline.Grid.coords_val t 1 (by decide) rfl
    simp only [k0_cond4, e0, e1]
    word_cmp
   : ∀ t : Fin grid0.N, k0_cond4 (grid0.coords t) = 1#1 ↔ t.val % 24 = 23)

/-- The points at which output window 13 is idle. -/
theorem idle_13 (t : Fin cfg0.N) : cfg0.idle 13 (grid0.coords t) = true ↔ t.val % 24 ≠ 23 := by
  rw [show cfg0.idle 13 (grid0.coords t) = (fun i => !(k0_cond4 i == 1#1)) (grid0.coords t) from rfl]
  simp [hc1, hc2, hc3, hc4]

/-- The points at which output window 14 is idle. -/
theorem idle_14 (t : Fin cfg0.N) : cfg0.idle 14 (grid0.coords t) = true ↔ t.val % 24 ≠ 23 := by
  rw [show cfg0.idle 14 (grid0.coords t) = (fun i => !(k0_cond4 i == 1#1)) (grid0.coords t) from rfl]
  simp [hc1, hc2, hc3, hc4]

/-- The points at which output window 17 is idle. -/
theorem idle_17 (t : Fin cfg0.N) : cfg0.idle 17 (grid0.coords t) = true ↔ (t.val % 24 ≠ 0 ∧ t.val % 6 ≠ 5) := by
  rw [show cfg0.idle 17 (grid0.coords t) = (fun i => !(k0_cond1 i == 1#1) && !(k0_cond3 i == 1#1)) (grid0.coords t) from rfl]
  simp [hc1, hc2, hc3, hc4]

/-- The points at which output window 18 is idle. -/
theorem idle_18 (t : Fin cfg0.N) : cfg0.idle 18 (grid0.coords t) = true ↔ t.val % 24 ≠ 0 := by
  rw [show cfg0.idle 18 (grid0.coords t) = (fun i => !(k0_cond1 i == 1#1)) (grid0.coords t) from rfl]
  simp [hc1, hc2, hc3, hc4]

/-- The points at which output window 19 is idle. -/
theorem idle_19 (t : Fin cfg0.N) : cfg0.idle 19 (grid0.coords t) = true ↔ t.val % 24 ≠ 0 := by
  rw [show cfg0.idle 19 (grid0.coords t) = (fun i => !(k0_cond1 i == 1#1)) (grid0.coords t) from rfl]
  simp [hc1, hc2, hc3, hc4]

/-- The points at which output window 22 is idle. -/
theorem idle_22 (t : Fin cfg0.N) : cfg0.idle 22 (grid0.coords t) = true ↔ t.val % 6 ≠ 0 := by
  rw [show cfg0.idle 22 (grid0.coords t) = (fun i => !(k0_cond2 i == 1#1)) (grid0.coords t) from rfl]
  simp [hc1, hc2, hc3, hc4]

/-- The points at which output window 23 is idle. -/
theorem idle_23 (t : Fin cfg0.N) : cfg0.idle 23 (grid0.coords t) = true ↔ (t.val % 24 ≠ 0 ∧ t.val % 6 ≠ 0) := by
  rw [show cfg0.idle 23 (grid0.coords t) = (fun i => !(k0_cond1 i == 1#1) && !(k0_cond2 i == 1#1)) (grid0.coords t) from rfl]
  simp [hc1, hc2, hc3, hc4]

/-- A window written back at the last point of every `P` and stored into at the first of every `P` holds nothing of the body's exactly at the latter. -/
theorem fresh_at (w : Fin cfg0.W) (P : ℕ) (hP : P = 6 ∨ P = 24) (hfl : ∀ t : Fin cfg0.N, (cfg0.win w).flush t = true ↔ t.val % P = P - 1)
    (hlive : ∀ t : Fin cfg0.N, t.val % P = 0 → cfg0.idle w (cfg0.grid.coords t) = false) (t : Fin cfg0.N) : cfg0.fresh w t.val = decide (t.val % P = 0) := by
  refine cfg0.fresh_tab w (fun n => decide (n % P = 0)) (by simp) (fun t => ?_) t.val t.isLt.le
  rw [Bool.eq_iff_iff, Bool.or_eq_true, hfl, Bool.and_eq_true, decide_eq_true_eq, decide_eq_true_eq]
  constructor
  · intro h; left; rcases hP with rfl | rfl <;> omega
  · rintro (h | ⟨h, h'⟩)
    · rcases hP with rfl | rfl <;> omega
    · rw [hlive t h'] at h; exact absurd h (by decide)

/-- Some contents of the buffers, for what nothing has been stored in yet. -/
def junk : St F := ⟨fun _ => Scalar.ofBits .bf16 0#16, fun _ => Scalar.ofBits .bf16 0#16, fun _ => Scalar.ofBits .bf16 0#16, fun _ => Scalar.ofBits .bf16 0#16, fun _ => Scalar.ofBits .f32 0#32, fun _ => Scalar.ofBits .fp8e4m3 0#8, fun _ => Scalar.ofBits .f32 0#32, fun _ => Scalar.ofBits .fp8e4m3 0#8, fun _ => Scalar.ofBits .f32 0#32, fun _ => Scalar.ofBits .fp8e5m2 0#8, fun _ => Scalar.ofBits .f32 0#32, fun _ => Scalar.ofBits .fp8e5m2 0#8, fun _ => Scalar.ofBits .f32 0#32, fun _ => Scalar.ofBits .fp8e4m3 0#8, fun _ => Scalar.ofBits .fp8e5m2 0#8, fun _ => Scalar.ofBits .fp8e4m3 0#8, fun _ => Scalar.ofBits .f32 0#32, fun _ => Scalar.ofBits .f32 0#32, fun _ => Scalar.ofBits .f32 0#32, fun _ => Scalar.ofBits .f32 0#32, fun _ => Scalar.ofBits .f32 0#32, fun _ => Scalar.ofBits .f32 0#32⟩

variable (m : (ℓ : Loc nD τ sig) → Buf (Elt F) ℓ) (ρ : Dev nD → PrngReg)

/-- The input windows' blocks at a point. -/
def Ipt (c : Dev nD) (t : Fin cfg0.N) : In F :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t⟩

/-- The buffers before point `n`: the steps of the points before it, from anything. -/
def S (c : Dev nD) : ℕ → St F
  | 0 => junk
  | n + 1 => if h : n < cfg0.N then step (grid0.coords ⟨n, h⟩) (Ipt m c ⟨n, h⟩) (S c n) else S c n

theorem S_succ (c : Dev nD) (t : Fin cfg0.N) : S m c (t.val + 1) = step (grid0.coords t) (Ipt m c t) (S m c t.val) := by
  rw [S, dif_pos t.isLt]

/-- The scratch buffers at a state, the slot row at anything, and the generator register at some state. -/
def Scr (c : Dev nD) (s : St F) : sProp 𝕄 :=
  iprop(iprop(owns (c : Thread nD τ) (Memref.whole cc0_scratch0) fullShare (s).xs ∗ owns (c : Thread nD τ) (Memref.whole cc0_scratch1) fullShare (s).dO ∗ owns (c : Thread nD τ) (Memref.whole cc0_scratch2) fullShare (s).xst ∗ owns (c : Thread nD τ) (Memref.whole cc0_scratch3) fullShare (s).o ∗ owns (c : Thread nD τ) (Memref.whole cc0_scratch4) fullShare (s).dxs ∗ owns (c : Thread nD τ) (Memref.whole cc0_scratch5) fullShare (s).dyg ∗ owns (c : Thread nD τ) (Memref.whole cc0_scratch6) fullShare (s).gs ∗ (∃ d, owns (c : Thread nD τ) (Memref.whole cc0_scratch7 : Memref sig .tc .vmem S1x128 .i32) fullShare d) ∗ owns (c : Thread nD τ) (Memref.whole cc0_scratch8) fullShare (s).yacc ∗ owns (c : Thread nD τ) (Memref.whole cc0_scratch9) fullShare (s).dxacc) ∗ (∃ r, prngReg c r))

/-- The scratch buffers and the generator register at anything, from the region's own statement of them. -/
theorem PhiA_eq (c : Dev nD) :
    (Pipeline.ΦA spec0 c : sProp 𝕄) = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d) ∗ (∃ d, owns (c : Thread nD τ) (Memref.whole cc0_scratch8) fullShare d) ∗ (∃ d, owns (c : Thread nD τ) (Memref.whole cc0_scratch9) fullShare d)) ∗ (∃ r, prngReg c r)) := by
  unfold Pipeline.ΦA; rw [scopedRest0_eq]; simp only [owns_whole]; try rfl

/-- At some state, then, -/
theorem Scr_of (c : Dev nD) : (Pipeline.ΦA spec0 c : sProp 𝕄) ⊢ iprop(∃ s : St F, Scr c s) := by
  rw [PhiA_eq]
  iintro ⟨⟨⟨%d0, H0⟩, ⟨%d1, H1⟩, ⟨%d2, H2⟩, ⟨%d3, H3⟩, ⟨%d4, H4⟩, ⟨%d5, H5⟩, ⟨%d6, H6⟩, H7, ⟨%d8, H8⟩, ⟨%d9, H9⟩⟩, Hg⟩
  iexists { (junk : St F) with xs := d0, dO := d1, xst := d2, o := d3, dxs := d4, dyg := d5, gs := d6, yacc := d8, dxacc := d9 }
  unfold Scr
  isplitr [Hg]; swap; · iexact Hg
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- and back. -/
theorem of_Scr (c : Dev nD) (s : St F) : Scr c s ⊢ (Pipeline.ΦA spec0 c : sProp 𝕄) := by
  rw [PhiA_eq]; unfold Scr
  iintro ⟨⟨H0, H1, H2, H3, H4, H5, H6, H7, H8, H9⟩, Hg⟩
  isplitr [Hg]; swap; · iexact Hg
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexact H7
  isplitl [H8]; · iexists _; iexact H8
  iexists _; iexact H9

/-- The region's invariant: anything before the first point, then the scratch at the state the point before left. -/
def Phi (c : Dev nD) (n : ℕ) : sProp 𝕄 := if n = 0 then Pipeline.ΦA spec0 c else Scr c (S m c n)

/-- The pipeline's proof data: every output buffer after a point as the state after the point says. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => (S m c (t.val + 1)).y
    | ⟨14, _⟩ => (S m c (t.val + 1)).dx
    | ⟨15, _⟩ => (S m c (t.val + 1)).dw1
    | ⟨16, _⟩ => (S m c (t.val + 1)).dw2
    | ⟨17, _⟩ => (S m c (t.val + 1)).dgate
    | ⟨18, _⟩ => (S m c (t.val + 1)).xc
    | ⟨19, _⟩ => (S m c (t.val + 1)).ax
    | ⟨20, _⟩ => (S m c (t.val + 1)).h
    | ⟨21, _⟩ => (S m c (t.val + 1)).ah
    | ⟨22, _⟩ => (S m c (t.val + 1)).doc
    | ⟨23, _⟩ => (S m c (t.val + 1)).ado
    | ⟨24, _⟩ => (S m c (t.val + 1)).da
    | ⟨25, _⟩ => (S m c (t.val + 1)).ada
    | ⟨_ + 26, h⟩ => absurd h (Nat.not_lt.2 (Nat.le_add_left _ _))
  Φ t := Phi m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = (S m c (t.val + 1)).y := by dsimp only [dats]
theorem after_14 (c : Dev nD) (t : Fin cfg0.N) : (dats m 0 c).after 14 t = (S m c (t.val + 1)).dx := by dsimp only [dats]
theorem after_15 (c : Dev nD) (t : Fin cfg0.N) : (dats m 0 c).after 15 t = (S m c (t.val + 1)).dw1 := by dsimp only [dats]
theorem after_16 (c : Dev nD) (t : Fin cfg0.N) : (dats m 0 c).after 16 t = (S m c (t.val + 1)).dw2 := by dsimp only [dats]
theorem after_17 (c : Dev nD) (t : Fin cfg0.N) : (dats m 0 c).after 17 t = (S m c (t.val + 1)).dgate := by dsimp only [dats]
theorem after_18 (c : Dev nD) (t : Fin cfg0.N) : (dats m 0 c).after 18 t = (S m c (t.val + 1)).xc := by dsimp only [dats]
theorem after_19 (c : Dev nD) (t : Fin cfg0.N) : (dats m 0 c).after 19 t = (S m c (t.val + 1)).ax := by dsimp only [dats]
theorem after_20 (c : Dev nD) (t : Fin cfg0.N) : (dats m 0 c).after 20 t = (S m c (t.val + 1)).h := by dsimp only [dats]
theorem after_21 (c : Dev nD) (t : Fin cfg0.N) : (dats m 0 c).after 21 t = (S m c (t.val + 1)).ah := by dsimp only [dats]
theorem after_22 (c : Dev nD) (t : Fin cfg0.N) : (dats m 0 c).after 22 t = (S m c (t.val + 1)).doc := by dsimp only [dats]
theorem after_23 (c : Dev nD) (t : Fin cfg0.N) : (dats m 0 c).after 23 t = (S m c (t.val + 1)).ado := by dsimp only [dats]
theorem after_24 (c : Dev nD) (t : Fin cfg0.N) : (dats m 0 c).after 24 t = (S m c (t.val + 1)).da := by dsimp only [dats]
theorem after_25 (c : Dev nD) (t : Fin cfg0.N) : (dats m 0 c).after 25 t = (S m c (t.val + 1)).ada := by dsimp only [dats]
theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d
theorem before_5 (c : Dev nD) (t : Fin cfg0.N) (d) : (dats m 0 c).before 5 t d = iblk m c 5 t := before0_5_of m (dats m 0 c) (A_eq m c 5) (after_5 m c) t d
theorem before_6 (c : Dev nD) (t : Fin cfg0.N) (d) : (dats m 0 c).before 6 t d = iblk m c 6 t := before0_6_of m (dats m 0 c) (A_eq m c 6) (after_6 m c) t d
theorem before_7 (c : Dev nD) (t : Fin cfg0.N) (d) : (dats m 0 c).before 7 t d = iblk m c 7 t := before0_7_of m (dats m 0 c) (A_eq m c 7) (after_7 m c) t d
theorem before_8 (c : Dev nD) (t : Fin cfg0.N) (d) : (dats m 0 c).before 8 t d = iblk m c 8 t := before0_8_of m (dats m 0 c) (A_eq m c 8) (after_8 m c) t d
theorem before_9 (c : Dev nD) (t : Fin cfg0.N) (d) : (dats m 0 c).before 9 t d = iblk m c 9 t := before0_9_of m (dats m 0 c) (A_eq m c 9) (after_9 m c) t d
theorem before_10 (c : Dev nD) (t : Fin cfg0.N) (d) : (dats m 0 c).before 10 t d = iblk m c 10 t := before0_10_of m (dats m 0 c) (A_eq m c 10) (after_10 m c) t d
theorem before_11 (c : Dev nD) (t : Fin cfg0.N) (d) : (dats m 0 c).before 11 t d = iblk m c 11 t := before0_11_of m (dats m 0 c) (A_eq m c 11) (after_11 m c) t d
theorem before_12 (c : Dev nD) (t : Fin cfg0.N) (d) : (dats m 0 c).before 12 t d = iblk m c 12 t := before0_12_of m (dats m 0 c) (A_eq m c 12) (after_12 m c) t d

/-- A point leaves what it does not store into as it was. -/
theorem keep_dgate {i : grid0.Coords} (h1 : ¬k0_cond1 i = 1#1) (h3 : ¬k0_cond3 i = 1#1) (I : In F) (s : St F) : (step i I s).dgate = s.dgate := by
  unfold step fin prep; simp only [h1, h3, if_false, dif_neg, not_false_eq_true]; split <;> split <;> rfl
theorem keep_xc {i : grid0.Coords} (h1 : ¬k0_cond1 i = 1#1) (I : In F) (s : St F) : (step i I s).xc = s.xc := by
  unfold step fin prep; simp only [h1, if_false]; split <;> split <;> (try split) <;> rfl
theorem keep_ax {i : grid0.Coords} (h1 : ¬k0_cond1 i = 1#1) (I : In F) (s : St F) : (step i I s).ax = s.ax := by
  unfold step fin prep; simp only [h1, if_false]; split <;> split <;> (try split) <;> rfl
theorem keep_ado {i : grid0.Coords} (h1 : ¬k0_cond1 i = 1#1) (h2 : ¬k0_cond2 i = 1#1) (I : In F) (s : St F) : (step i I s).ado = s.ado := by
  unfold step fin prep; simp only [h1, h2, if_false]; split <;> split <;> rfl
theorem keep_doc {i : grid0.Coords} (h2 : ¬k0_cond2 i = 1#1) (I : In F) (s : St F) : (step i I s).doc = s.doc := by
  unfold step fin prep; simp only [h2, if_false]; split <;> split <;> (try split) <;> rfl

/-- The state before a point that is not the first, as the step of the point before it. -/
theorem S_pred (c : Dev nD) (t : Fin cfg0.N) (h : t.val ≠ 0) : S m c (t.val - 1 + 1) = S m c t.val := by
  rw [Nat.sub_add_cancel (Nat.one_le_iff_ne_zero.mpr h)]

/-- What output window 17's buffer holds when the body starts: what the point before left. -/
theorem before_17 (c : Dev nD) (t : Fin cfg0.N) (ht : t.val % 24 ≠ 0) (d) : (dats m 0 c).before 17 t d = (S m c t.val).dgate := by
  have h0 : t.val ≠ 0 := by omega
  rw [(dats m 0 c).before_out_traj 17 rfl (fun _ _ => rfl) (fun t h0 hi _ => by
      have hi' := (idle_17 t).mp hi
      rw [after_17, after_17, S_pred m c t h0, S_succ]; exact keep_dgate (by rw [hc1]; omega) (by rw [hc3]; omega) _ _) t.val t rfl d,
    fresh_at 17 24 (by decide) flush0_17 (fun t ht => by rw [← Bool.not_eq_true, show (cfg0.grid.coords t) = grid0.coords t from rfl, idle_17]; omega) t, decide_eq_false ht, if_neg Bool.false_ne_true, after_17]
  exact congrArg St.dgate (S_pred m c t h0)

/-- What output window 18's buffer holds when the body starts: what the point before left. -/
theorem before_18 (c : Dev nD) (t : Fin cfg0.N) (ht : t.val % 24 ≠ 0) (d) : (dats m 0 c).before 18 t d = (S m c t.val).xc := by
  have h0 : t.val ≠ 0 := by omega
  rw [(dats m 0 c).before_out_traj 18 rfl (fun _ _ => rfl) (fun t h0 hi _ => by
      have hi' := (idle_18 t).mp hi
      rw [after_18, after_18, S_pred m c t h0, S_succ]; exact keep_xc (by rw [hc1]; omega) _ _) t.val t rfl d,
    fresh_at 18 24 (by decide) flush0_18 (fun t ht => by rw [← Bool.not_eq_true, show (cfg0.grid.coords t) = grid0.coords t from rfl, idle_18]; omega) t, decide_eq_false ht, if_neg Bool.false_ne_true, after_18]
  exact congrArg St.xc (S_pred m c t h0)

/-- What output window 19's buffer holds when the body starts: what the point before left. -/
theorem before_19 (c : Dev nD) (t : Fin cfg0.N) (ht : t.val % 24 ≠ 0) (d) : (dats m 0 c).before 19 t d = (S m c t.val).ax := by
  have h0 : t.val ≠ 0 := by omega
  rw [(dats m 0 c).before_out_traj 19 rfl (fun _ _ => rfl) (fun t h0 hi _ => by
      have hi' := (idle_19 t).mp hi
      rw [after_19, after_19, S_pred m c t h0, S_succ]; exact keep_ax (by rw [hc1]; omega) _ _) t.val t rfl d,
    fresh_at 19 24 (by decide) flush0_19 (fun t ht => by rw [← Bool.not_eq_true, show (cfg0.grid.coords t) = grid0.coords t from rfl, idle_19]; omega) t, decide_eq_false ht, if_neg Bool.false_ne_true, after_19]
  exact congrArg St.ax (S_pred m c t h0)

/-- What output window 21's buffer holds when the body starts: what the point before left. -/
theorem before_21 (c : Dev nD) (t : Fin cfg0.N) (ht : t.val % 24 ≠ 0) (d) : (dats m 0 c).before 21 t d = (S m c t.val).ah := by
  have h0 : t.val ≠ 0 := by omega
  rw [(dats m 0 c).before_out_traj 21 rfl (fun _ _ => rfl) (fun t h0 hi _ => absurd (show false = true from hi) (by decide)) t.val t rfl d,
    fresh_at 21 24 (by decide) flush0_21 (fun t ht => rfl) t, decide_eq_false ht, if_neg Bool.false_ne_true, after_21]
  exact congrArg St.ah (S_pred m c t h0)

/-- What output window 22's buffer holds when the body starts: what the point before left. -/
theorem before_22 (c : Dev nD) (t : Fin cfg0.N) (ht : t.val % 6 ≠ 0) (d) : (dats m 0 c).before 22 t d = (S m c t.val).doc := by
  have h0 : t.val ≠ 0 := by omega
  rw [(dats m 0 c).before_out_traj 22 rfl (fun _ _ => rfl) (fun t h0 hi _ => by
      have hi' := (idle_22 t).mp hi
      rw [after_22, after_22, S_pred m c t h0, S_succ]; exact keep_doc (by rw [hc2]; omega) _ _) t.val t rfl d,
    fresh_at 22 6 (by decide) flush0_22 (fun t ht => by rw [← Bool.not_eq_true, show (cfg0.grid.coords t) = grid0.coords t from rfl, idle_22]; omega) t, decide_eq_false ht, if_neg Bool.false_ne_true, after_22]
  exact congrArg St.doc (S_pred m c t h0)

/-- What output window 23's buffer holds when the body starts: what the point before left. -/
theorem before_23 (c : Dev nD) (t : Fin cfg0.N) (ht : t.val % 24 ≠ 0) (d) : (dats m 0 c).before 23 t d = (S m c t.val).ado := by
  have h0 : t.val ≠ 0 := by omega
  rw [(dats m 0 c).before_out_traj 23 rfl (fun _ _ => rfl) (fun t h0 hi _ => by
      have hi' := (idle_23 t).mp hi
      rw [after_23, after_23, S_pred m c t h0, S_succ]; exact keep_ado (by rw [hc1]; omega) (by rw [hc2]; omega) _ _) t.val t rfl d,
    fresh_at 23 24 (by decide) flush0_23 (fun t ht => by rw [← Bool.not_eq_true, show (cfg0.grid.coords t) = grid0.coords t from rfl, idle_23]; omega) t, decide_eq_false ht, if_neg Bool.false_ne_true, after_23]
  exact congrArg St.ado (S_pred m c t h0)

/-- What output window 25's buffer holds when the body starts: what the point before left. -/
theorem before_25 (c : Dev nD) (t : Fin cfg0.N) (ht : t.val % 24 ≠ 0) (d) : (dats m 0 c).before 25 t d = (S m c t.val).ada := by
  have h0 : t.val ≠ 0 := by omega
  rw [(dats m 0 c).before_out_traj 25 rfl (fun _ _ => rfl) (fun t h0 hi _ => absurd (show false = true from hi) (by decide)) t.val t rfl d,
    fresh_at 25 24 (by decide) flush0_25 (fun t ht => rfl) t, decide_eq_false ht, if_neg Bool.false_ne_true, after_25]
  exact congrArg St.ada (S_pred m c t h0)

set_option maxHeartbeats 4000000 in
/-- A point's step from any state that agrees with the point's on what the point reads is the point's, but for the two results that only the last
    point stores. -/
theorem step_pt (c : Dev nD) (t : Fin cfg0.N) (s : St F) (hs : t.val ≠ 0 → s = S m c t.val)
    (b13 : _)
    (b14 : _)
    (b15 : _)
    (b16 : _)
    (b17 : _)
    (b18 : _)
    (b19 : _)
    (b20 : _)
    (b21 : _)
    (b22 : _)
    (b23 : _)
    (b24 : _)
    (b25 : _)
    (h17 : t.val % 24 ≠ 0 → b17 = (S m c t.val).dgate) (h18 : t.val % 24 ≠ 0 → b18 = (S m c t.val).xc) (h19 : t.val % 24 ≠ 0 → b19 = (S m c t.val).ax) (h21 : t.val % 24 ≠ 0 → b21 = (S m c t.val).ah) (h22 : t.val % 6 ≠ 0 → b22 = (S m c t.val).doc) (h23 : t.val % 24 ≠ 0 → b23 = (S m c t.val).ado) (h25 : t.val % 24 ≠ 0 → b25 = (S m c t.val).ada) :
    step (grid0.coords t) (Ipt m c t) { s with y := b13, dx := b14, dw1 := b15, dw2 := b16, dgate := b17, xc := b18, ax := b19, h := b20, ah := b21, doc := b22, ado := b23, da := b24, ada := b25 }
      = { S m c (t.val + 1) with y := if t.val % 24 = 23 then (S m c (t.val + 1)).y else b13, dx := if t.val % 24 = 23 then (S m c (t.val + 1)).dx else b14 } := by
  have hN : t.val < 24 := lt_of_lt_of_eq t.isLt (show cfg0.N = 24 from N_0)
  rw [S_succ]
  generalize hI : Ipt m c t = I
  by_cases h0 : t.val = 0
  · have k1 : k0_cond1 (grid0.coords t) = 1#1 := (hc1 t).mpr (by omega)
    have k2 : k0_cond2 (grid0.coords t) = 1#1 := (hc2 t).mpr (by omega)
    have k3 : ¬k0_cond3 (grid0.coords t) = 1#1 := fun h => by have := (hc3 t).mp h; omega
    have k4 : ¬k0_cond4 (grid0.coords t) = 1#1 := fun h => by have := (hc4 t).mp h; omega
    rw [if_neg (by omega), if_neg (by omega)]
    clear hs h17 h18 h19 h21 h22 h23 h25
    generalize S m c t.val = s₂
    unfold step fin prep
    rw [if_pos k2, if_pos k1, if_neg k4, dif_neg k3, if_pos k2, if_pos k1, if_neg k4, dif_neg k3]
    dsimp only [tileSt, expertSt, firstSt, tA, tR, tH, tD]
  · have k1 : ¬k0_cond1 (grid0.coords t) = 1#1 := fun h => by have := (hc1 t).mp h; omega
    have hm : t.val % 24 ≠ 0 := by omega
    obtain rfl := hs h0
    rw [h17 hm, h18 hm, h19 hm, h21 hm, h23 hm, h25 hm]
    generalize S m c t.val = s at *
    by_cases k2 : k0_cond2 (grid0.coords t) = 1#1
    · have k3 : ¬k0_cond3 (grid0.coords t) = 1#1 := fun h => by have := (hc3 t).mp h; have := (hc2 t).mp k2; omega
      have k4 : ¬k0_cond4 (grid0.coords t) = 1#1 := fun h => by have := (hc4 t).mp h; have := (hc2 t).mp k2; omega
      have n4 : ¬t.val % 24 = 23 := fun h => k4 ((hc4 t).mpr h)
      rw [if_neg n4, if_neg n4]
      unfold step fin prep
      rw [if_pos k2, if_neg k1, if_neg k4, dif_neg k3, if_pos k2, if_neg k1, if_neg k4, dif_neg k3]
      rfl
    · rw [h22 (fun h => k2 ((hc2 t).mpr h))]
      by_cases k3 : k0_cond3 (grid0.coords t) = 1#1
      · by_cases k4 : k0_cond4 (grid0.coords t) = 1#1
        · have n4 : t.val % 24 = 23 := (hc4 t).mp k4
          rw [if_pos n4, if_pos n4]
          unfold step fin prep
          rw [if_neg k2, if_neg k1, if_pos k4, dif_pos k3, if_neg k2, if_neg k1, if_pos k4, dif_pos k3]
          rfl
        · have n4 : ¬t.val % 24 = 23 := fun h => k4 ((hc4 t).mpr h)
          rw [if_neg n4, if_neg n4]
          unfold step fin prep
          rw [if_neg k2, if_neg k1, if_neg k4, dif_pos k3, if_neg k2, if_neg k1, if_neg k4, dif_pos k3]
          rfl
      · have k4 : ¬k0_cond4 (grid0.coords t) = 1#1 := fun h => k3 ((hc3 t).mpr (by have := (hc4 t).mp h; omega))
        have n4 : ¬t.val % 24 = 23 := fun h => k4 ((hc4 t).mpr h)
        rw [if_neg n4, if_neg n4]
        unfold step fin prep
        rw [if_neg k2, if_neg k1, if_neg k4, dif_neg k3, if_neg k2, if_neg k1, if_neg k4, dif_neg k3]
        rfl

/-- An output buffer handed back: at what the state after the point says, or, where the window is idle, as it was found. -/
theorem leaves_of (c : Dev nD) (w : Fin cfg0.W) (t : Fin cfg0.N) (X : (cfg0.win w).block.Idx → Elt F (cfg0.win w).elt)
    (h : cfg0.idle w (cfg0.grid.coords t) = false ∨ (cfg0.win w).flush t = true → X = (dats m 0 c).after w t)
    (h' : cfg0.idle w (cfg0.grid.coords t) = true → (cfg0.win w).flush t = false → ∃ d, X = (dats m 0 c).before w t d) :
    owns (c : Thread nD τ) ((cfg0.win w).stage (cfg0.slots t w)) fullShare X ⊢ ((dats m 0 c).leavesExact w t : sProp 𝕄) := by
  unfold Dat.leavesExact
  cases hi : cfg0.idle w (cfg0.grid.coords t) with
  | false => rw [← h (Or.inl hi)]
  | true =>
    cases hf : (cfg0.win w).flush t with
    | true => rw [← h (Or.inr hf)]
    | false =>
      obtain ⟨d, rfl⟩ := h' hi hf
      iintro H; iexists d; iexact H

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d)))

/-- and what it hands back. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t
    ∗ (dats m 0 c).leavesExact 21 t
    ∗ (dats m 0 c).leavesExact 22 t
    ∗ (dats m 0 c).leavesExact 23 t
    ∗ (dats m 0 c).leavesExact 24 t
    ∗ (dats m 0 c).leavesExact 25 t)

/-- The invariant before a point, as the scratch at a state that is the point's unless the point is the first. -/
theorem Phi_in (c : Dev nD) (n : ℕ) : Phi m c n ⊢ iprop(∃ s : St F, ⌜n ≠ 0 → s = S m c n⌝ ∗ Scr c s) := by
  unfold Phi
  by_cases h : n = 0
  · rw [if_pos h]
    iintro H
    icases (Scr_of c) $$ H with ⟨%s, H⟩
    iexists s
    isplitr; · ipureintro; exact fun h' => absurd h h'
    iexact H
  · rw [if_neg h]
    iintro H; iexists _
    isplitr; swap; · iexact H
    ipureintro; exact fun _ => rfl

set_option maxHeartbeats 4000000 in
/-- The body at any point meets the obligation of the proof data. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  have hN : t.val < 24 := lt_of_lt_of_eq t.isLt (show cfg0.N = 24 from N_0)
  rw [show (dats m 0 c).owesAt () t.succ = (dats m 0 c).owesAt () t.castSucc from rfl]
  rw [show (dats m 0 c).Φ t.succ = Scr c (S m c (t.val + 1)) from by show Phi m c (t.val + 1) = _; exact if_neg (Nat.succ_ne_zero _), show (dats m 0 c).Φ t.castSucc = Phi m c t.val from rfl]
  simp only [before_0, before_1, before_2, before_3, before_4, before_5, before_6, before_7, before_8, before_9, before_10, before_11, before_12]
  iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
  icases (Phi_in m c t.val) $$ HP with ⟨%s, %hs, HS⟩
  unfold Scr
  icases HS with ⟨⟨S0, S1, S2, S3, S4, S5, S6, S7, S8, S9⟩, Hg⟩
  have hst := step_pt m c t s hs ((dats m 0 c).before 13 t d13) ((dats m 0 c).before 14 t d14) ((dats m 0 c).before 15 t d15) ((dats m 0 c).before 16 t d16) ((dats m 0 c).before 17 t d17) ((dats m 0 c).before 18 t d18) ((dats m 0 c).before 19 t d19) ((dats m 0 c).before 20 t d20) ((dats m 0 c).before 21 t d21) ((dats m 0 c).before 22 t d22) ((dats m 0 c).before 23 t d23) ((dats m 0 c).before 24 t d24) ((dats m 0 c).before 25 t d25) (fun h => before_17 m c t h _) (fun h => before_18 m c t h _) (fun h => before_19 m c t h _) (fun h => before_21 m c t h _) (fun h => before_22 m c t h _) (fun h => before_23 m c t h _) (fun h => before_25 m c t h _)
  iapply (body_spec c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ Set.univ _ (Ipt m c t) { s with y := (dats m 0 c).before 13 t d13, dx := (dats m 0 c).before 14 t d14, dw1 := (dats m 0 c).before 15 t d15, dw2 := (dats m 0 c).before 16 t d16, dgate := (dats m 0 c).before 17 t d17, xc := (dats m 0 c).before 18 t d18, ax := (dats m 0 c).before 19 t d19, h := (dats m 0 c).before 20 t d20, ah := (dats m 0 c).before 21 t d21, doc := (dats m 0 c).before 22 t d22, ado := (dats m 0 c).before 23 t d23, da := (dats m 0 c).before 24 t d24, ada := (dats m 0 c).before 25 t d25 })
  rw [hst]; dsimp only
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S8]; · iexact S8
  isplitl [S9]; · iexact S9
  isplitl [S7]; · iexact S7
  iintro ⟨H0, H1, H2, H3, H4, H5, H6, H7, H8, H9, H10, H11, H12, H13, H14, H15, H16, H17, H18, H19, H20, H21, H22, H23, H24, H25, S0, S1, S2, S3, S4, S5, S6, S8, S9, S7⟩
  isplitl [S0 S1 S2 S3 S4 S5 S6 S7 S8 S9 Hg]
  · isplitr [Hg]; swap; · iexact Hg
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    iexact S9
  isplitl [Ho]; · iexact Ho
  isplitl [H0]; · iapply (leaves_of m c 0 t _ (fun _ => (after_0 m c t).symm) (fun h => absurd (show false = true from h) (by decide))); iexact H0
  isplitl [H1]; · iapply (leaves_of m c 1 t _ (fun _ => (after_1 m c t).symm) (fun h => absurd (show false = true from h) (by decide))); iexact H1
  isplitl [H2]; · iapply (leaves_of m c 2 t _ (fun _ => (after_2 m c t).symm) (fun h => absurd (show false = true from h) (by decide))); iexact H2
  isplitl [H3]; · iapply (leaves_of m c 3 t _ (fun _ => (after_3 m c t).symm) (fun h => absurd (show false = true from h) (by decide))); iexact H3
  isplitl [H4]; · iapply (leaves_of m c 4 t _ (fun _ => (after_4 m c t).symm) (fun h => absurd (show false = true from h) (by decide))); iexact H4
  isplitl [H5]; · iapply (leaves_of m c 5 t _ (fun _ => (after_5 m c t).symm) (fun h => absurd (show false = true from h) (by decide))); iexact H5
  isplitl [H6]; · iapply (leaves_of m c 6 t _ (fun _ => (after_6 m c t).symm) (fun h => absurd (show false = true from h) (by decide))); iexact H6
  isplitl [H7]; · iapply (leaves_of m c 7 t _ (fun _ => (after_7 m c t).symm) (fun h => absurd (show false = true from h) (by decide))); iexact H7
  isplitl [H8]; · iapply (leaves_of m c 8 t _ (fun _ => (after_8 m c t).symm) (fun h => absurd (show false = true from h) (by decide))); iexact H8
  isplitl [H9]; · iapply (leaves_of m c 9 t _ (fun _ => (after_9 m c t).symm) (fun h => absurd (show false = true from h) (by decide))); iexact H9
  isplitl [H10]; · iapply (leaves_of m c 10 t _ (fun _ => (after_10 m c t).symm) (fun h => absurd (show false = true from h) (by decide))); iexact H10
  isplitl [H11]; · iapply (leaves_of m c 11 t _ (fun _ => (after_11 m c t).symm) (fun h => absurd (show false = true from h) (by decide))); iexact H11
  isplitl [H12]; · iapply (leaves_of m c 12 t _ (fun _ => (after_12 m c t).symm) (fun h => absurd (show false = true from h) (by decide))); iexact H12
  isplitl [H13]; · iapply (leaves_of m c 13 t (if t.val % 24 = 23 then (S m c (t.val + 1)).y else (dats m 0 c).before 13 t d13) (fun h => (if_pos (by
      rcases h with h | h
      · have h' := mt (idle_13 t).mpr (by rw [show grid0.coords t = cfg0.grid.coords t from rfl, h]; decide); omega
      · exact (flush0_13 t).mp h)).trans (after_13 m c t).symm) (fun h _ => ⟨d13, if_neg (by have := (idle_13 t).mp h; omega)⟩)); iexact H13
  isplitl [H14]; · iapply (leaves_of m c 14 t (if t.val % 24 = 23 then (S m c (t.val + 1)).dx else (dats m 0 c).before 14 t d14) (fun h => (if_pos (by
      rcases h with h | h
      · have h' := mt (idle_14 t).mpr (by rw [show grid0.coords t = cfg0.grid.coords t from rfl, h]; decide); omega
      · exact (flush0_14 t).mp h)).trans (after_14 m c t).symm) (fun h _ => ⟨d14, if_neg (by have := (idle_14 t).mp h; omega)⟩)); iexact H14
  isplitl [H15]; · iapply (leaves_of m c 15 t _ (fun _ => (after_15 m c t).symm) (fun h => absurd (show false = true from h) (by decide))); iexact H15
  isplitl [H16]; · iapply (leaves_of m c 16 t _ (fun _ => (after_16 m c t).symm) (fun h => absurd (show false = true from h) (by decide))); iexact H16
  isplitl [H17]; · iapply (leaves_of m c 17 t _ (fun _ => (after_17 m c t).symm) (fun h _ => ⟨d17, by
      have h' := (idle_17 t).mp h
      rw [before_17 m c t (by omega)]
      show (S m c (t.val + 1)).dgate = _
      rw [S_succ]; exact keep_dgate (by rw [hc1]; omega) (by rw [hc3]; omega) _ _⟩)); iexact H17
  isplitl [H18]; · iapply (leaves_of m c 18 t _ (fun _ => (after_18 m c t).symm) (fun h _ => ⟨d18, by
      have h' := (idle_18 t).mp h
      rw [before_18 m c t (by omega)]
      show (S m c (t.val + 1)).xc = _
      rw [S_succ]; exact keep_xc (by rw [hc1]; omega) _ _⟩)); iexact H18
  isplitl [H19]; · iapply (leaves_of m c 19 t _ (fun _ => (after_19 m c t).symm) (fun h _ => ⟨d19, by
      have h' := (idle_19 t).mp h
      rw [before_19 m c t (by omega)]
      show (S m c (t.val + 1)).ax = _
      rw [S_succ]; exact keep_ax (by rw [hc1]; omega) _ _⟩)); iexact H19
  isplitl [H20]; · iapply (leaves_of m c 20 t _ (fun _ => (after_20 m c t).symm) (fun h => absurd (show false = true from h) (by decide))); iexact H20
  isplitl [H21]; · iapply (leaves_of m c 21 t _ (fun _ => (after_21 m c t).symm) (fun h => absurd (show false = true from h) (by decide))); iexact H21
  isplitl [H22]; · iapply (leaves_of m c 22 t _ (fun _ => (after_22 m c t).symm) (fun h _ => ⟨d22, by
      have h' := (idle_22 t).mp h
      rw [before_22 m c t (by omega)]
      show (S m c (t.val + 1)).doc = _
      rw [S_succ]; exact keep_doc (by rw [hc2]; omega) _ _⟩)); iexact H22
  isplitl [H23]; · iapply (leaves_of m c 23 t _ (fun _ => (after_23 m c t).symm) (fun h _ => ⟨d23, by
      have h' := (idle_23 t).mp h
      rw [before_23 m c t (by omega)]
      show (S m c (t.val + 1)).ado = _
      rw [S_succ]; exact keep_ado (by rw [hc1]; omega) (by rw [hc2]; omega) _ _⟩)); iexact H23
  isplitl [H24]; · iapply (leaves_of m c 24 t _ (fun _ => (after_24 m c t).symm) (fun h => absurd (show false = true from h) (by decide))); iexact H24
  iapply (leaves_of m c 25 t _ (fun _ => (after_25 m c t).symm) (fun h => absurd (show false = true from h) (by decide))); iexact H25

set_option maxHeartbeats 800000 in
theorem defs₀_row (t : Fin cfg0.N) : defs₀ (F := F) .tc cfg0.body (cfg0.bodyArgs t (cfg0.slots t)) = bodyAt0 t := by
  unfold defs₀; rw [Defs.onTc_tc]

set_option maxHeartbeats 1600000 in
/-- The library's body obligation. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from by show Phi m c 0 = _; exact if_pos rfl]

theorem hout (c : Dev nD) : (dats m 0 c).Φ (Fin.last cfg0.N) ⊢ Pipeline.ΦA spec0 c := by
  rw [show (dats m 0 c).Φ (Fin.last cfg0.N) = Scr c (S m c cfg0.N) from by show Phi m c cfg0.N = _; exact if_neg (by rw [show cfg0.N = 24 from N_0]; decide)]
  exact of_Scr c _

set_option backward.isDefEq.respectTransparency.types false in
set_option maxHeartbeats 800000 in
/-- The launch: it ends with every array as the proof data say and every semaphore counter at zero. -/
theorem run_main_quiescent : θ_run defs (onTc (τ := τ) (main (F := F))) (s₀ m ρ) (fun r =>
    Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m)
    (hmain := hmain m Variants.none) (hA := A_eq m) (hin := hin m) (hout := hout m)

theorem run_main : θ_run defs (onTc (τ := τ) (main (F := F))) (s₀ m ρ)
    (Pipeline.FramePost cfgs (dats m) 0 (V m)) :=
  (θ_run defs _ _).mono (fun _ h => h.1) (run_main_quiescent m ρ)

/-- The frame: the launch terminates, its arguments are as they were and every semaphore counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_and (frame_of m ρ (dats m) (A_eq m) (run_main m ρ)) ((θ_run defs _ _).mono (fun _ h => h.2) (run_main_quiescent m ρ))

end Cert.KernelIdeal.Hand

end
-- ==== Proof.Bits.Kit.lean ====
/- The frame kit of the kernel's program: @main around its one region (`hmain`), the arrays' contents there (`V`), each window's block at a
   point (`iblk`), and `frame_of`: the frame claim's post from any proof data's run. It is the kit generated for the kernel's ideal program,
   read at the program itself. -/
module

public import proofs.«01_k».proof.Proof.Gen.Kernel.Launch
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1560000 in
/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Kernel`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨((h c).1 9).trans (((dats 0 c).arrAt_in 9 rfl _).trans ((hA c 9).trans (V_main_arg0 m c))),
      ((h c).1 10).trans (((dats 0 c).arrAt_in 10 rfl _).trans ((hA c 10).trans (V_main_arg1 m c))),
      ((h c).1 11).trans (((dats 0 c).arrAt_in 11 rfl _).trans ((hA c 11).trans (V_main_arg2 m c))),
      ((h c).1 4).trans (((dats 0 c).arrAt_in 4 rfl _).trans ((hA c 4).trans (V_main_arg3 m c))),
      ((h c).1 12).trans (((dats 0 c).arrAt_in 12 rfl _).trans ((hA c 12).trans (V_main_arg4 m c))),
      ((h c).1 5).trans (((dats 0 c).arrAt_in 5 rfl _).trans ((hA c 5).trans (V_main_arg5 m c))),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).1 6).trans (((dats 0 c).arrAt_in 6 rfl _).trans ((hA c 6).trans (V_main_arg11 m c))),
      ((h c).2 main_arg12 (Pipeline.mem_restRefs_of main_arg12 (by decide) (by decide))).trans (V_main_arg12 m c)⟩) h

end Cert.Kernel.Gen

end
-- ==== Proof.Bits.Body.lean ====
module

public import proofs.«01_k».proof.Proof.Gen.Kernel.Skeleton
public import proofs.«01_k».proof.Proof.Gen.Kernel.Points
public import proofs.«01_k».proof.Proof.Bits.Kit
public import Idealize.ShloMosaic.Lib.VecWindow

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the kernel's input windows hold at one grid point: the four activation scales, the two tables of weight scales, the slot
    table, the token table, the gates, the activations, the cotangent and the point's two weight tiles. -/
structure In (F : FTy → Type) [FloatOps F] where
  sx : Vec F S1 .f32
  sh : Vec F S1 .f32
  sdo : Vec F S1 .f32
  sda : Vec F S1 .f32
  w1s : Vec F S4 .f32
  w2s : Vec F S4 .f32
  slot : Vec F S4x80 .i32
  tok : Vec F S1x256 .i32
  gate : Vec F S1x256 .f32
  x : Vec F S256x768 .bf16
  dy : Vec F S256x768 .bf16
  w1 : Vec F S1x768x512 .fp8e4m3
  w2 : Vec F S1x512x768 .fp8e4m3

/-- What the kernel's output windows and scratch buffers hold between two grid points (all but the slot row, which every use writes first). -/
structure St (F : FTy → Type) [FloatOps F] where
  y : Vec F S256x768 .bf16
  dx : Vec F S256x768 .bf16
  dw1 : Vec F S1x768x512 .bf16
  dw2 : Vec F S1x512x768 .bf16
  dgate : Vec F S1x256 .f32
  xc : Vec F S256x768 .fp8e4m3
  ax : Vec F S1 .f32
  h : Vec F S1x80x512 .fp8e4m3
  ah : Vec F S1 .f32
  doc : Vec F S1x80x768 .fp8e5m2
  ado : Vec F S1 .f32
  da : Vec F S1x80x512 .fp8e5m2
  ada : Vec F S1 .f32
  xs : Vec F S96x768 .fp8e4m3
  dO : Vec F S96x768 .fp8e5m2
  xst : Vec F S768x96 .fp8e4m3
  o : Vec F S96x768 .f32
  dxs : Vec F S96x768 .f32
  dyg : Vec F S96x768 .f32
  gs : Vec F S96x128 .f32
  yacc : Vec F S256x768 .f32
  dxacc : Vec F S256x768 .f32

/-- The one element of a one-element table. -/
def sc (x : Vec F S1 .f32) : Elt F .f32 := x (Shape.Idx.first (s := S1) (by decide))

/-- The element of a table of four weight scales that the point's expert reads. -/
def sc4 (i : grid0.Coords) (x : Vec F S4 .f32) : Elt F .f32 :=
  x ((Rect.unit (s := S4) (k0_off1 i) S1.size (k0_off1_inb i)).toLoadRect.idx (Shape.Idx.first (s := S1) (by decide)))

/-- The grid point's expert number as the kernel's word. -/
def wE (i : grid0.Coords) : BitVec 32 := BitVec.ofNat 32 (i 0).val

/-- The first point: the activations quantised, the running maxima and the accumulators at zero. -/
def firstSt (I : In F) (s : St F) : St F :=
  { s with xc := k0_pay6 (sc I.sx) I.x, ax := fun _ => k0_pay7 I.x, ah := fun _ => Scalar.ofBits .f32 0x00000000#32,
           ado := fun _ => Scalar.ofBits .f32 0x00000000#32, ada := fun _ => Scalar.ofBits .f32 0x00000000#32,
           yacc := k0_pay8, dxacc := k0_pay9, dgate := k0_pay10 }

/-- An expert's first point: its rows selected by the one-hot product, its output cotangent quantised, its two accumulators at zero. -/
def expertSt (i : grid0.Coords) (I : In F) (s : St F) : St F :=
  { s with xs := k0_pay14 (wE i) (sc I.sx) I.tok I.x, xst := k0_pay15 (wE i) (sc I.sx) I.tok I.x, dyg := k0_pay17 (wE i) I.tok I.dy,
           gs := k0_pay19 (k0_pay11 (wE i) I.tok) I.gate,
           dO := k0_pay21 (sc I.sdo) (k0_pay11 (wE i) I.tok) (k0_pay16 (wE i) I.tok I.dy) I.gate,
           doc := k0_pay22 (fun y => k0_pay21 (sc I.sdo) (k0_pay11 (wE i) I.tok) (k0_pay16 (wE i) I.tok I.dy) I.gate
             ((Rect.unit (s := S96x768) ![0, 0] S80x768.size inb_S96x768_S80x768_0_0).toLoadRect.idx y)),
           ado := fun _ => k0_pay23 (k0_pay11 (wE i) I.tok) (k0_pay16 (wE i) I.tok I.dy) I.gate (sc s.ado),
           o := k0_pay31 k0_pay24, dxs := k0_pay32 }

/-- The pre-activation of the point's tile. -/
def tA (i : grid0.Coords) (I : In F) (s : St F) : FVec F S96x512 .f32 := k0_pay35 (sc I.sx) (sc4 i I.w1s) I.w1 s.xs
/-- The activation of the point's tile, -/
def tR (i : grid0.Coords) (I : In F) (s : St F) : FVec F S96x512 .f32 := k0_pay36 (sc I.sx) (sc4 i I.w1s) I.w1 s.xs
/-- and its codes. -/
def tH (i : grid0.Coords) (I : In F) (s : St F) : FVec F S96x512 .fp8e4m3 := k0_pay37 (sc I.sx) (sc I.sh) (sc4 i I.w1s) I.w1 s.xs
/-- The codes of the tile's cotangent of the pre-activation. -/
def tD (i : grid0.Coords) (I : In F) (s : St F) : FVec F S96x512 .fp8e5m2 :=
  k0_pay42 (sc I.sdo) (sc I.sda) (sc4 i I.w2s) (k0_pay34 I.w2) (tA i I s) s.dO

/-- Every point: the tile's activation codes, cotangent codes and weight gradients, the two accumulators and the two running maxima. -/
def tileSt (i : grid0.Coords) (I : In F) (s : St F) : St F :=
  { s with ah := fun _ => k0_pay38 (tR i I s) (sc s.ah), h := k0_pay39 (tH i I s), o := k0_pay40 (k0_pay34 I.w2) (tH i I s) s.o,
           ada := fun _ => k0_pay44 (sc s.ada) (k0_pay43 (sc I.sdo) (sc4 i I.w2s) (k0_pay34 I.w2) (tA i I s) s.dO),
           da := k0_pay45 (tD i I s), dxs := k0_pay46 (k0_pay33 I.w1) (tD i I s) s.dxs,
           dw1 := k0_pay47 (sc I.sx) (sc I.sda) (tD i I s) s.xst,
           dw2 := k0_pay48 (sc I.sh) (sc I.sdo) (tH i I s) s.dO }

/-- The expert's row of the slot table, padded. -/
def slotRow (i : grid0.Coords) (h3 : k0_cond3 i = 1#1) (I : In F) : Vec F S1x128 .i32 :=
  VecWindow.put (k0_pay25 : IVec S1x128 32) ![0, 0] S1x80.size (k0_pay26 (F := F) fun y => I.slot
    ((Rect.unit (s := S4x80) (k0_off2 i) S1x80.size (k0_off2_inb i h3)).toLoadRect.idx y))

/-- An expert's last point: its output and its input cotangent added into the accumulators, its gates' cotangent. -/
def combineSt (i : grid0.Coords) (h3 : k0_cond3 i = 1#1) (I : In F) (s : St F) : St F :=
  { s with yacc := k0_pay29 (sc I.sh) (sc4 i I.w2s) (slotRow i h3 I) s.o
             (fun y => s.gs ((Rect.unit (s := S96x128) ![0, 0] S96x1.size inb_S96x128_S96x1_0_0).toLoadRect.idx y)) s.yacc,
           dgate := k0_pay1 (wE i) (k0_pay30 (sc I.sh) (sc4 i I.w2s) s.o s.dyg) s.dgate I.tok,
           dxacc := k0_pay2 (sc I.sda) (sc4 i I.w1s) (k0_pay27 (slotRow i h3 I)) s.dxs s.dxacc }

/-- The last point: the two accumulators rounded into the results. -/
def finishSt (s : St F) : St F := { s with y := k0_pay3 s.yacc, dx := k0_pay4 s.dxacc }

/-- Up to the tile: what an expert's first point, or the first point, prepares. -/
def prep (i : grid0.Coords) (I : In F) (s : St F) : St F :=
  if k0_cond2 i = 1#1 then expertSt i I (if k0_cond1 i = 1#1 then firstSt I s else s) else if k0_cond1 i = 1#1 then firstSt I s else s

/-- After the tile: what an expert's last point, or the last point, adds. -/
def fin (i : grid0.Coords) (I : In F) (s : St F) : St F :=
  if k0_cond4 i = 1#1 then finishSt (if h3 : k0_cond3 i = 1#1 then combineSt i h3 I s else s) else if h3 : k0_cond3 i = 1#1 then combineSt i h3 I s else s

/-- One grid point of the kernel as a function on what its buffers hold. -/
def step (i : grid0.Coords) (I : In F) (s : St F) : St F := fin i I (tileSt i I (prep i I s))

/-- A buffer whose last store covered it is owned at that store's payload. -/
theorem owns_store {c : Thread nD τ} {cs : Space} {s : Shape} {e : EltTy} {M : Memref sig c.2.kind cs s e} {g : Buf (Elt F) (M.view.loc c)} {q : PosShare TreeShare}
    {off : Fin s.rank → ℕ} {inb : ∀ a, off a + s.size a ≤ s.size a} {w : (Rect.unit off s.size inb).shape.Idx → Elt F e} {L : List (View.Piece (Elt F) s e)}
    {w' : s.Idx → Elt F e} (h : w = w') :
    (M.view.loc c ↦[M.view.set]{q} M.view.writes (Elt F) g (⟨Rect.unit off s.size inb, w⟩ :: L) : sProp 𝕄) ⊢ owns c M q w' := by
  iintro H; unfold owns; iexists _; isplitr; swap; · iexact H
  ipureintro; subst h; exact View.read_writes_full _ _ _ _ _

/-- A buffer nothing was stored in is owned at what it held. -/
theorem owns_keep {c : Thread nD τ} {cs : Space} {s : Shape} {e : EltTy} {M : Memref sig c.2.kind cs s e} {g : Buf (Elt F) (M.view.loc c)} {q : PosShare TreeShare}
    {w' : s.Idx → Elt F e} (h : M.view.read (Elt F) g = w') :
    (M.view.loc c ↦[M.view.set]{q} g : sProp 𝕄) ⊢ owns c M q w' := by
  iintro H; unfold owns; iexists _; isplitr; swap; · iexact H
  ipureintro; exact h

/-- A load is the contents at the rectangle's indices. -/
theorem rd_at {κ : Kind} {sp : Space} {s : Shape} {e : EltTy} (v : View sig κ sp s e) (r : LoadRect s) (f : v.ty.Contents (Elt F)) {X : s.Idx → Elt F e}
    (h : v.read (Elt F) f = X) : v.readAt (Elt F) r f = fun y => X (r.idx y) := by
  subst h; rfl

variable (c : Dev nD) (i : grid0.Coords)
  (arg2 : Memref sig .tc .smem S1 .f32) (harg2 : arg2.IsWhole)
  (arg3 : Memref sig .tc .smem S1 .f32) (harg3 : arg3.IsWhole)
  (arg4 : Memref sig .tc .smem S1 .f32) (harg4 : arg4.IsWhole)
  (arg5 : Memref sig .tc .smem S1 .f32) (harg5 : arg5.IsWhole)
  (arg6 : Memref sig .tc .smem S4 .f32) (harg6 : arg6.IsWhole)
  (arg7 : Memref sig .tc .smem S4 .f32) (harg7 : arg7.IsWhole)
  (arg8 : Memref sig .tc .vmem S4x80 .i32) (harg8 : arg8.IsWhole)
  (arg9 : Memref sig .tc .vmem S1x256 .i32) (harg9 : arg9.IsWhole)
  (arg10 : Memref sig .tc .vmem S1x256 .f32) (harg10 : arg10.IsWhole)
  (arg11 : Memref sig .tc .vmem S256x768 .bf16) (harg11 : arg11.IsWhole)
  (arg12 : Memref sig .tc .vmem S256x768 .bf16) (harg12 : arg12.IsWhole)
  (arg13 : Memref sig .tc .vmem S1x768x512 .fp8e4m3) (harg13 : arg13.IsWhole)
  (arg14 : Memref sig .tc .vmem S1x512x768 .fp8e4m3) (harg14 : arg14.IsWhole)
  (arg15 : Memref sig .tc .vmem S256x768 .bf16) (harg15 : arg15.IsWhole)
  (arg16 : Memref sig .tc .vmem S256x768 .bf16) (harg16 : arg16.IsWhole)
  (arg17 : Memref sig .tc .vmem S1x768x512 .bf16) (harg17 : arg17.IsWhole)
  (arg18 : Memref sig .tc .vmem S1x512x768 .bf16) (harg18 : arg18.IsWhole)
  (arg19 : Memref sig .tc .vmem S1x256 .f32) (harg19 : arg19.IsWhole)
  (arg20 : Memref sig .tc .vmem S256x768 .fp8e4m3) (harg20 : arg20.IsWhole)
  (arg21 : Memref sig .tc .smem S1 .f32) (harg21 : arg21.IsWhole)
  (arg22 : Memref sig .tc .vmem S1x80x512 .fp8e4m3) (harg22 : arg22.IsWhole)
  (arg23 : Memref sig .tc .smem S1 .f32) (harg23 : arg23.IsWhole)
  (arg24 : Memref sig .tc .vmem S1x80x768 .fp8e5m2) (harg24 : arg24.IsWhole)
  (arg25 : Memref sig .tc .smem S1 .f32) (harg25 : arg25.IsWhole)
  (arg26 : Memref sig .tc .vmem S1x80x512 .fp8e5m2) (harg26 : arg26.IsWhole)
  (arg27 : Memref sig .tc .smem S1 .f32) (harg27 : arg27.IsWhole)
  (arg28 : Memref sig .tc .vmem S96x768 .fp8e4m3) (harg28 : arg28.IsWhole)
  (arg29 : Memref sig .tc .vmem S96x768 .fp8e5m2) (harg29 : arg29.IsWhole)
  (arg30 : Memref sig .tc .vmem S768x96 .fp8e4m3) (harg30 : arg30.IsWhole)
  (arg31 : Memref sig .tc .vmem S96x768 .f32) (harg31 : arg31.IsWhole)
  (arg32 : Memref sig .tc .vmem S96x768 .f32) (harg32 : arg32.IsWhole)
  (arg33 : Memref sig .tc .vmem S96x768 .f32) (harg33 : arg33.IsWhole)
  (arg34 : Memref sig .tc .vmem S96x128 .f32) (harg34 : arg34.IsWhole)
  (arg35 : Memref sig .tc .vmem S1x128 .i32) (harg35 : arg35.IsWhole)
  (arg36 : Memref sig .tc .vmem S256x768 .f32) (harg36 : arg36.IsWhole)
  (arg37 : Memref sig .tc .vmem S256x768 .f32) (harg37 : arg37.IsWhole)

/-- Owning a memref, spelt as its buffer at some contents that read so. -/
theorem owns_split (c : Dev nD) {sp : Space} {sh : Shape} {e : EltTy} (m : Memref sig .tc sp sh e) (X : sh.Idx → Elt F e) (q : PosShare TreeShare) :
    owns (c : Thread nD τ) m q X ⊣⊢ (iprop(∃ f, ⌜m.view.read (Elt F) f = X⌝ ∗ (m.view.loc (c : Thread nD τ) ↦[m.view.set]{q} f)) : sProp 𝕄) := by
  unfold owns; exact .rfl

/-- A load after a store of the whole buffer reads the payload at the rectangle's indices. -/
theorem cov_at {κ : Kind} {sp : Space} {s : Shape} {e : EltTy} (v : View sig κ sp s e) {off' : Fin s.rank → ℕ} (inb' : ∀ a, off' a + s.size a ≤ s.size a)
    (w : (Rect.unit off' s.size inb').shape.Idx → Elt F e) (L : List (View.Piece (Elt F) s e)) (r : LoadRect s) :
    v.readCov (⟨Rect.unit off' s.size inb', w⟩ :: L) r = fun y => w (r.idx y) :=
  rd_at v r _ (View.read_writes_full v _ inb' w L)

/-- The slot scratch, filled with padding and then with an expert's row, reads as the padded row. -/
theorem cov_slot {κ : Kind} {sp : Space} (v : View sig κ sp S1x128 .i32) (h : ∀ a, (![0, 0] : Fin 2 → ℕ) a + (![1, 80] : Fin 2 → ℕ) a ≤ S1x128.size a)
    (h' h'' : ∀ a, (![0, 0] : Fin 2 → ℕ) a + (![1, 128] : Fin 2 → ℕ) a ≤ S1x128.size a) (w : Vec F S1x80 .i32) (w' : Vec F S1x128 .i32) :
    v.readCov [⟨Rect.unit (s := S1x128) ![0, 0] ![1, 80] h, w⟩, ⟨Rect.unit (s := S1x128) ![0, 0] ![1, 128] h', w'⟩] (Rect.unit (s := S1x128) ![0, 0] ![1, 128] h'').toLoadRect
      = VecWindow.put w' ![0, 0] S1x80.size w :=
  (View.readAt_full v _ h'').trans ((View.read_writes_cons_put v _ h w _ rfl).trans (by rw [View.read_writes_full v _ h' w' []]; first | done | rfl))

set_option maxHeartbeats 2000000 in
/-- The body up to the tile's matrix products: the buffers go from `s` to what the first points prepare, and the values the rest of the body reads are returned. -/
theorem part5_spec (E : Set ℕ) (Q : (Σ' (arg0 : BitVec 32) (arg1 : BitVec 32) (v0 : Elt F .f32) (v1 : Elt F .f32) (v2 : Elt F .f32) (v3 : Elt F .f32) (v5 : Elt F .f32) (v7 : Elt F .f32) (v17 : FVec F S768x512 .fp8e4m3) (v19 : FVec F S512x768 .fp8e4m3) (v24 : FVec F S96x512 .f32) (v26 : FVec F S96x512 .f32), FVec F S96x512 .fp8e4m3) → sProp 𝕄) (I : In F) (s : St F) :
    iprop(owns (c : Thread nD τ) arg2 fullShare I.sx
      ∗ owns (c : Thread nD τ) arg3 fullShare I.sh
      ∗ owns (c : Thread nD τ) arg4 fullShare I.sdo
      ∗ owns (c : Thread nD τ) arg5 fullShare I.sda
      ∗ owns (c : Thread nD τ) arg6 fullShare I.w1s
      ∗ owns (c : Thread nD τ) arg7 fullShare I.w2s
      ∗ owns (c : Thread nD τ) arg9 fullShare I.tok
      ∗ owns (c : Thread nD τ) arg10 fullShare I.gate
      ∗ owns (c : Thread nD τ) arg11 fullShare I.x
      ∗ owns (c : Thread nD τ) arg12 fullShare I.dy
      ∗ owns (c : Thread nD τ) arg13 fullShare I.w1
      ∗ owns (c : Thread nD τ) arg14 fullShare I.w2
      ∗ owns (c : Thread nD τ) arg19 fullShare s.dgate
      ∗ owns (c : Thread nD τ) arg20 fullShare s.xc
      ∗ owns (c : Thread nD τ) arg21 fullShare s.ax
      ∗ owns (c : Thread nD τ) arg23 fullShare s.ah
      ∗ owns (c : Thread nD τ) arg24 fullShare s.doc
      ∗ owns (c : Thread nD τ) arg25 fullShare s.ado
      ∗ owns (c : Thread nD τ) arg27 fullShare s.ada
      ∗ owns (c : Thread nD τ) arg28 fullShare s.xs
      ∗ owns (c : Thread nD τ) arg29 fullShare s.dO
      ∗ owns (c : Thread nD τ) arg30 fullShare s.xst
      ∗ owns (c : Thread nD τ) arg31 fullShare s.o
      ∗ owns (c : Thread nD τ) arg32 fullShare s.dxs
      ∗ owns (c : Thread nD τ) arg33 fullShare s.dyg
      ∗ owns (c : Thread nD τ) arg34 fullShare s.gs
      ∗ owns (c : Thread nD τ) arg36 fullShare s.yacc
      ∗ owns (c : Thread nD τ) arg37 fullShare s.dxacc
      ∗ (∀ r, (⌜r = ⟨wE i, BitVec.ofNat 32 (i 1).val, sc I.sx, sc I.sh, sc I.sdo, sc I.sda, sc4 i I.w1s, sc4 i I.w2s, k0_pay33 I.w1, k0_pay34 I.w2, tA i I (prep i I s), tR i I (prep i I s), tH i I (prep i I s)⟩⌝ ∗ owns (c : Thread nD τ) arg2 fullShare I.sx
      ∗ owns (c : Thread nD τ) arg3 fullShare I.sh
      ∗ owns (c : Thread nD τ) arg4 fullShare I.sdo
      ∗ owns (c : Thread nD τ) arg5 fullShare I.sda
      ∗ owns (c : Thread nD τ) arg6 fullShare I.w1s
      ∗ owns (c : Thread nD τ) arg7 fullShare I.w2s
      ∗ owns (c : Thread nD τ) arg9 fullShare I.tok
      ∗ owns (c : Thread nD τ) arg10 fullShare I.gate
      ∗ owns (c : Thread nD τ) arg11 fullShare I.x
      ∗ owns (c : Thread nD τ) arg12 fullShare I.dy
      ∗ owns (c : Thread nD τ) arg13 fullShare I.w1
      ∗ owns (c : Thread nD τ) arg14 fullShare I.w2
      ∗ owns (c : Thread nD τ) arg19 fullShare (prep i I s).dgate
      ∗ owns (c : Thread nD τ) arg20 fullShare (prep i I s).xc
      ∗ owns (c : Thread nD τ) arg21 fullShare (prep i I s).ax
      ∗ owns (c : Thread nD τ) arg23 fullShare (prep i I s).ah
      ∗ owns (c : Thread nD τ) arg24 fullShare (prep i I s).doc
      ∗ owns (c : Thread nD τ) arg25 fullShare (prep i I s).ado
      ∗ owns (c : Thread nD τ) arg27 fullShare (prep i I s).ada
      ∗ owns (c : Thread nD τ) arg28 fullShare (prep i I s).xs
      ∗ owns (c : Thread nD τ) arg29 fullShare (prep i I s).dO
      ∗ owns (c : Thread nD τ) arg30 fullShare (prep i I s).xst
      ∗ owns (c : Thread nD τ) arg31 fullShare (prep i I s).o
      ∗ owns (c : Thread nD τ) arg32 fullShare (prep i I s).dxs
      ∗ owns (c : Thread nD τ) arg33 fullShare (prep i I s).dyg
      ∗ owns (c : Thread nD τ) arg34 fullShare (prep i I s).gs
      ∗ owns (c : Thread nD τ) arg36 fullShare (prep i I s).yacc
      ∗ owns (c : Thread nD τ) arg37 fullShare (prep i I s).dxacc)
        -∗ Q r))
    ⊢ wp frame (wpE (defs₀ (F := F)) Variants.none c none) E (k0_part5 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37) Q := by
  simp only [k0_part5_eq_skeleton]; unfold k0_part5_skel
  simp only [k0_part1_eq_skeleton, k0_part2_eq_skeleton, k0_part3_eq_skeleton]
  generalize hp : prep i I s = p
  unfold prep at hp
  iintro ⟨H2, H3, H4, H5, H6, H7, H9, H10, H11, H12, H13, H14, H19, H20, H21, H23, H24, H25, H27, H28, H29, H30, H31, H32, H33, H34, H36, H37, HQ⟩
  icases (owns_split c arg2 _ _).1 $$ H2 with ⟨%f2, %h2, H2⟩
  icases (owns_split c arg3 _ _).1 $$ H3 with ⟨%f3, %h3, H3⟩
  icases (owns_split c arg4 _ _).1 $$ H4 with ⟨%f4, %h4, H4⟩
  icases (owns_split c arg5 _ _).1 $$ H5 with ⟨%f5, %h5, H5⟩
  icases (owns_split c arg6 _ _).1 $$ H6 with ⟨%f6, %h6, H6⟩
  icases (owns_split c arg7 _ _).1 $$ H7 with ⟨%f7, %h7, H7⟩
  icases (owns_split c arg9 _ _).1 $$ H9 with ⟨%f9, %h9, H9⟩
  icases (owns_split c arg10 _ _).1 $$ H10 with ⟨%f10, %h10, H10⟩
  icases (owns_split c arg11 _ _).1 $$ H11 with ⟨%f11, %h11, H11⟩
  icases (owns_split c arg12 _ _).1 $$ H12 with ⟨%f12, %h12, H12⟩
  icases (owns_split c arg13 _ _).1 $$ H13 with ⟨%f13, %h13, H13⟩
  icases (owns_split c arg14 _ _).1 $$ H14 with ⟨%f14, %h14, H14⟩
  icases (owns_split c arg19 _ _).1 $$ H19 with ⟨%f19, %h19, H19⟩
  icases (owns_split c arg20 _ _).1 $$ H20 with ⟨%f20, %h20, H20⟩
  icases (owns_split c arg21 _ _).1 $$ H21 with ⟨%f21, %h21, H21⟩
  icases (owns_split c arg23 _ _).1 $$ H23 with ⟨%f23, %h23, H23⟩
  icases (owns_split c arg24 _ _).1 $$ H24 with ⟨%f24, %h24, H24⟩
  icases (owns_split c arg25 _ _).1 $$ H25 with ⟨%f25, %h25, H25⟩
  icases (owns_split c arg27 _ _).1 $$ H27 with ⟨%f27, %h27, H27⟩
  icases (owns_split c arg28 _ _).1 $$ H28 with ⟨%f28, %h28, H28⟩
  icases (owns_split c arg29 _ _).1 $$ H29 with ⟨%f29, %h29, H29⟩
  icases (owns_split c arg30 _ _).1 $$ H30 with ⟨%f30, %h30, H30⟩
  icases (owns_split c arg31 _ _).1 $$ H31 with ⟨%f31, %h31, H31⟩
  icases (owns_split c arg32 _ _).1 $$ H32 with ⟨%f32, %h32, H32⟩
  icases (owns_split c arg33 _ _).1 $$ H33 with ⟨%f33, %h33, H33⟩
  icases (owns_split c arg34 _ _).1 $$ H34 with ⟨%f34, %h34, H34⟩
  icases (owns_split c arg36 _ _).1 $$ H36 with ⟨%f36, %h36, H36⟩
  icases (owns_split c arg37 _ _).1 $$ H37 with ⟨%f37, %h37, H37⟩
  have r2 : ∀ h, View.readAt (Elt F) arg2.view (Rect.unit ![0] ![1] h).toLoadRect f2 = _ := fun h => (View.readAt_full arg2.view f2 h).trans h2
  have r3 : ∀ h, View.readAt (Elt F) arg3.view (Rect.unit ![0] ![1] h).toLoadRect f3 = _ := fun h => (View.readAt_full arg3.view f3 h).trans h3
  have r4 : ∀ h, View.readAt (Elt F) arg4.view (Rect.unit ![0] ![1] h).toLoadRect f4 = _ := fun h => (View.readAt_full arg4.view f4 h).trans h4
  have r5 : ∀ h, View.readAt (Elt F) arg5.view (Rect.unit ![0] ![1] h).toLoadRect f5 = _ := fun h => (View.readAt_full arg5.view f5 h).trans h5
  have r6 := fun r => rd_at arg6.view r f6 h6
  have r7 := fun r => rd_at arg7.view r f7 h7
  have r9 : ∀ h, View.readAt (Elt F) arg9.view (Rect.unit ![0, 0] ![1, 256] h).toLoadRect f9 = _ := fun h => (View.readAt_full arg9.view f9 h).trans h9
  have r10 : ∀ h, View.readAt (Elt F) arg10.view (Rect.unit ![0, 0] ![1, 256] h).toLoadRect f10 = _ := fun h => (View.readAt_full arg10.view f10 h).trans h10
  have r11 : ∀ h, View.readAt (Elt F) arg11.view (Rect.unit ![0, 0] ![256, 768] h).toLoadRect f11 = _ := fun h => (View.readAt_full arg11.view f11 h).trans h11
  have r12 : ∀ h, View.readAt (Elt F) arg12.view (Rect.unit ![0, 0] ![256, 768] h).toLoadRect f12 = _ := fun h => (View.readAt_full arg12.view f12 h).trans h12
  have r13 : ∀ h, View.readAt (Elt F) arg13.view (Rect.unit ![0, 0, 0] ![1, 768, 512] h).toLoadRect f13 = _ := fun h => (View.readAt_full arg13.view f13 h).trans h13
  have r14 : ∀ h, View.readAt (Elt F) arg14.view (Rect.unit ![0, 0, 0] ![1, 512, 768] h).toLoadRect f14 = _ := fun h => (View.readAt_full arg14.view f14 h).trans h14
  have r19 : ∀ h, View.readAt (Elt F) arg19.view (Rect.unit ![0, 0] ![1, 256] h).toLoadRect f19 = _ := fun h => (View.readAt_full arg19.view f19 h).trans h19
  have r20 : ∀ h, View.readAt (Elt F) arg20.view (Rect.unit ![0, 0] ![256, 768] h).toLoadRect f20 = _ := fun h => (View.readAt_full arg20.view f20 h).trans h20
  have r21 : ∀ h, View.readAt (Elt F) arg21.view (Rect.unit ![0] ![1] h).toLoadRect f21 = _ := fun h => (View.readAt_full arg21.view f21 h).trans h21
  have r23 : ∀ h, View.readAt (Elt F) arg23.view (Rect.unit ![0] ![1] h).toLoadRect f23 = _ := fun h => (View.readAt_full arg23.view f23 h).trans h23
  have r24 : ∀ h, View.readAt (Elt F) arg24.view (Rect.unit ![0, 0, 0] ![1, 80, 768] h).toLoadRect f24 = _ := fun h => (View.readAt_full arg24.view f24 h).trans h24
  have r25 : ∀ h, View.readAt (Elt F) arg25.view (Rect.unit ![0] ![1] h).toLoadRect f25 = _ := fun h => (View.readAt_full arg25.view f25 h).trans h25
  have r27 : ∀ h, View.readAt (Elt F) arg27.view (Rect.unit ![0] ![1] h).toLoadRect f27 = _ := fun h => (View.readAt_full arg27.view f27 h).trans h27
  have r28 : ∀ h, View.readAt (Elt F) arg28.view (Rect.unit ![0, 0] ![96, 768] h).toLoadRect f28 = _ := fun h => (View.readAt_full arg28.view f28 h).trans h28
  have r29 : ∀ h, View.readAt (Elt F) arg29.view (Rect.unit ![0, 0] ![96, 768] h).toLoadRect f29 = _ := fun h => (View.readAt_full arg29.view f29 h).trans h29
  have r30 : ∀ h, View.readAt (Elt F) arg30.view (Rect.unit ![0, 0] ![768, 96] h).toLoadRect f30 = _ := fun h => (View.readAt_full arg30.view f30 h).trans h30
  have r31 : ∀ h, View.readAt (Elt F) arg31.view (Rect.unit ![0, 0] ![96, 768] h).toLoadRect f31 = _ := fun h => (View.readAt_full arg31.view f31 h).trans h31
  have r32 : ∀ h, View.readAt (Elt F) arg32.view (Rect.unit ![0, 0] ![96, 768] h).toLoadRect f32 = _ := fun h => (View.readAt_full arg32.view f32 h).trans h32
  have r33 : ∀ h, View.readAt (Elt F) arg33.view (Rect.unit ![0, 0] ![96, 768] h).toLoadRect f33 = _ := fun h => (View.readAt_full arg33.view f33 h).trans h33
  have r34 := fun r => rd_at arg34.view r f34 h34
  have r36 : ∀ h, View.readAt (Elt F) arg36.view (Rect.unit ![0, 0] ![256, 768] h).toLoadRect f36 = _ := fun h => (View.readAt_full arg36.view f36 h).trans h36
  have r37 : ∀ h, View.readAt (Elt F) arg37.view (Rect.unit ![0, 0] ![256, 768] h).toLoadRect f37 = _ := fun h => (View.readAt_full arg37.view f37 h).trans h37
  by_cases hc1 : k0_cond1 i = 1#1 <;> by_cases hc2 : k0_cond2 i = 1#1
  rw [if_pos hc1, if_pos hc2] at hp; subst hp
  sl_exec (disch := first | sl_exact hc1 | sl_exact hc2)
  sl_step
  rotate_left
  rw [if_pos hc1, if_neg hc2] at hp; subst hp
  sl_exec (disch := first | sl_exact hc1 | sl_exact hc2)
  sl_step
  rotate_left
  rw [if_neg hc1, if_pos hc2] at hp; subst hp
  sl_exec (disch := first | sl_exact hc1 | sl_exact hc2)
  sl_step
  rotate_left
  rw [if_neg hc1, if_neg hc2] at hp; subst hp
  sl_exec (disch := first | sl_exact hc1 | sl_exact hc2)
  sl_step
  rotate_left
  all_goals try delta part5_spec.sl.H28_1 part5_spec.sl.H28_1_1 part5_spec.sl.H29_1 part5_spec.sl.H29_1_1 part5_spec.sl.cst_69 part5_spec.sl.cst_69_1 part5_spec.sl.r part5_spec.sl.r_1 part5_spec.sl.r_10 part5_spec.sl.r_11 part5_spec.sl.r_12 part5_spec.sl.r_13 part5_spec.sl.r_14 part5_spec.sl.r_15 part5_spec.sl.r_16 part5_spec.sl.r_17 part5_spec.sl.r_18 part5_spec.sl.r_19 part5_spec.sl.r_2 part5_spec.sl.r_20 part5_spec.sl.r_21 part5_spec.sl.r_22 part5_spec.sl.r_23 part5_spec.sl.r_24 part5_spec.sl.r_25 part5_spec.sl.r_26 part5_spec.sl.r_27 part5_spec.sl.r_28 part5_spec.sl.r_29 part5_spec.sl.r_3 part5_spec.sl.r_30 part5_spec.sl.r_31 part5_spec.sl.r_32 part5_spec.sl.r_33 part5_spec.sl.r_34 part5_spec.sl.r_35 part5_spec.sl.r_36 part5_spec.sl.r_4 part5_spec.sl.r_5 part5_spec.sl.r_6 part5_spec.sl.r_7 part5_spec.sl.r_8 part5_spec.sl.r_9 part5_spec.sl.v174 part5_spec.sl.v174_1 part5_spec.sl.v20 part5_spec.sl.v20_1
  all_goals
    iapply HQ
    isplitr
    · ipureintro; (try simp only [r2, r3, r4, r5, r6, r7, r9, r10, r11, r12, r13, r14, r19, r20, r21, r23, r24, r25, r27, r28, r29, r30, r31, r32, r33, r34, r36, r37]); (repeat first | rw [View.readCov_full] | rw [cov_slot] | rw [cov_at]); (try dsimp only [expertSt, firstSt, tileSt, combineSt, finishSt, tA, tR, tH, tD, sc, sc4, slotRow]); first | done | rfl
    isplitl [H2]
    · unfold owns; iexists _; isplitr; swap; · iexact H2
      ipureintro; first | exact h2 | (refine h2.trans ?_; rfl)
    isplitl [H3]
    · unfold owns; iexists _; isplitr; swap; · iexact H3
      ipureintro; first | exact h3 | (refine h3.trans ?_; rfl)
    isplitl [H4]
    · unfold owns; iexists _; isplitr; swap; · iexact H4
      ipureintro; first | exact h4 | (refine h4.trans ?_; rfl)
    isplitl [H5]
    · unfold owns; iexists _; isplitr; swap; · iexact H5
      ipureintro; first | exact h5 | (refine h5.trans ?_; rfl)
    isplitl [H6]
    · unfold owns; iexists _; isplitr; swap; · iexact H6
      ipureintro; first | exact h6 | (refine h6.trans ?_; rfl)
    isplitl [H7]
    · unfold owns; iexists _; isplitr; swap; · iexact H7
      ipureintro; first | exact h7 | (refine h7.trans ?_; rfl)
    isplitl [H9]
    · unfold owns; iexists _; isplitr; swap; · iexact H9
      ipureintro; first | exact h9 | (refine h9.trans ?_; rfl)
    isplitl [H10]
    · unfold owns; iexists _; isplitr; swap; · iexact H10
      ipureintro; first | exact h10 | (refine h10.trans ?_; rfl)
    isplitl [H11]
    · unfold owns; iexists _; isplitr; swap; · iexact H11
      ipureintro; first | exact h11 | (refine h11.trans ?_; rfl)
    isplitl [H12]
    · unfold owns; iexists _; isplitr; swap; · iexact H12
      ipureintro; first | exact h12 | (refine h12.trans ?_; rfl)
    isplitl [H13]
    · unfold owns; iexists _; isplitr; swap; · iexact H13
      ipureintro; first | exact h13 | (refine h13.trans ?_; rfl)
    isplitl [H14]
    · unfold owns; iexists _; isplitr; swap; · iexact H14
      ipureintro; first | exact h14 | (refine h14.trans ?_; rfl)
    isplitl [H19]
    · unfold owns; iexists _; isplitr; swap; · iexact H19
      ipureintro; first | (refine (View.read_writes_full _ _ _ _ _).trans ?_; (try simp only [r2, r3, r4, r5, r6, r7, r9, r10, r11, r12, r13, r14, r19, r20, r21, r23, r24, r25, r27, r28, r29, r30, r31, r32, r33, r34, r36, r37]); (repeat first | rw [View.readCov_full] | rw [cov_slot] | rw [cov_at]); (try dsimp only [expertSt, firstSt, tileSt, combineSt, finishSt, tA, tR, tH, tD, sc, sc4, slotRow]); first | done | rfl) | (first | exact h19 | (refine h19.trans ?_; rfl))
    isplitl [H20]
    · unfold owns; iexists _; isplitr; swap; · iexact H20
      ipureintro; first | (refine (View.read_writes_full _ _ _ _ _).trans ?_; (try simp only [r2, r3, r4, r5, r6, r7, r9, r10, r11, r12, r13, r14, r19, r20, r21, r23, r24, r25, r27, r28, r29, r30, r31, r32, r33, r34, r36, r37]); (repeat first | rw [View.readCov_full] | rw [cov_slot] | rw [cov_at]); (try dsimp only [expertSt, firstSt, tileSt, combineSt, finishSt, tA, tR, tH, tD, sc, sc4, slotRow]); first | done | rfl) | (first | exact h20 | (refine h20.trans ?_; rfl))
    isplitl [H21]
    · unfold owns; iexists _; isplitr; swap; · iexact H21
      ipureintro; first | (refine (View.read_writes_full _ _ _ _ _).trans ?_; (try simp only [r2, r3, r4, r5, r6, r7, r9, r10, r11, r12, r13, r14, r19, r20, r21, r23, r24, r25, r27, r28, r29, r30, r31, r32, r33, r34, r36, r37]); (repeat first | rw [View.readCov_full] | rw [cov_slot] | rw [cov_at]); (try dsimp only [expertSt, firstSt, tileSt, combineSt, finishSt, tA, tR, tH, tD, sc, sc4, slotRow]); first | done | rfl) | (first | exact h21 | (refine h21.trans ?_; rfl))
    isplitl [H23]
    · unfold owns; iexists _; isplitr; swap; · iexact H23
      ipureintro; first | (refine (View.read_writes_full _ _ _ _ _).trans ?_; (try simp only [r2, r3, r4, r5, r6, r7, r9, r10, r11, r12, r13, r14, r19, r20, r21, r23, r24, r25, r27, r28, r29, r30, r31, r32, r33, r34, r36, r37]); (repeat first | rw [View.readCov_full] | rw [cov_slot] | rw [cov_at]); (try dsimp only [expertSt, firstSt, tileSt, combineSt, finishSt, tA, tR, tH, tD, sc, sc4, slotRow]); first | done | rfl) | (first | exact h23 | (refine h23.trans ?_; rfl))
    isplitl [H24]
    · unfold owns; iexists _; isplitr; swap; · iexact H24
      ipureintro; first | (refine (View.read_writes_full _ _ _ _ _).trans ?_; (try simp only [r2, r3, r4, r5, r6, r7, r9, r10, r11, r12, r13, r14, r19, r20, r21, r23, r24, r25, r27, r28, r29, r30, r31, r32, r33, r34, r36, r37]); (repeat first | rw [View.readCov_full] | rw [cov_slot] | rw [cov_at]); (try dsimp only [expertSt, firstSt, tileSt, combineSt, finishSt, tA, tR, tH, tD, sc, sc4, slotRow]); first | done | rfl) | (first | exact h24 | (refine h24.trans ?_; rfl))
    isplitl [H25]
    · unfold owns; iexists _; isplitr; swap; · iexact H25
      ipureintro; first | (refine (View.read_writes_full _ _ _ _ _).trans ?_; (try simp only [r2, r3, r4, r5, r6, r7, r9, r10, r11, r12, r13, r14, r19, r20, r21, r23, r24, r25, r27, r28, r29, r30, r31, r32, r33, r34, r36, r37]); (repeat first | rw [View.readCov_full] | rw [cov_slot] | rw [cov_at]); (try dsimp only [expertSt, firstSt, tileSt, combineSt, finishSt, tA, tR, tH, tD, sc, sc4, slotRow]); first | done | rfl) | (first | exact h25 | (refine h25.trans ?_; rfl))
    isplitl [H27]
    · unfold owns; iexists _; isplitr; swap; · iexact H27
      ipureintro; first | (refine (View.read_writes_full _ _ _ _ _).trans ?_; (try simp only [r2, r3, r4, r5, r6, r7, r9, r10, r11, r12, r13, r14, r19, r20, r21, r23, r24, r25, r27, r28, r29, r30, r31, r32, r33, r34, r36, r37]); (repeat first | rw [View.readCov_full] | rw [cov_slot] | rw [cov_at]); (try dsimp only [expertSt, firstSt, tileSt, combineSt, finishSt, tA, tR, tH, tD, sc, sc4, slotRow]); first | done | rfl) | (first | exact h27 | (refine h27.trans ?_; rfl))
    isplitl [H28]
    · unfold owns; iexists _; isplitr; swap; · iexact H28
      ipureintro; first | (refine (View.read_writes_full _ _ _ _ _).trans ?_; (try simp only [r2, r3, r4, r5, r6, r7, r9, r10, r11, r12, r13, r14, r19, r20, r21, r23, r24, r25, r27, r28, r29, r30, r31, r32, r33, r34, r36, r37]); (repeat first | rw [View.readCov_full] | rw [cov_slot] | rw [cov_at]); (try dsimp only [expertSt, firstSt, tileSt, combineSt, finishSt, tA, tR, tH, tD, sc, sc4, slotRow]); first | done | rfl) | (first | exact h28 | (refine h28.trans ?_; rfl))
    isplitl [H29]
    · unfold owns; iexists _; isplitr; swap; · iexact H29
      ipureintro; first | (refine (View.read_writes_full _ _ _ _ _).trans ?_; (try simp only [r2, r3, r4, r5, r6, r7, r9, r10, r11, r12, r13, r14, r19, r20, r21, r23, r24, r25, r27, r28, r29, r30, r31, r32, r33, r34, r36, r37]); (repeat first | rw [View.readCov_full] | rw [cov_slot] | rw [cov_at]); (try dsimp only [expertSt, firstSt, tileSt, combineSt, finishSt, tA, tR, tH, tD, sc, sc4, slotRow]); first | done | rfl) | (first | exact h29 | (refine h29.trans ?_; rfl))
    isplitl [H30]
    · unfold owns; iexists _; isplitr; swap; · iexact H30
      ipureintro; first | (refine (View.read_writes_full _ _ _ _ _).trans ?_; (try simp only [r2, r3, r4, r5, r6, r7, r9, r10, r11, r12, r13, r14, r19, r20, r21, r23, r24, r25, r27, r28, r29, r30, r31, r32, r33, r34, r36, r37]); (repeat first | rw [View.readCov_full] | rw [cov_slot] | rw [cov_at]); (try dsimp only [expertSt, firstSt, tileSt, combineSt, finishSt, tA, tR, tH, tD, sc, sc4, slotRow]); first | done | rfl) | (first | exact h30 | (refine h30.trans ?_; rfl))
    isplitl [H31]
    · unfold owns; iexists _; isplitr; swap; · iexact H31
      ipureintro; first | (refine (View.read_writes_full _ _ _ _ _).trans ?_; (try simp only [r2, r3, r4, r5, r6, r7, r9, r10, r11, r12, r13, r14, r19, r20, r21, r23, r24, r25, r27, r28, r29, r30, r31, r32, r33, r34, r36, r37]); (repeat first | rw [View.readCov_full] | rw [cov_slot] | rw [cov_at]); (try dsimp only [expertSt, firstSt, tileSt, combineSt, finishSt, tA, tR, tH, tD, sc, sc4, slotRow]); first | done | rfl) | (first | exact h31 | (refine h31.trans ?_; rfl))
    isplitl [H32]
    · unfold owns; iexists _; isplitr; swap; · iexact H32
      ipureintro; first | (refine (View.read_writes_full _ _ _ _ _).trans ?_; (try simp only [r2, r3, r4, r5, r6, r7, r9, r10, r11, r12, r13, r14, r19, r20, r21, r23, r24, r25, r27, r28, r29, r30, r31, r32, r33, r34, r36, r37]); (repeat first | rw [View.readCov_full] | rw [cov_slot] | rw [cov_at]); (try dsimp only [expertSt, firstSt, tileSt, combineSt, finishSt, tA, tR, tH, tD, sc, sc4, slotRow]); first | done | rfl) | (first | exact h32 | (refine h32.trans ?_; rfl))
    isplitl [H33]
    · unfold owns; iexists _; isplitr; swap; · iexact H33
      ipureintro; first | (refine (View.read_writes_full _ _ _ _ _).trans ?_; (try simp only [r2, r3, r4, r5, r6, r7, r9, r10, r11, r12, r13, r14, r19, r20, r21, r23, r24, r25, r27, r28, r29, r30, r31, r32, r33, r34, r36, r37]); (repeat first | rw [View.readCov_full] | rw [cov_slot] | rw [cov_at]); (try dsimp only [expertSt, firstSt, tileSt, combineSt, finishSt, tA, tR, tH, tD, sc, sc4, slotRow]); first | done | rfl) | (first | exact h33 | (refine h33.trans ?_; rfl))
    isplitl [H34]
    · unfold owns; iexists _; isplitr; swap; · iexact H34
      ipureintro; first | (refine (View.read_writes_full _ _ _ _ _).trans ?_; (try simp only [r2, r3, r4, r5, r6, r7, r9, r10, r11, r12, r13, r14, r19, r20, r21, r23, r24, r25, r27, r28, r29, r30, r31, r32, r33, r34, r36, r37]); (repeat first | rw [View.readCov_full] | rw [cov_slot] | rw [cov_at]); (try dsimp only [expertSt, firstSt, tileSt, combineSt, finishSt, tA, tR, tH, tD, sc, sc4, slotRow]); first | done | rfl) | (first | exact h34 | (refine h34.trans ?_; rfl))
    isplitl [H36]
    · unfold owns; iexists _; isplitr; swap; · iexact H36
      ipureintro; first | (refine (View.read_writes_full _ _ _ _ _).trans ?_; (try simp only [r2, r3, r4, r5, r6, r7, r9, r10, r11, r12, r13, r14, r19, r20, r21, r23, r24, r25, r27, r28, r29, r30, r31, r32, r33, r34, r36, r37]); (repeat first | rw [View.readCov_full] | rw [cov_slot] | rw [cov_at]); (try dsimp only [expertSt, firstSt, tileSt, combineSt, finishSt, tA, tR, tH, tD, sc, sc4, slotRow]); first | done | rfl) | (first | exact h36 | (refine h36.trans ?_; rfl))
    unfold owns; iexists _; isplitr; swap; · iexact H37
    ipureintro; first | (refine (View.read_writes_full _ _ _ _ _).trans ?_; (try simp only [r2, r3, r4, r5, r6, r7, r9, r10, r11, r12, r13, r14, r19, r20, r21, r23, r24, r25, r27, r28, r29, r30, r31, r32, r33, r34, r36, r37]); (repeat first | rw [View.readCov_full] | rw [cov_slot] | rw [cov_at]); (try dsimp only [expertSt, firstSt, tileSt, combineSt, finishSt, tA, tR, tH, tD, sc, sc4, slotRow]); first | done | rfl) | (first | exact h37 | (refine h37.trans ?_; rfl))

set_option maxHeartbeats 2000000 in
/-- One grid point of the kernel as a triple: its buffers go from `s` to `step i I s`, the slot scratch at whatever it holds. -/
theorem body_spec (E : Set ℕ) (Q : PUnit → sProp 𝕄) (I : In F) (s : St F) :
    iprop(owns (c : Thread nD τ) arg2 fullShare I.sx
      ∗ owns (c : Thread nD τ) arg3 fullShare I.sh
      ∗ owns (c : Thread nD τ) arg4 fullShare I.sdo
      ∗ owns (c : Thread nD τ) arg5 fullShare I.sda
      ∗ owns (c : Thread nD τ) arg6 fullShare I.w1s
      ∗ owns (c : Thread nD τ) arg7 fullShare I.w2s
      ∗ owns (c : Thread nD τ) arg8 fullShare I.slot
      ∗ owns (c : Thread nD τ) arg9 fullShare I.tok
      ∗ owns (c : Thread nD τ) arg10 fullShare I.gate
      ∗ owns (c : Thread nD τ) arg11 fullShare I.x
      ∗ owns (c : Thread nD τ) arg12 fullShare I.dy
      ∗ owns (c : Thread nD τ) arg13 fullShare I.w1
      ∗ owns (c : Thread nD τ) arg14 fullShare I.w2
      ∗ owns (c : Thread nD τ) arg15 fullShare s.y
      ∗ owns (c : Thread nD τ) arg16 fullShare s.dx
      ∗ owns (c : Thread nD τ) arg17 fullShare s.dw1
      ∗ owns (c : Thread nD τ) arg18 fullShare s.dw2
      ∗ owns (c : Thread nD τ) arg19 fullShare s.dgate
      ∗ owns (c : Thread nD τ) arg20 fullShare s.xc
      ∗ owns (c : Thread nD τ) arg21 fullShare s.ax
      ∗ owns (c : Thread nD τ) arg22 fullShare s.h
      ∗ owns (c : Thread nD τ) arg23 fullShare s.ah
      ∗ owns (c : Thread nD τ) arg24 fullShare s.doc
      ∗ owns (c : Thread nD τ) arg25 fullShare s.ado
      ∗ owns (c : Thread nD τ) arg26 fullShare s.da
      ∗ owns (c : Thread nD τ) arg27 fullShare s.ada
      ∗ owns (c : Thread nD τ) arg28 fullShare s.xs
      ∗ owns (c : Thread nD τ) arg29 fullShare s.dO
      ∗ owns (c : Thread nD τ) arg30 fullShare s.xst
      ∗ owns (c : Thread nD τ) arg31 fullShare s.o
      ∗ owns (c : Thread nD τ) arg32 fullShare s.dxs
      ∗ owns (c : Thread nD τ) arg33 fullShare s.dyg
      ∗ owns (c : Thread nD τ) arg34 fullShare s.gs
      ∗ owns (c : Thread nD τ) arg36 fullShare s.yacc
      ∗ owns (c : Thread nD τ) arg37 fullShare s.dxacc
      ∗ (∃ d, owns (c : Thread nD τ) arg35 fullShare d)
      ∗ ((owns (c : Thread nD τ) arg2 fullShare I.sx
      ∗ owns (c : Thread nD τ) arg3 fullShare I.sh
      ∗ owns (c : Thread nD τ) arg4 fullShare I.sdo
      ∗ owns (c : Thread nD τ) arg5 fullShare I.sda
      ∗ owns (c : Thread nD τ) arg6 fullShare I.w1s
      ∗ owns (c : Thread nD τ) arg7 fullShare I.w2s
      ∗ owns (c : Thread nD τ) arg8 fullShare I.slot
      ∗ owns (c : Thread nD τ) arg9 fullShare I.tok
      ∗ owns (c : Thread nD τ) arg10 fullShare I.gate
      ∗ owns (c : Thread nD τ) arg11 fullShare I.x
      ∗ owns (c : Thread nD τ) arg12 fullShare I.dy
      ∗ owns (c : Thread nD τ) arg13 fullShare I.w1
      ∗ owns (c : Thread nD τ) arg14 fullShare I.w2
      ∗ owns (c : Thread nD τ) arg15 fullShare (step i I s).y
      ∗ owns (c : Thread nD τ) arg16 fullShare (step i I s).dx
      ∗ owns (c : Thread nD τ) arg17 fullShare (step i I s).dw1
      ∗ owns (c : Thread nD τ) arg18 fullShare (step i I s).dw2
      ∗ owns (c : Thread nD τ) arg19 fullShare (step i I s).dgate
      ∗ owns (c : Thread nD τ) arg20 fullShare (step i I s).xc
      ∗ owns (c : Thread nD τ) arg21 fullShare (step i I s).ax
      ∗ owns (c : Thread nD τ) arg22 fullShare (step i I s).h
      ∗ owns (c : Thread nD τ) arg23 fullShare (step i I s).ah
      ∗ owns (c : Thread nD τ) arg24 fullShare (step i I s).doc
      ∗ owns (c : Thread nD τ) arg25 fullShare (step i I s).ado
      ∗ owns (c : Thread nD τ) arg26 fullShare (step i I s).da
      ∗ owns (c : Thread nD τ) arg27 fullShare (step i I s).ada
      ∗ owns (c : Thread nD τ) arg28 fullShare (step i I s).xs
      ∗ owns (c : Thread nD τ) arg29 fullShare (step i I s).dO
      ∗ owns (c : Thread nD τ) arg30 fullShare (step i I s).xst
      ∗ owns (c : Thread nD τ) arg31 fullShare (step i I s).o
      ∗ owns (c : Thread nD τ) arg32 fullShare (step i I s).dxs
      ∗ owns (c : Thread nD τ) arg33 fullShare (step i I s).dyg
      ∗ owns (c : Thread nD τ) arg34 fullShare (step i I s).gs
      ∗ owns (c : Thread nD τ) arg36 fullShare (step i I s).yacc
      ∗ owns (c : Thread nD τ) arg37 fullShare (step i I s).dxacc
      ∗ (∃ d, owns (c : Thread nD τ) arg35 fullShare d))
        -∗ Q ⟨⟩))
    ⊢ wp frame (wpE (defs₀ (F := F)) Variants.none c none) E (cc0_moe_fwd_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37) Q := by
  simp only [cc0_moe_fwd_bwd_eq_skeleton]; unfold cc0_moe_fwd_bwd_skel
  rw [show step i I s = fin i I (tileSt i I (prep i I s)) from rfl]
  have e15 : (prep i I s).y = s.y := by unfold prep expertSt firstSt; split <;> split <;> rfl
  have e16 : (prep i I s).dx = s.dx := by unfold prep expertSt firstSt; split <;> split <;> rfl
  have e17 : (prep i I s).dw1 = s.dw1 := by unfold prep expertSt firstSt; split <;> split <;> rfl
  have e18 : (prep i I s).dw2 = s.dw2 := by unfold prep expertSt firstSt; split <;> split <;> rfl
  have e22 : (prep i I s).h = s.h := by unfold prep expertSt firstSt; split <;> split <;> rfl
  have e26 : (prep i I s).da = s.da := by unfold prep expertSt firstSt; split <;> split <;> rfl
  iintro ⟨H2, H3, H4, H5, H6, H7, H8, H9, H10, H11, H12, H13, H14, H15, H16, H17, H18, H19, H20, H21, H22, H23, H24, H25, H26, H27, H28, H29, H30, H31, H32, H33, H34, H36, H37, ⟨%d35, H35⟩, HQ⟩
  rw [wp_bind]
  iapply (part5_spec c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 E _ I s)
  isplitl [H2]; · iexact H2
  isplitl [H3]; · iexact H3
  isplitl [H4]; · iexact H4
  isplitl [H5]; · iexact H5
  isplitl [H6]; · iexact H6
  isplitl [H7]; · iexact H7
  isplitl [H9]; · iexact H9
  isplitl [H10]; · iexact H10
  isplitl [H11]; · iexact H11
  isplitl [H12]; · iexact H12
  isplitl [H13]; · iexact H13
  isplitl [H14]; · iexact H14
  isplitl [H19]; · iexact H19
  isplitl [H20]; · iexact H20
  isplitl [H21]; · iexact H21
  isplitl [H23]; · iexact H23
  isplitl [H24]; · iexact H24
  isplitl [H25]; · iexact H25
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H36]; · iexact H36
  isplitl [H37]; · iexact H37
  iintro %r ⟨%hr, H2, H3, H4, H5, H6, H7, H9, H10, H11, H12, H13, H14, H19, H20, H21, H23, H24, H25, H27, H28, H29, H30, H31, H32, H33, H34, H36, H37⟩
  subst hr
  generalize hp : prep i I s = p at *
  simp only [k0_part4_eq_skeleton, k0_part6_eq_skeleton, k0_part7_eq_skeleton]
  icases (owns_split c arg2 _ _).1 $$ H2 with ⟨%f2, %h2, H2⟩
  icases (owns_split c arg3 _ _).1 $$ H3 with ⟨%f3, %h3, H3⟩
  icases (owns_split c arg4 _ _).1 $$ H4 with ⟨%f4, %h4, H4⟩
  icases (owns_split c arg5 _ _).1 $$ H5 with ⟨%f5, %h5, H5⟩
  icases (owns_split c arg6 _ _).1 $$ H6 with ⟨%f6, %h6, H6⟩
  icases (owns_split c arg7 _ _).1 $$ H7 with ⟨%f7, %h7, H7⟩
  icases (owns_split c arg8 _ _).1 $$ H8 with ⟨%f8, %h8, H8⟩
  icases (owns_split c arg9 _ _).1 $$ H9 with ⟨%f9, %h9, H9⟩
  icases (owns_split c arg10 _ _).1 $$ H10 with ⟨%f10, %h10, H10⟩
  icases (owns_split c arg11 _ _).1 $$ H11 with ⟨%f11, %h11, H11⟩
  icases (owns_split c arg12 _ _).1 $$ H12 with ⟨%f12, %h12, H12⟩
  icases (owns_split c arg13 _ _).1 $$ H13 with ⟨%f13, %h13, H13⟩
  icases (owns_split c arg14 _ _).1 $$ H14 with ⟨%f14, %h14, H14⟩
  icases (owns_split c arg15 _ _).1 $$ H15 with ⟨%f15, %h15, H15⟩
  icases (owns_split c arg16 _ _).1 $$ H16 with ⟨%f16, %h16, H16⟩
  icases (owns_split c arg17 _ _).1 $$ H17 with ⟨%f17, %h17, H17⟩
  icases (owns_split c arg18 _ _).1 $$ H18 with ⟨%f18, %h18, H18⟩
  icases (owns_split c arg19 _ _).1 $$ H19 with ⟨%f19, %h19, H19⟩
  icases (owns_split c arg20 _ _).1 $$ H20 with ⟨%f20, %h20, H20⟩
  icases (owns_split c arg21 _ _).1 $$ H21 with ⟨%f21, %h21, H21⟩
  icases (owns_split c arg22 _ _).1 $$ H22 with ⟨%f22, %h22, H22⟩
  icases (owns_split c arg23 _ _).1 $$ H23 with ⟨%f23, %h23, H23⟩
  icases (owns_split c arg24 _ _).1 $$ H24 with ⟨%f24, %h24, H24⟩
  icases (owns_split c arg25 _ _).1 $$ H25 with ⟨%f25, %h25, H25⟩
  icases (owns_split c arg26 _ _).1 $$ H26 with ⟨%f26, %h26, H26⟩
  icases (owns_split c arg27 _ _).1 $$ H27 with ⟨%f27, %h27, H27⟩
  icases (owns_split c arg28 _ _).1 $$ H28 with ⟨%f28, %h28, H28⟩
  icases (owns_split c arg29 _ _).1 $$ H29 with ⟨%f29, %h29, H29⟩
  icases (owns_split c arg30 _ _).1 $$ H30 with ⟨%f30, %h30, H30⟩
  icases (owns_split c arg31 _ _).1 $$ H31 with ⟨%f31, %h31, H31⟩
  icases (owns_split c arg32 _ _).1 $$ H32 with ⟨%f32, %h32, H32⟩
  icases (owns_split c arg33 _ _).1 $$ H33 with ⟨%f33, %h33, H33⟩
  icases (owns_split c arg34 _ _).1 $$ H34 with ⟨%f34, %h34, H34⟩
  icases (owns_split c arg36 _ _).1 $$ H36 with ⟨%f36, %h36, H36⟩
  icases (owns_split c arg37 _ _).1 $$ H37 with ⟨%f37, %h37, H37⟩
  have r2 : ∀ h, View.readAt (Elt F) arg2.view (Rect.unit ![0] ![1] h).toLoadRect f2 = _ := fun h => (View.readAt_full arg2.view f2 h).trans h2
  have r3 : ∀ h, View.readAt (Elt F) arg3.view (Rect.unit ![0] ![1] h).toLoadRect f3 = _ := fun h => (View.readAt_full arg3.view f3 h).trans h3
  have r4 : ∀ h, View.readAt (Elt F) arg4.view (Rect.unit ![0] ![1] h).toLoadRect f4 = _ := fun h => (View.readAt_full arg4.view f4 h).trans h4
  have r5 : ∀ h, View.readAt (Elt F) arg5.view (Rect.unit ![0] ![1] h).toLoadRect f5 = _ := fun h => (View.readAt_full arg5.view f5 h).trans h5
  have r6 := fun r => rd_at arg6.view r f6 h6
  have r7 := fun r => rd_at arg7.view r f7 h7
  have r8 := fun r => rd_at arg8.view r f8 h8
  have r9 : ∀ h, View.readAt (Elt F) arg9.view (Rect.unit ![0, 0] ![1, 256] h).toLoadRect f9 = _ := fun h => (View.readAt_full arg9.view f9 h).trans h9
  have r10 : ∀ h, View.readAt (Elt F) arg10.view (Rect.unit ![0, 0] ![1, 256] h).toLoadRect f10 = _ := fun h => (View.readAt_full arg10.view f10 h).trans h10
  have r11 : ∀ h, View.readAt (Elt F) arg11.view (Rect.unit ![0, 0] ![256, 768] h).toLoadRect f11 = _ := fun h => (View.readAt_full arg11.view f11 h).trans h11
  have r12 : ∀ h, View.readAt (Elt F) arg12.view (Rect.unit ![0, 0] ![256, 768] h).toLoadRect f12 = _ := fun h => (View.readAt_full arg12.view f12 h).trans h12
  have r13 : ∀ h, View.readAt (Elt F) arg13.view (Rect.unit ![0, 0, 0] ![1, 768, 512] h).toLoadRect f13 = _ := fun h => (View.readAt_full arg13.view f13 h).trans h13
  have r14 : ∀ h, View.readAt (Elt F) arg14.view (Rect.unit ![0, 0, 0] ![1, 512, 768] h).toLoadRect f14 = _ := fun h => (View.readAt_full arg14.view f14 h).trans h14
  have r15 : ∀ h, View.readAt (Elt F) arg15.view (Rect.unit ![0, 0] ![256, 768] h).toLoadRect f15 = _ := fun h => (View.readAt_full arg15.view f15 h).trans h15
  have r16 : ∀ h, View.readAt (Elt F) arg16.view (Rect.unit ![0, 0] ![256, 768] h).toLoadRect f16 = _ := fun h => (View.readAt_full arg16.view f16 h).trans h16
  have r17 : ∀ h, View.readAt (Elt F) arg17.view (Rect.unit ![0, 0, 0] ![1, 768, 512] h).toLoadRect f17 = _ := fun h => (View.readAt_full arg17.view f17 h).trans h17
  have r18 : ∀ h, View.readAt (Elt F) arg18.view (Rect.unit ![0, 0, 0] ![1, 512, 768] h).toLoadRect f18 = _ := fun h => (View.readAt_full arg18.view f18 h).trans h18
  have r19 : ∀ h, View.readAt (Elt F) arg19.view (Rect.unit ![0, 0] ![1, 256] h).toLoadRect f19 = _ := fun h => (View.readAt_full arg19.view f19 h).trans h19
  have r20 : ∀ h, View.readAt (Elt F) arg20.view (Rect.unit ![0, 0] ![256, 768] h).toLoadRect f20 = _ := fun h => (View.readAt_full arg20.view f20 h).trans h20
  have r21 : ∀ h, View.readAt (Elt F) arg21.view (Rect.unit ![0] ![1] h).toLoadRect f21 = _ := fun h => (View.readAt_full arg21.view f21 h).trans h21
  have r22 : ∀ h, View.readAt (Elt F) arg22.view (Rect.unit ![0, 0, 0] ![1, 80, 512] h).toLoadRect f22 = _ := fun h => (View.readAt_full arg22.view f22 h).trans h22
  have r23 : ∀ h, View.readAt (Elt F) arg23.view (Rect.unit ![0] ![1] h).toLoadRect f23 = _ := fun h => (View.readAt_full arg23.view f23 h).trans h23
  have r24 : ∀ h, View.readAt (Elt F) arg24.view (Rect.unit ![0, 0, 0] ![1, 80, 768] h).toLoadRect f24 = _ := fun h => (View.readAt_full arg24.view f24 h).trans h24
  have r25 : ∀ h, View.readAt (Elt F) arg25.view (Rect.unit ![0] ![1] h).toLoadRect f25 = _ := fun h => (View.readAt_full arg25.view f25 h).trans h25
  have r26 : ∀ h, View.readAt (Elt F) arg26.view (Rect.unit ![0, 0, 0] ![1, 80, 512] h).toLoadRect f26 = _ := fun h => (View.readAt_full arg26.view f26 h).trans h26
  have r27 : ∀ h, View.readAt (Elt F) arg27.view (Rect.unit ![0] ![1] h).toLoadRect f27 = _ := fun h => (View.readAt_full arg27.view f27 h).trans h27
  have r28 : ∀ h, View.readAt (Elt F) arg28.view (Rect.unit ![0, 0] ![96, 768] h).toLoadRect f28 = _ := fun h => (View.readAt_full arg28.view f28 h).trans h28
  have r29 : ∀ h, View.readAt (Elt F) arg29.view (Rect.unit ![0, 0] ![96, 768] h).toLoadRect f29 = _ := fun h => (View.readAt_full arg29.view f29 h).trans h29
  have r30 : ∀ h, View.readAt (Elt F) arg30.view (Rect.unit ![0, 0] ![768, 96] h).toLoadRect f30 = _ := fun h => (View.readAt_full arg30.view f30 h).trans h30
  have r31 : ∀ h, View.readAt (Elt F) arg31.view (Rect.unit ![0, 0] ![96, 768] h).toLoadRect f31 = _ := fun h => (View.readAt_full arg31.view f31 h).trans h31
  have r32 : ∀ h, View.readAt (Elt F) arg32.view (Rect.unit ![0, 0] ![96, 768] h).toLoadRect f32 = _ := fun h => (View.readAt_full arg32.view f32 h).trans h32
  have r33 : ∀ h, View.readAt (Elt F) arg33.view (Rect.unit ![0, 0] ![96, 768] h).toLoadRect f33 = _ := fun h => (View.readAt_full arg33.view f33 h).trans h33
  have r34 := fun r => rd_at arg34.view r f34 h34
  have r36 : ∀ h, View.readAt (Elt F) arg36.view (Rect.unit ![0, 0] ![256, 768] h).toLoadRect f36 = _ := fun h => (View.readAt_full arg36.view f36 h).trans h36
  have r37 : ∀ h, View.readAt (Elt F) arg37.view (Rect.unit ![0, 0] ![256, 768] h).toLoadRect f37 = _ := fun h => (View.readAt_full arg37.view f37 h).trans h37
  icases (owns_split c arg35 _ _).1 $$ H35 with ⟨%f35, %h35, H35⟩
  by_cases hc3 : k0_cond3 i = 1#1 <;> by_cases hc4 : k0_cond4 i = 1#1
  rw [show fin i I (tileSt i I p) = (finishSt (combineSt i hc3 I (tileSt i I p))) from by unfold fin; rw [if_pos hc4, dif_pos hc3]]
  sl_exec (disch := first | sl_exact hc3 | sl_exact hc4)
  sl_step
  rotate_left
  rw [show fin i I (tileSt i I p) = (combineSt i hc3 I (tileSt i I p)) from by unfold fin; rw [if_neg hc4, dif_pos hc3]]
  sl_exec (disch := first | sl_exact hc3 | sl_exact hc4)
  sl_step
  rotate_left
  rw [show fin i I (tileSt i I p) = (finishSt (tileSt i I p)) from by unfold fin; rw [if_pos hc4, dif_neg hc3]]
  sl_exec (disch := first | sl_exact hc3 | sl_exact hc4)
  sl_step
  rotate_left
  rw [show fin i I (tileSt i I p) = (tileSt i I p) from by unfold fin; rw [if_neg hc4, dif_neg hc3]]
  sl_exec (disch := first | sl_exact hc3 | sl_exact hc4)
  sl_step
  rotate_left
  all_goals try delta body_spec.sl.H31_1 body_spec.sl.H31_1_1 body_spec.sl.H32_1 body_spec.sl.H32_1_1 body_spec.sl.H35_2 body_spec.sl.H35_2_1 body_spec.sl.H36_1 body_spec.sl.H37_1 body_spec.sl.r body_spec.sl.r_1 body_spec.sl.r_10 body_spec.sl.r_11 body_spec.sl.r_12 body_spec.sl.r_13 body_spec.sl.r_14 body_spec.sl.r_15 body_spec.sl.r_16 body_spec.sl.r_17 body_spec.sl.r_18 body_spec.sl.r_19 body_spec.sl.r_2 body_spec.sl.r_3 body_spec.sl.r_4 body_spec.sl.r_5 body_spec.sl.r_6 body_spec.sl.r_7 body_spec.sl.r_8 body_spec.sl.r_9 body_spec.sl.v104 body_spec.sl.v104_1 body_spec.sl.v104_2 body_spec.sl.v104_3 body_spec.sl.v105 body_spec.sl.v105_1 body_spec.sl.v105_2 body_spec.sl.v105_3 body_spec.sl.v112 body_spec.sl.v115 body_spec.sl.v122 body_spec.sl.v122_1 body_spec.sl.v129 body_spec.sl.v129_1 body_spec.sl.v168 body_spec.sl.v168_1
  all_goals
    iapply HQ
    isplitl [H2]
    · unfold owns; iexists _; isplitr; swap; · iexact H2
      ipureintro; first | exact h2 | (refine h2.trans ?_; rfl)
    isplitl [H3]
    · unfold owns; iexists _; isplitr; swap; · iexact H3
      ipureintro; first | exact h3 | (refine h3.trans ?_; rfl)
    isplitl [H4]
    · unfold owns; iexists _; isplitr; swap; · iexact H4
      ipureintro; first | exact h4 | (refine h4.trans ?_; rfl)
    isplitl [H5]
    · unfold owns; iexists _; isplitr; swap; · iexact H5
      ipureintro; first | exact h5 | (refine h5.trans ?_; rfl)
    isplitl [H6]
    · unfold owns; iexists _; isplitr; swap; · iexact H6
      ipureintro; first | exact h6 | (refine h6.trans ?_; rfl)
    isplitl [H7]
    · unfold owns; iexists _; isplitr; swap; · iexact H7
      ipureintro; first | exact h7 | (refine h7.trans ?_; rfl)
    isplitl [H8]
    · unfold owns; iexists _; isplitr; swap; · iexact H8
      ipureintro; first | exact h8 | (refine h8.trans ?_; rfl)
    isplitl [H9]
    · unfold owns; iexists _; isplitr; swap; · iexact H9
      ipureintro; first | exact h9 | (refine h9.trans ?_; rfl)
    isplitl [H10]
    · unfold owns; iexists _; isplitr; swap; · iexact H10
      ipureintro; first | exact h10 | (refine h10.trans ?_; rfl)
    isplitl [H11]
    · unfold owns; iexists _; isplitr; swap; · iexact H11
      ipureintro; first | exact h11 | (refine h11.trans ?_; rfl)
    isplitl [H12]
    · unfold owns; iexists _; isplitr; swap; · iexact H12
      ipureintro; first | exact h12 | (refine h12.trans ?_; rfl)
    isplitl [H13]
    · unfold owns; iexists _; isplitr; swap; · iexact H13
      ipureintro; first | exact h13 | (refine h13.trans ?_; rfl)
    isplitl [H14]
    · unfold owns; iexists _; isplitr; swap; · iexact H14
      ipureintro; first | exact h14 | (refine h14.trans ?_; rfl)
    isplitl [H15]
    · unfold owns; iexists _; isplitr; swap; · iexact H15
      ipureintro; first | (refine (View.read_writes_full _ _ _ _ _).trans ?_; (try simp only [r2, r3, r4, r5, r6, r7, r8, r9, r10, r11, r12, r13, r14, r15, r16, r17, r18, r19, r20, r21, r22, r23, r24, r25, r26, r27, r28, r29, r30, r31, r32, r33, r34, r36, r37]); (repeat first | rw [View.readCov_full] | rw [cov_slot] | rw [cov_at]); (try dsimp only [expertSt, firstSt, tileSt, combineSt, finishSt, tA, tR, tH, tD, sc, sc4, slotRow]); first | done | rfl) | (exact h15.trans e15.symm)
    isplitl [H16]
    · unfold owns; iexists _; isplitr; swap; · iexact H16
      ipureintro; first | (refine (View.read_writes_full _ _ _ _ _).trans ?_; (try simp only [r2, r3, r4, r5, r6, r7, r8, r9, r10, r11, r12, r13, r14, r15, r16, r17, r18, r19, r20, r21, r22, r23, r24, r25, r26, r27, r28, r29, r30, r31, r32, r33, r34, r36, r37]); (repeat first | rw [View.readCov_full] | rw [cov_slot] | rw [cov_at]); (try dsimp only [expertSt, firstSt, tileSt, combineSt, finishSt, tA, tR, tH, tD, sc, sc4, slotRow]); first | done | rfl) | (exact h16.trans e16.symm)
    isplitl [H17]
    · unfold owns; iexists _; isplitr; swap; · iexact H17
      ipureintro; refine (View.read_writes_full _ _ _ _ _).trans ?_; (try simp only [r2, r3, r4, r5, r6, r7, r8, r9, r10, r11, r12, r13, r14, r15, r16, r17, r18, r19, r20, r21, r22, r23, r24, r25, r26, r27, r28, r29, r30, r31, r32, r33, r34, r36, r37]); (repeat first | rw [View.readCov_full] | rw [cov_slot] | rw [cov_at]); (try dsimp only [expertSt, firstSt, tileSt, combineSt, finishSt, tA, tR, tH, tD, sc, sc4, slotRow]); first | done | rfl
    isplitl [H18]
    · unfold owns; iexists _; isplitr; swap; · iexact H18
      ipureintro; refine (View.read_writes_full _ _ _ _ _).trans ?_; (try simp only [r2, r3, r4, r5, r6, r7, r8, r9, r10, r11, r12, r13, r14, r15, r16, r17, r18, r19, r20, r21, r22, r23, r24, r25, r26, r27, r28, r29, r30, r31, r32, r33, r34, r36, r37]); (repeat first | rw [View.readCov_full] | rw [cov_slot] | rw [cov_at]); (try dsimp only [expertSt, firstSt, tileSt, combineSt, finishSt, tA, tR, tH, tD, sc, sc4, slotRow]); first | done | rfl
    isplitl [H19]
    · unfold owns; iexists _; isplitr; swap; · iexact H19
      ipureintro; first | (refine (View.read_writes_full _ _ _ _ _).trans ?_; (try simp only [r2, r3, r4, r5, r6, r7, r8, r9, r10, r11, r12, r13, r14, r15, r16, r17, r18, r19, r20, r21, r22, r23, r24, r25, r26, r27, r28, r29, r30, r31, r32, r33, r34, r36, r37]); (repeat first | rw [View.readCov_full] | rw [cov_slot] | rw [cov_at]); (try dsimp only [expertSt, firstSt, tileSt, combineSt, finishSt, tA, tR, tH, tD, sc, sc4, slotRow]); first | done | rfl) | (first | exact h19 | (refine h19.trans ?_; rfl))
    isplitl [H20]
    · unfold owns; iexists _; isplitr; swap; · iexact H20
      ipureintro; first | exact h20 | (refine h20.trans ?_; rfl)
    isplitl [H21]
    · unfold owns; iexists _; isplitr; swap; · iexact H21
      ipureintro; first | exact h21 | (refine h21.trans ?_; rfl)
    isplitl [H22]
    · unfold owns; iexists _; isplitr; swap; · iexact H22
      ipureintro; refine (View.read_writes_full _ _ _ _ _).trans ?_; (try simp only [r2, r3, r4, r5, r6, r7, r8, r9, r10, r11, r12, r13, r14, r15, r16, r17, r18, r19, r20, r21, r22, r23, r24, r25, r26, r27, r28, r29, r30, r31, r32, r33, r34, r36, r37]); (repeat first | rw [View.readCov_full] | rw [cov_slot] | rw [cov_at]); (try dsimp only [expertSt, firstSt, tileSt, combineSt, finishSt, tA, tR, tH, tD, sc, sc4, slotRow]); first | done | rfl
    isplitl [H23]
    · unfold owns; iexists _; isplitr; swap; · iexact H23
      ipureintro; refine (View.read_writes_full _ _ _ _ _).trans ?_; (try simp only [r2, r3, r4, r5, r6, r7, r8, r9, r10, r11, r12, r13, r14, r15, r16, r17, r18, r19, r20, r21, r22, r23, r24, r25, r26, r27, r28, r29, r30, r31, r32, r33, r34, r36, r37]); (repeat first | rw [View.readCov_full] | rw [cov_slot] | rw [cov_at]); (try dsimp only [expertSt, firstSt, tileSt, combineSt, finishSt, tA, tR, tH, tD, sc, sc4, slotRow]); first | done | rfl
    isplitl [H24]
    · unfold owns; iexists _; isplitr; swap; · iexact H24
      ipureintro; first | exact h24 | (refine h24.trans ?_; rfl)
    isplitl [H25]
    · unfold owns; iexists _; isplitr; swap; · iexact H25
      ipureintro; first | exact h25 | (refine h25.trans ?_; rfl)
    isplitl [H26]
    · unfold owns; iexists _; isplitr; swap; · iexact H26
      ipureintro; refine (View.read_writes_full _ _ _ _ _).trans ?_; (try simp only [r2, r3, r4, r5, r6, r7, r8, r9, r10, r11, r12, r13, r14, r15, r16, r17, r18, r19, r20, r21, r22, r23, r24, r25, r26, r27, r28, r29, r30, r31, r32, r33, r34, r36, r37]); (repeat first | rw [View.readCov_full] | rw [cov_slot] | rw [cov_at]); (try dsimp only [expertSt, firstSt, tileSt, combineSt, finishSt, tA, tR, tH, tD, sc, sc4, slotRow]); first | done | rfl
    isplitl [H27]
    · unfold owns; iexists _; isplitr; swap; · iexact H27
      ipureintro; refine (View.read_writes_full _ _ _ _ _).trans ?_; (try simp only [r2, r3, r4, r5, r6, r7, r8, r9, r10, r11, r12, r13, r14, r15, r16, r17, r18, r19, r20, r21, r22, r23, r24, r25, r26, r27, r28, r29, r30, r31, r32, r33, r34, r36, r37]); (repeat first | rw [View.readCov_full] | rw [cov_slot] | rw [cov_at]); (try dsimp only [expertSt, firstSt, tileSt, combineSt, finishSt, tA, tR, tH, tD, sc, sc4, slotRow]); first | done | rfl
    isplitl [H28]
    · unfold owns; iexists _; isplitr; swap; · iexact H28
      ipureintro; first | exact h28 | (refine h28.trans ?_; rfl)
    isplitl [H29]
    · unfold owns; iexists _; isplitr; swap; · iexact H29
      ipureintro; first | exact h29 | (refine h29.trans ?_; rfl)
    isplitl [H30]
    · unfold owns; iexists _; isplitr; swap; · iexact H30
      ipureintro; first | exact h30 | (refine h30.trans ?_; rfl)
    isplitl [H31]
    · unfold owns; iexists _; isplitr; swap; · iexact H31
      ipureintro; refine (View.read_writes_full _ _ _ _ _).trans ?_; (try simp only [r2, r3, r4, r5, r6, r7, r8, r9, r10, r11, r12, r13, r14, r15, r16, r17, r18, r19, r20, r21, r22, r23, r24, r25, r26, r27, r28, r29, r30, r31, r32, r33, r34, r36, r37]); (repeat first | rw [View.readCov_full] | rw [cov_slot] | rw [cov_at]); (try dsimp only [expertSt, firstSt, tileSt, combineSt, finishSt, tA, tR, tH, tD, sc, sc4, slotRow]); first | done | rfl
    isplitl [H32]
    · unfold owns; iexists _; isplitr; swap; · iexact H32
      ipureintro; refine (View.read_writes_full _ _ _ _ _).trans ?_; (try simp only [r2, r3, r4, r5, r6, r7, r8, r9, r10, r11, r12, r13, r14, r15, r16, r17, r18, r19, r20, r21, r22, r23, r24, r25, r26, r27, r28, r29, r30, r31, r32, r33, r34, r36, r37]); (repeat first | rw [View.readCov_full] | rw [cov_slot] | rw [cov_at]); (try dsimp only [expertSt, firstSt, tileSt, combineSt, finishSt, tA, tR, tH, tD, sc, sc4, slotRow]); first | done | rfl
    isplitl [H33]
    · unfold owns; iexists _; isplitr; swap; · iexact H33
      ipureintro; first | exact h33 | (refine h33.trans ?_; rfl)
    isplitl [H34]
    · unfold owns; iexists _; isplitr; swap; · iexact H34
      ipureintro; first | exact h34 | (refine h34.trans ?_; rfl)
    isplitl [H36]
    · unfold owns; iexists _; isplitr; swap; · iexact H36
      ipureintro; first | (refine (View.read_writes_full _ _ _ _ _).trans ?_; (try simp only [r2, r3, r4, r5, r6, r7, r8, r9, r10, r11, r12, r13, r14, r15, r16, r17, r18, r19, r20, r21, r22, r23, r24, r25, r26, r27, r28, r29, r30, r31, r32, r33, r34, r36, r37]); (repeat first | rw [View.readCov_full] | rw [cov_slot] | rw [cov_at]); (try dsimp only [expertSt, firstSt, tileSt, combineSt, finishSt, tA, tR, tH, tD, sc, sc4, slotRow]); first | done | rfl) | (first | exact h36 | (refine h36.trans ?_; rfl))
    isplitl [H37]
    · unfold owns; iexists _; isplitr; swap; · iexact H37
      ipureintro; first | (refine (View.read_writes_full _ _ _ _ _).trans ?_; (try simp only [r2, r3, r4, r5, r6, r7, r8, r9, r10, r11, r12, r13, r14, r15, r16, r17, r18, r19, r20, r21, r22, r23, r24, r25, r26, r27, r28, r29, r30, r31, r32, r33, r34, r36, r37]); (repeat first | rw [View.readCov_full] | rw [cov_slot] | rw [cov_at]); (try dsimp only [expertSt, firstSt, tileSt, combineSt, finishSt, tA, tR, tH, tD, sc, sc4, slotRow]); first | done | rfl) | (first | exact h37 | (refine h37.trans ?_; rfl))
    iexists _; unfold owns; iexists _; isplitr; swap; · iexact H35
    ipureintro; rfl

end Cert.Kernel.Hand
end
-- ==== Proof.Bits.Data.lean ====
module

public import proofs.«01_k».proof.Proof.Bits.Body
public import Idealize.ShloMosaic.Lib.Pipeline.TableIdle
public import Idealize.ShloMosaic.Lib.Claim

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- When the body's condition 1 holds, by the point's number. -/
theorem hc1 : ∀ t : Fin cfg0.N, k0_cond1 (grid0.coords t) = 1#1 ↔ t.val % 24 = 0 :=
  (fun t => by
    have ht : t.val < 24 := Nat.lt_of_lt_of_eq t.isLt N_0
    have e0 : (grid0.coords t 0).val = t.val / 6 % 4 := Pipeline.Grid.coords_val t 0 (by decide) rfl
    have e1 : (grid0.coords t 1).val = t.val / 1 % 6 := Pipeline.Grid.coords_val t 1 (by decide) rfl
    simp only [k0_cond1, e0, e1]
    word_cmp
   : ∀ t : Fin grid0.N, k0_cond1 (grid0.coords t) = 1#1 ↔ t.val % 24 = 0)

/-- When the body's condition 2 holds, by the point's number. -/
theorem hc2 : ∀ t : Fin cfg0.N, k0_cond2 (grid0.coords t) = 1#1 ↔ t.val % 6 = 0 :=
  (fun t => by
    have ht : t.val < 24 := Nat.lt_of_lt_of_eq t.isLt N_0
    have e0 : (grid0.coords t 0).val = t.val / 6 % 4 := Pipeline.Grid.coords_val t 0 (by decide) rfl
    have e1 : (grid0.coords t 1).val = t.val / 1 % 6 := Pipeline.Grid.coords_val t 1 (by decide) rfl
    simp only [k0_cond2, e0, e1]
    word_cmp
   : ∀ t : Fin grid0.N, k0_cond2 (grid0.coords t) = 1#1 ↔ t.val % 6 = 0)

/-- When the body's condition 3 holds, by the point's number. -/
theorem hc3 : ∀ t : Fin cfg0.N, k0_cond3 (grid0.coords t) = 1#1 ↔ t.val % 6 = 5 :=
  (fun t => by
    have ht : t.val < 24 := Nat.lt_of_lt_of_eq t.isLt N_0
    have e0 : (grid0.coords t 0).val = t.val / 6 % 4 := Pipeline.Grid.coords_val t 0 (by decide) rfl
    have e1 : (grid0.coords t 1).val = t.val / 1 % 6 := Pipeline.Grid.coords_val t 1 (by decide) rfl
    simp only [k0_cond3, e0, e1]
    word_cmp
   : ∀ t : Fin grid0.N, k0_cond3 (grid0.coords t) = 1#1 ↔ t.val % 6 = 5)

/-- When the body's condition 4 holds, by the point's number. -/
theorem hc4 : ∀ t : Fin cfg0.N, k0_cond4 (grid0.coords t) = 1#1 ↔ t.val % 24 = 23 :=
  (fun t => by
    have ht : t.val < 24 := Nat.lt_of_lt_of_eq t.isLt N_0
    have e0 : (grid0.coords t 0).val = t.val / 6 % 4 := Pipeline.Grid.coords_val t 0 (by decide) rfl
    have e1 : (grid0.coords t 1).val = t.val / 1 % 6 := Pipeline.Grid.coords_val t 1 (by decide) rfl
    simp only [k0_cond4, e0, e1]
    word_cmp
   : ∀ t : Fin grid0.N, k0_cond4 (grid0.coords t) = 1#1 ↔ t.val % 24 = 23)

/-- The points at which output window 13 is idle. -/
theorem idle_13 (t : Fin cfg0.N) : cfg0.idle 13 (grid0.coords t) = true ↔ t.val % 24 ≠ 23 := by
  rw [show cfg0.idle 13 (grid0.coords t) = (fun i => !(k0_cond4 i == 1#1)) (grid0.coords t) from rfl]
  simp [hc1, hc2, hc3, hc4]

/-- The points at which output window 14 is idle. -/
theorem idle_14 (t : Fin cfg0.N) : cfg0.idle 14 (grid0.coords t) = true ↔ t.val % 24 ≠ 23 := by
  rw [show cfg0.idle 14 (grid0.coords t) = (fun i => !(k0_cond4 i == 1#1)) (grid0.coords t) from rfl]
  simp [hc1, hc2, hc3, hc4]

/-- The points at which output window 17 is idle. -/
theorem idle_17 (t : Fin cfg0.N) : cfg0.idle 17 (grid0.coords t) = true ↔ (t.val % 24 ≠ 0 ∧ t.val % 6 ≠ 5) := by
  rw [show cfg0.idle 17 (grid0.coords t) = (fun i => !(k0_cond1 i == 1#1) && !(k0_cond3 i == 1#1)) (grid0.coords t) from rfl]
  simp [hc1, hc2, hc3, hc4]

/-- The points at which output window 18 is idle. -/
theorem idle_18 (t : Fin cfg0.N) : cfg0.idle 18 (grid0.coords t) = true ↔ t.val % 24 ≠ 0 := by
  rw [show cfg0.idle 18 (grid0.coords t) = (fun i => !(k0_cond1 i == 1#1)) (grid0.coords t) from rfl]
  simp [hc1, hc2, hc3, hc4]

/-- The points at which output window 19 is idle. -/
theorem idle_19 (t : Fin cfg0.N) : cfg0.idle 19 (grid0.coords t) = true ↔ t.val % 24 ≠ 0 := by
  rw [show cfg0.idle 19 (grid0.coords t) = (fun i => !(k0_cond1 i == 1#1)) (grid0.coords t) from rfl]
  simp [hc1, hc2, hc3, hc4]

/-- The points at which output window 22 is idle. -/
theorem idle_22 (t : Fin cfg0.N) : cfg0.idle 22 (grid0.coords t) = true ↔ t.val % 6 ≠ 0 := by
  rw [show cfg0.idle 22 (grid0.coords t) = (fun i => !(k0_cond2 i == 1#1)) (grid0.coords t) from rfl]
  simp [hc1, hc2, hc3, hc4]

/-- The points at which output window 23 is idle. -/
theorem idle_23 (t : Fin cfg0.N) : cfg0.idle 23 (grid0.coords t) = true ↔ (t.val % 24 ≠ 0 ∧ t.val % 6 ≠ 0) := by
  rw [show cfg0.idle 23 (grid0.coords t) = (fun i => !(k0_cond1 i == 1#1) && !(k0_cond2 i == 1#1)) (grid0.coords t) from rfl]
  simp [hc1, hc2, hc3, hc4]

/-- A window written back at the last point of every `P` and stored into at the first of every `P` holds nothing of the body's exactly at the latter. -/
theorem fresh_at (w : Fin cfg0.W) (P : ℕ) (hP : P = 6 ∨ P = 24) (hfl : ∀ t : Fin cfg0.N, (cfg0.win w).flush t = true ↔ t.val % P = P - 1)
    (hlive : ∀ t : Fin cfg0.N, t.val % P = 0 → cfg0.idle w (cfg0.grid.coords t) = false) (t : Fin cfg0.N) : cfg0.fresh w t.val = decide (t.val % P = 0) := by
  refine cfg0.fresh_tab w (fun n => decide (n % P = 0)) (by simp) (fun t => ?_) t.val t.isLt.le
  rw [Bool.eq_iff_iff, Bool.or_eq_true, hfl, Bool.and_eq_true, decide_eq_true_eq, decide_eq_true_eq]
  constructor
  · intro h; left; rcases hP with rfl | rfl <;> omega
  · rintro (h | ⟨h, h'⟩)
    · rcases hP with rfl | rfl <;> omega
    · rw [hlive t h'] at h; exact absurd h (by decide)

/-- Some contents of the buffers, for what nothing has been stored in yet. -/
def junk : St F := ⟨fun _ => Scalar.ofBits .bf16 0#16, fun _ => Scalar.ofBits .bf16 0#16, fun _ => Scalar.ofBits .bf16 0#16, fun _ => Scalar.ofBits .bf16 0#16, fun _ => Scalar.ofBits .f32 0#32, fun _ => Scalar.ofBits .fp8e4m3 0#8, fun _ => Scalar.ofBits .f32 0#32, fun _ => Scalar.ofBits .fp8e4m3 0#8, fun _ => Scalar.ofBits .f32 0#32, fun _ => Scalar.ofBits .fp8e5m2 0#8, fun _ => Scalar.ofBits .f32 0#32, fun _ => Scalar.ofBits .fp8e5m2 0#8, fun _ => Scalar.ofBits .f32 0#32, fun _ => Scalar.ofBits .fp8e4m3 0#8, fun _ => Scalar.ofBits .fp8e5m2 0#8, fun _ => Scalar.ofBits .fp8e4m3 0#8, fun _ => Scalar.ofBits .f32 0#32, fun _ => Scalar.ofBits .f32 0#32, fun _ => Scalar.ofBits .f32 0#32, fun _ => Scalar.ofBits .f32 0#32, fun _ => Scalar.ofBits .f32 0#32, fun _ => Scalar.ofBits .f32 0#32⟩

variable (m : (ℓ : Loc nD τ sig) → Buf (Elt F) ℓ) (ρ : Dev nD → PrngReg)

/-- The input windows' blocks at a point. -/
def Ipt (c : Dev nD) (t : Fin cfg0.N) : In F :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t⟩

/-- The buffers before point `n`: the steps of the points before it, from anything. -/
def S (c : Dev nD) : ℕ → St F
  | 0 => junk
  | n + 1 => if h : n < cfg0.N then step (grid0.coords ⟨n, h⟩) (Ipt m c ⟨n, h⟩) (S c n) else S c n

theorem S_succ (c : Dev nD) (t : Fin cfg0.N) : S m c (t.val + 1) = step (grid0.coords t) (Ipt m c t) (S m c t.val) := by
  rw [S, dif_pos t.isLt]

/-- The scratch buffers at a state, the slot row at anything, and the generator register at some state. -/
def Scr (c : Dev nD) (s : St F) : sProp 𝕄 :=
  iprop(iprop(owns (c : Thread nD τ) (Memref.whole cc0_scratch0) fullShare (s).xs ∗ owns (c : Thread nD τ) (Memref.whole cc0_scratch1) fullShare (s).dO ∗ owns (c : Thread nD τ) (Memref.whole cc0_scratch2) fullShare (s).xst ∗ owns (c : Thread nD τ) (Memref.whole cc0_scratch3) fullShare (s).o ∗ owns (c : Thread nD τ) (Memref.whole cc0_scratch4) fullShare (s).dxs ∗ owns (c : Thread nD τ) (Memref.whole cc0_scratch5) fullShare (s).dyg ∗ owns (c : Thread nD τ) (Memref.whole cc0_scratch6) fullShare (s).gs ∗ (∃ d, owns (c : Thread nD τ) (Memref.whole cc0_scratch7 : Memref sig .tc .vmem S1x128 .i32) fullShare d) ∗ owns (c : Thread nD τ) (Memref.whole cc0_scratch8) fullShare (s).yacc ∗ owns (c : Thread nD τ) (Memref.whole cc0_scratch9) fullShare (s).dxacc) ∗ (∃ r, prngReg c r))

/-- The scratch buffers and the generator register at anything, from the region's own statement of them. -/
theorem PhiA_eq (c : Dev nD) :
    (Pipeline.ΦA spec0 c : sProp 𝕄) = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d) ∗ (∃ d, owns (c : Thread nD τ) (Memref.whole cc0_scratch8) fullShare d) ∗ (∃ d, owns (c : Thread nD τ) (Memref.whole cc0_scratch9) fullShare d)) ∗ (∃ r, prngReg c r)) := by
  unfold Pipeline.ΦA; rw [scopedRest0_eq]; simp only [owns_whole]; try rfl

/-- At some state, then, -/
theorem Scr_of (c : Dev nD) : (Pipeline.ΦA spec0 c : sProp 𝕄) ⊢ iprop(∃ s : St F, Scr c s) := by
  rw [PhiA_eq]
  iintro ⟨⟨⟨%d0, H0⟩, ⟨%d1, H1⟩, ⟨%d2, H2⟩, ⟨%d3, H3⟩, ⟨%d4, H4⟩, ⟨%d5, H5⟩, ⟨%d6, H6⟩, H7, ⟨%d8, H8⟩, ⟨%d9, H9⟩⟩, Hg⟩
  iexists { (junk : St F) with xs := d0, dO := d1, xst := d2, o := d3, dxs := d4, dyg := d5, gs := d6, yacc := d8, dxacc := d9 }
  unfold Scr
  isplitr [Hg]; swap; · iexact Hg
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- and back. -/
theorem of_Scr (c : Dev nD) (s : St F) : Scr c s ⊢ (Pipeline.ΦA spec0 c : sProp 𝕄) := by
  rw [PhiA_eq]; unfold Scr
  iintro ⟨⟨H0, H1, H2, H3, H4, H5, H6, H7, H8, H9⟩, Hg⟩
  isplitr [Hg]; swap; · iexact Hg
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexact H7
  isplitl [H8]; · iexists _; iexact H8
  iexists _; iexact H9

/-- The region's invariant: anything before the first point, then the scratch at the state the point before left. -/
def Phi (c : Dev nD) (n : ℕ) : sProp 𝕄 := if n = 0 then Pipeline.ΦA spec0 c else Scr c (S m c n)

/-- The pipeline's proof data: every output buffer after a point as the state after the point says. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => (S m c (t.val + 1)).y
    | ⟨14, _⟩ => (S m c (t.val + 1)).dx
    | ⟨15, _⟩ => (S m c (t.val + 1)).dw1
    | ⟨16, _⟩ => (S m c (t.val + 1)).dw2
    | ⟨17, _⟩ => (S m c (t.val + 1)).dgate
    | ⟨18, _⟩ => (S m c (t.val + 1)).xc
    | ⟨19, _⟩ => (S m c (t.val + 1)).ax
    | ⟨20, _⟩ => (S m c (t.val + 1)).h
    | ⟨21, _⟩ => (S m c (t.val + 1)).ah
    | ⟨22, _⟩ => (S m c (t.val + 1)).doc
    | ⟨23, _⟩ => (S m c (t.val + 1)).ado
    | ⟨24, _⟩ => (S m c (t.val + 1)).da
    | ⟨25, _⟩ => (S m c (t.val + 1)).ada
    | ⟨_ + 26, h⟩ => absurd h (Nat.not_lt.2 (Nat.le_add_left _ _))
  Φ t := Phi m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = (S m c (t.val + 1)).y := by dsimp only [dats]
theorem after_14 (c : Dev nD) (t : Fin cfg0.N) : (dats m 0 c).after 14 t = (S m c (t.val + 1)).dx := by dsimp only [dats]
theorem after_15 (c : Dev nD) (t : Fin cfg0.N) : (dats m 0 c).after 15 t = (S m c (t.val + 1)).dw1 := by dsimp only [dats]
theorem after_16 (c : Dev nD) (t : Fin cfg0.N) : (dats m 0 c).after 16 t = (S m c (t.val + 1)).dw2 := by dsimp only [dats]
theorem after_17 (c : Dev nD) (t : Fin cfg0.N) : (dats m 0 c).after 17 t = (S m c (t.val + 1)).dgate := by dsimp only [dats]
theorem after_18 (c : Dev nD) (t : Fin cfg0.N) : (dats m 0 c).after 18 t = (S m c (t.val + 1)).xc := by dsimp only [dats]
theorem after_19 (c : Dev nD) (t : Fin cfg0.N) : (dats m 0 c).after 19 t = (S m c (t.val + 1)).ax := by dsimp only [dats]
theorem after_20 (c : Dev nD) (t : Fin cfg0.N) : (dats m 0 c).after 20 t = (S m c (t.val + 1)).h := by dsimp only [dats]
theorem after_21 (c : Dev nD) (t : Fin cfg0.N) : (dats m 0 c).after 21 t = (S m c (t.val + 1)).ah := by dsimp only [dats]
theorem after_22 (c : Dev nD) (t : Fin cfg0.N) : (dats m 0 c).after 22 t = (S m c (t.val + 1)).doc := by dsimp only [dats]
theorem after_23 (c : Dev nD) (t : Fin cfg0.N) : (dats m 0 c).after 23 t = (S m c (t.val + 1)).ado := by dsimp only [dats]
theorem after_24 (c : Dev nD) (t : Fin cfg0.N) : (dats m 0 c).after 24 t = (S m c (t.val + 1)).da := by dsimp only [dats]
theorem after_25 (c : Dev nD) (t : Fin cfg0.N) : (dats m 0 c).after 25 t = (S m c (t.val + 1)).ada := by dsimp only [dats]
theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d
theorem before_5 (c : Dev nD) (t : Fin cfg0.N) (d) : (dats m 0 c).before 5 t d = iblk m c 5 t := before0_5_of m (dats m 0 c) (A_eq m c 5) (after_5 m c) t d
theorem before_6 (c : Dev nD) (t : Fin cfg0.N) (d) : (dats m 0 c).before 6 t d = iblk m c 6 t := before0_6_of m (dats m 0 c) (A_eq m c 6) (after_6 m c) t d
theorem before_7 (c : Dev nD) (t : Fin cfg0.N) (d) : (dats m 0 c).before 7 t d = iblk m c 7 t := before0_7_of m (dats m 0 c) (A_eq m c 7) (after_7 m c) t d
theorem before_8 (c : Dev nD) (t : Fin cfg0.N) (d) : (dats m 0 c).before 8 t d = iblk m c 8 t := before0_8_of m (dats m 0 c) (A_eq m c 8) (after_8 m c) t d
theorem before_9 (c : Dev nD) (t : Fin cfg0.N) (d) : (dats m 0 c).before 9 t d = iblk m c 9 t := before0_9_of m (dats m 0 c) (A_eq m c 9) (after_9 m c) t d
theorem before_10 (c : Dev nD) (t : Fin cfg0.N) (d) : (dats m 0 c).before 10 t d = iblk m c 10 t := before0_10_of m (dats m 0 c) (A_eq m c 10) (after_10 m c) t d
theorem before_11 (c : Dev nD) (t : Fin cfg0.N) (d) : (dats m 0 c).before 11 t d = iblk m c 11 t := before0_11_of m (dats m 0 c) (A_eq m c 11) (after_11 m c) t d
theorem before_12 (c : Dev nD) (t : Fin cfg0.N) (d) : (dats m 0 c).before 12 t d = iblk m c 12 t := before0_12_of m (dats m 0 c) (A_eq m c 12) (after_12 m c) t d

/-- A point leaves what it does not store into as it was. -/
theorem keep_dgate {i : grid0.Coords} (h1 : ¬k0_cond1 i = 1#1) (h3 : ¬k0_cond3 i = 1#1) (I : In F) (s : St F) : (step i I s).dgate = s.dgate := by
  unfold step fin prep; simp only [h1, h3, if_false, dif_neg, not_false_eq_true]; split <;> split <;> rfl
theorem keep_xc {i : grid0.Coords} (h1 : ¬k0_cond1 i = 1#1) (I : In F) (s : St F) : (step i I s).xc = s.xc := by
  unfold step fin prep; simp only [h1, if_false]; split <;> split <;> (try split) <;> rfl
theorem keep_ax {i : grid0.Coords} (h1 : ¬k0_cond1 i = 1#1) (I : In F) (s : St F) : (step i I s).ax = s.ax := by
  unfold step fin prep; simp only [h1, if_false]; split <;> split <;> (try split) <;> rfl
theorem keep_ado {i : grid0.Coords} (h1 : ¬k0_cond1 i = 1#1) (h2 : ¬k0_cond2 i = 1#1) (I : In F) (s : St F) : (step i I s).ado = s.ado := by
  unfold step fin prep; simp only [h1, h2, if_false]; split <;> split <;> rfl
theorem keep_doc {i : grid0.Coords} (h2 : ¬k0_cond2 i = 1#1) (I : In F) (s : St F) : (step i I s).doc = s.doc := by
  unfold step fin prep; simp only [h2, if_false]; split <;> split <;> (try split) <;> rfl

/-- The state before a point that is not the first, as the step of the point before it. -/
theorem S_pred (c : Dev nD) (t : Fin cfg0.N) (h : t.val ≠ 0) : S m c (t.val - 1 + 1) = S m c t.val := by
  rw [Nat.sub_add_cancel (Nat.one_le_iff_ne_zero.mpr h)]

/-- What output window 17's buffer holds when the body starts: what the point before left. -/
theorem before_17 (c : Dev nD) (t : Fin cfg0.N) (ht : t.val % 24 ≠ 0) (d) : (dats m 0 c).before 17 t d = (S m c t.val).dgate := by
  have h0 : t.val ≠ 0 := by omega
  rw [(dats m 0 c).before_out_traj 17 rfl (fun _ _ => rfl) (fun t h0 hi _ => by
      have hi' := (idle_17 t).mp hi
      rw [after_17, after_17, S_pred m c t h0, S_succ]; exact keep_dgate (by rw [hc1]; omega) (by rw [hc3]; omega) _ _) t.val t rfl d,
    fresh_at 17 24 (by decide) flush0_17 (fun t ht => by rw [← Bool.not_eq_true, show (cfg0.grid.coords t) = grid0.coords t from rfl, idle_17]; omega) t, decide_eq_false ht, if_neg Bool.false_ne_true, after_17]
  exact congrArg St.dgate (S_pred m c t h0)

/-- What output window 18's buffer holds when the body starts: what the point before left. -/
theorem before_18 (c : Dev nD) (t : Fin cfg0.N) (ht : t.val % 24 ≠ 0) (d) : (dats m 0 c).before 18 t d = (S m c t.val).xc := by
  have h0 : t.val ≠ 0 := by omega
  rw [(dats m 0 c).before_out_traj 18 rfl (fun _ _ => rfl) (fun t h0 hi _ => by
      have hi' := (idle_18 t).mp hi
      rw [after_18, after_18, S_pred m c t h0, S_succ]; exact keep_xc (by rw [hc1]; omega) _ _) t.val t rfl d,
    fresh_at 18 24 (by decide) flush0_18 (fun t ht => by rw [← Bool.not_eq_true, show (cfg0.grid.coords t) = grid0.coords t from rfl, idle_18]; omega) t, decide_eq_false ht, if_neg Bool.false_ne_true, after_18]
  exact congrArg St.xc (S_pred m c t h0)

/-- What output window 19's buffer holds when the body starts: what the point before left. -/
theorem before_19 (c : Dev nD) (t : Fin cfg0.N) (ht : t.val % 24 ≠ 0) (d) : (dats m 0 c).before 19 t d = (S m c t.val).ax := by
  have h0 : t.val ≠ 0 := by omega
  rw [(dats m 0 c).before_out_traj 19 rfl (fun _ _ => rfl) (fun t h0 hi _ => by
      have hi' := (idle_19 t).mp hi
      rw [after_19, after_19, S_pred m c t h0, S_succ]; exact keep_ax (by rw [hc1]; omega) _ _) t.val t rfl d,
    fresh_at 19 24 (by decide) flush0_19 (fun t ht => by rw [← Bool.not_eq_true, show (cfg0.grid.coords t) = grid0.coords t from rfl, idle_19]; omega) t, decide_eq_false ht, if_neg Bool.false_ne_true, after_19]
  exact congrArg St.ax (S_pred m c t h0)

/-- What output window 21's buffer holds when the body starts: what the point before left. -/
theorem before_21 (c : Dev nD) (t : Fin cfg0.N) (ht : t.val % 24 ≠ 0) (d) : (dats m 0 c).before 21 t d = (S m c t.val).ah := by
  have h0 : t.val ≠ 0 := by omega
  rw [(dats m 0 c).before_out_traj 21 rfl (fun _ _ => rfl) (fun t h0 hi _ => absurd (show false = true from hi) (by decide)) t.val t rfl d,
    fresh_at 21 24 (by decide) flush0_21 (fun t ht => rfl) t, decide_eq_false ht, if_neg Bool.false_ne_true, after_21]
  exact congrArg St.ah (S_pred m c t h0)

/-- What output window 22's buffer holds when the body starts: what the point before left. -/
theorem before_22 (c : Dev nD) (t : Fin cfg0.N) (ht : t.val % 6 ≠ 0) (d) : (dats m 0 c).before 22 t d = (S m c t.val).doc := by
  have h0 : t.val ≠ 0 := by omega
  rw [(dats m 0 c).before_out_traj 22 rfl (fun _ _ => rfl) (fun t h0 hi _ => by
      have hi' := (idle_22 t).mp hi
      rw [after_22, after_22, S_pred m c t h0, S_succ]; exact keep_doc (by rw [hc2]; omega) _ _) t.val t rfl d,
    fresh_at 22 6 (by decide) flush0_22 (fun t ht => by rw [← Bool.not_eq_true, show (cfg0.grid.coords t) = grid0.coords t from rfl, idle_22]; omega) t, decide_eq_false ht, if_neg Bool.false_ne_true, after_22]
  exact congrArg St.doc (S_pred m c t h0)

/-- What output window 23's buffer holds when the body starts: what the point before left. -/
theorem before_23 (c : Dev nD) (t : Fin cfg0.N) (ht : t.val % 24 ≠ 0) (d) : (dats m 0 c).before 23 t d = (S m c t.val).ado := by
  have h0 : t.val ≠ 0 := by omega
  rw [(dats m 0 c).before_out_traj 23 rfl (fun _ _ => rfl) (fun t h0 hi _ => by
      have hi' := (idle_23 t).mp hi
      rw [after_23, after_23, S_pred m c t h0, S_succ]; exact keep_ado (by rw [hc1]; omega) (by rw [hc2]; omega) _ _) t.val t rfl d,
    fresh_at 23 24 (by decide) flush0_23 (fun t ht => by rw [← Bool.not_eq_true, show (cfg0.grid.coords t) = grid0.coords t from rfl, idle_23]; omega) t, decide_eq_false ht, if_neg Bool.false_ne_true, after_23]
  exact congrArg St.ado (S_pred m c t h0)

/-- What output window 25's buffer holds when the body starts: what the point before left. -/
theorem before_25 (c : Dev nD) (t : Fin cfg0.N) (ht : t.val % 24 ≠ 0) (d) : (dats m 0 c).before 25 t d = (S m c t.val).ada := by
  have h0 : t.val ≠ 0 := by omega
  rw [(dats m 0 c).before_out_traj 25 rfl (fun _ _ => rfl) (fun t h0 hi _ => absurd (show false = true from hi) (by decide)) t.val t rfl d,
    fresh_at 25 24 (by decide) flush0_25 (fun t ht => rfl) t, decide_eq_false ht, if_neg Bool.false_ne_true, after_25]
  exact congrArg St.ada (S_pred m c t h0)

set_option maxHeartbeats 4000000 in
/-- A point's step from any state that agrees with the point's on what the point reads is the point's, but for the two results that only the last
    point stores. -/
theorem step_pt (c : Dev nD) (t : Fin cfg0.N) (s : St F) (hs : t.val ≠ 0 → s = S m c t.val)
    (b13 : _)
    (b14 : _)
    (b15 : _)
    (b16 : _)
    (b17 : _)
    (b18 : _)
    (b19 : _)
    (b20 : _)
    (b21 : _)
    (b22 : _)
    (b23 : _)
    (b24 : _)
    (b25 : _)
    (h17 : t.val % 24 ≠ 0 → b17 = (S m c t.val).dgate) (h18 : t.val % 24 ≠ 0 → b18 = (S m c t.val).xc) (h19 : t.val % 24 ≠ 0 → b19 = (S m c t.val).ax) (h21 : t.val % 24 ≠ 0 → b21 = (S m c t.val).ah) (h22 : t.val % 6 ≠ 0 → b22 = (S m c t.val).doc) (h23 : t.val % 24 ≠ 0 → b23 = (S m c t.val).ado) (h25 : t.val % 24 ≠ 0 → b25 = (S m c t.val).ada) :
    step (grid0.coords t) (Ipt m c t) { s with y := b13, dx := b14, dw1 := b15, dw2 := b16, dgate := b17, xc := b18, ax := b19, h := b20, ah := b21, doc := b22, ado := b23, da := b24, ada := b25 }
      = { S m c (t.val + 1) with y := if t.val % 24 = 23 then (S m c (t.val + 1)).y else b13, dx := if t.val % 24 = 23 then (S m c (t.val + 1)).dx else b14 } := by
  have hN : t.val < 24 := lt_of_lt_of_eq t.isLt (show cfg0.N = 24 from N_0)
  rw [S_succ]
  generalize hI : Ipt m c t = I
  by_cases h0 : t.val = 0
  · have k1 : k0_cond1 (grid0.coords t) = 1#1 := (hc1 t).mpr (by omega)
    have k2 : k0_cond2 (grid0.coords t) = 1#1 := (hc2 t).mpr (by omega)
    have k3 : ¬k0_cond3 (grid0.coords t) = 1#1 := fun h => by have := (hc3 t).mp h; omega
    have k4 : ¬k0_cond4 (grid0.coords t) = 1#1 := fun h => by have := (hc4 t).mp h; omega
    rw [if_neg (by omega), if_neg (by omega)]
    clear hs h17 h18 h19 h21 h22 h23 h25
    generalize S m c t.val = s₂
    unfold step fin prep
    rw [if_pos k2, if_pos k1, if_neg k4, dif_neg k3, if_pos k2, if_pos k1, if_neg k4, dif_neg k3]
    dsimp only [tileSt, expertSt, firstSt, tA, tR, tH, tD]
  · have k1 : ¬k0_cond1 (grid0.coords t) = 1#1 := fun h => by have := (hc1 t).mp h; omega
    have hm : t.val % 24 ≠ 0 := by omega
    obtain rfl := hs h0
    rw [h17 hm, h18 hm, h19 hm, h21 hm, h23 hm, h25 hm]
    generalize S m c t.val = s at *
    by_cases k2 : k0_cond2 (grid0.coords t) = 1#1
    · have k3 : ¬k0_cond3 (grid0.coords t) = 1#1 := fun h => by have := (hc3 t).mp h; have := (hc2 t).mp k2; omega
      have k4 : ¬k0_cond4 (grid0.coords t) = 1#1 := fun h => by have := (hc4 t).mp h; have := (hc2 t).mp k2; omega
      have n4 : ¬t.val % 24 = 23 := fun h => k4 ((hc4 t).mpr h)
      rw [if_neg n4, if_neg n4]
      unfold step fin prep
      rw [if_pos k2, if_neg k1, if_neg k4, dif_neg k3, if_pos k2, if_neg k1, if_neg k4, dif_neg k3]
      rfl
    · rw [h22 (fun h => k2 ((hc2 t).mpr h))]
      by_cases k3 : k0_cond3 (grid0.coords t) = 1#1
      · by_cases k4 : k0_cond4 (grid0.coords t) = 1#1
        · have n4 : t.val % 24 = 23 := (hc4 t).mp k4
          rw [if_pos n4, if_pos n4]
          unfold step fin prep
          rw [if_neg k2, if_neg k1, if_pos k4, dif_pos k3, if_neg k2, if_neg k1, if_pos k4, dif_pos k3]
          rfl
        · have n4 : ¬t.val % 24 = 23 := fun h => k4 ((hc4 t).mpr h)
          rw [if_neg n4, if_neg n4]
          unfold step fin prep
          rw [if_neg k2, if_neg k1, if_neg k4, dif_pos k3, if_neg k2, if_neg k1, if_neg k4, dif_pos k3]
          rfl
      · have k4 : ¬k0_cond4 (grid0.coords t) = 1#1 := fun h => k3 ((hc3 t).mpr (by have := (hc4 t).mp h; omega))
        have n4 : ¬t.val % 24 = 23 := fun h => k4 ((hc4 t).mpr h)
        rw [if_neg n4, if_neg n4]
        unfold step fin prep
        rw [if_neg k2, if_neg k1, if_neg k4, dif_neg k3, if_neg k2, if_neg k1, if_neg k4, dif_neg k3]
        rfl

/-- An output buffer handed back: at what the state after the point says, or, where the window is idle, as it was found. -/
theorem leaves_of (c : Dev nD) (w : Fin cfg0.W) (t : Fin cfg0.N) (X : (cfg0.win w).block.Idx → Elt F (cfg0.win w).elt)
    (h : cfg0.idle w (cfg0.grid.coords t) = false ∨ (cfg0.win w).flush t = true → X = (dats m 0 c).after w t)
    (h' : cfg0.idle w (cfg0.grid.coords t) = true → (cfg0.win w).flush t = false → ∃ d, X = (dats m 0 c).before w t d) :
    owns (c : Thread nD τ) ((cfg0.win w).stage (cfg0.slots t w)) fullShare X ⊢ ((dats m 0 c).leavesExact w t : sProp 𝕄) := by
  unfold Dat.leavesExact
  cases hi : cfg0.idle w (cfg0.grid.coords t) with
  | false => rw [← h (Or.inl hi)]
  | true =>
    cases hf : (cfg0.win w).flush t with
    | true => rw [← h (Or.inr hf)]
    | false =>
      obtain ⟨d, rfl⟩ := h' hi hf
      iintro H; iexists d; iexact H

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d)))

/-- and what it hands back. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t
    ∗ (dats m 0 c).leavesExact 21 t
    ∗ (dats m 0 c).leavesExact 22 t
    ∗ (dats m 0 c).leavesExact 23 t
    ∗ (dats m 0 c).leavesExact 24 t
    ∗ (dats m 0 c).leavesExact 25 t)

/-- The invariant before a point, as the scratch at a state that is the point's unless the point is the first. -/
theorem Phi_in (c : Dev nD) (n : ℕ) : Phi m c n ⊢ iprop(∃ s : St F, ⌜n ≠ 0 → s = S m c n⌝ ∗ Scr c s) := by
  unfold Phi
  by_cases h : n = 0
  · rw [if_pos h]
    iintro H
    icases (Scr_of c) $$ H with ⟨%s, H⟩
    iexists s
    isplitr; · ipureintro; exact fun h' => absurd h h'
    iexact H
  · rw [if_neg h]
    iintro H; iexists _
    isplitr; swap; · iexact H
    ipureintro; exact fun _ => rfl

set_option maxHeartbeats 4000000 in
/-- The body at any point meets the obligation of the proof data. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  have hN : t.val < 24 := lt_of_lt_of_eq t.isLt (show cfg0.N = 24 from N_0)
  rw [show (dats m 0 c).owesAt () t.succ = (dats m 0 c).owesAt () t.castSucc from rfl]
  rw [show (dats m 0 c).Φ t.succ = Scr c (S m c (t.val + 1)) from by show Phi m c (t.val + 1) = _; exact if_neg (Nat.succ_ne_zero _), show (dats m 0 c).Φ t.castSucc = Phi m c t.val from rfl]
  simp only [before_0, before_1, before_2, before_3, before_4, before_5, before_6, before_7, before_8, before_9, before_10, before_11, before_12]
  iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
  icases (Phi_in m c t.val) $$ HP with ⟨%s, %hs, HS⟩
  unfold Scr
  icases HS with ⟨⟨S0, S1, S2, S3, S4, S5, S6, S7, S8, S9⟩, Hg⟩
  have hst := step_pt m c t s hs ((dats m 0 c).before 13 t d13) ((dats m 0 c).before 14 t d14) ((dats m 0 c).before 15 t d15) ((dats m 0 c).before 16 t d16) ((dats m 0 c).before 17 t d17) ((dats m 0 c).before 18 t d18) ((dats m 0 c).before 19 t d19) ((dats m 0 c).before 20 t d20) ((dats m 0 c).before 21 t d21) ((dats m 0 c).before 22 t d22) ((dats m 0 c).before 23 t d23) ((dats m 0 c).before 24 t d24) ((dats m 0 c).before 25 t d25) (fun h => before_17 m c t h _) (fun h => before_18 m c t h _) (fun h => before_19 m c t h _) (fun h => before_21 m c t h _) (fun h => before_22 m c t h _) (fun h => before_23 m c t h _) (fun h => before_25 m c t h _)
  iapply (body_spec c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ Set.univ _ (Ipt m c t) { s with y := (dats m 0 c).before 13 t d13, dx := (dats m 0 c).before 14 t d14, dw1 := (dats m 0 c).before 15 t d15, dw2 := (dats m 0 c).before 16 t d16, dgate := (dats m 0 c).before 17 t d17, xc := (dats m 0 c).before 18 t d18, ax := (dats m 0 c).before 19 t d19, h := (dats m 0 c).before 20 t d20, ah := (dats m 0 c).before 21 t d21, doc := (dats m 0 c).before 22 t d22, ado := (dats m 0 c).before 23 t d23, da := (dats m 0 c).before 24 t d24, ada := (dats m 0 c).before 25 t d25 })
  rw [hst]; dsimp only
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S8]; · iexact S8
  isplitl [S9]; · iexact S9
  isplitl [S7]; · iexact S7
  iintro ⟨H0, H1, H2, H3, H4, H5, H6, H7, H8, H9, H10, H11, H12, H13, H14, H15, H16, H17, H18, H19, H20, H21, H22, H23, H24, H25, S0, S1, S2, S3, S4, S5, S6, S8, S9, S7⟩
  isplitl [S0 S1 S2 S3 S4 S5 S6 S7 S8 S9 Hg]
  · isplitr [Hg]; swap; · iexact Hg
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    iexact S9
  isplitl [Ho]; · iexact Ho
  isplitl [H0]; · iapply (leaves_of m c 0 t _ (fun _ => (after_0 m c t).symm) (fun h => absurd (show false = true from h) (by decide))); iexact H0
  isplitl [H1]; · iapply (leaves_of m c 1 t _ (fun _ => (after_1 m c t).symm) (fun h => absurd (show false = true from h) (by decide))); iexact H1
  isplitl [H2]; · iapply (leaves_of m c 2 t _ (fun _ => (after_2 m c t).symm) (fun h => absurd (show false = true from h) (by decide))); iexact H2
  isplitl [H3]; · iapply (leaves_of m c 3 t _ (fun _ => (after_3 m c t).symm) (fun h => absurd (show false = true from h) (by decide))); iexact H3
  isplitl [H4]; · iapply (leaves_of m c 4 t _ (fun _ => (after_4 m c t).symm) (fun h => absurd (show false = true from h) (by decide))); iexact H4
  isplitl [H5]; · iapply (leaves_of m c 5 t _ (fun _ => (after_5 m c t).symm) (fun h => absurd (show false = true from h) (by decide))); iexact H5
  isplitl [H6]; · iapply (leaves_of m c 6 t _ (fun _ => (after_6 m c t).symm) (fun h => absurd (show false = true from h) (by decide))); iexact H6
  isplitl [H7]; · iapply (leaves_of m c 7 t _ (fun _ => (after_7 m c t).symm) (fun h => absurd (show false = true from h) (by decide))); iexact H7
  isplitl [H8]; · iapply (leaves_of m c 8 t _ (fun _ => (after_8 m c t).symm) (fun h => absurd (show false = true from h) (by decide))); iexact H8
  isplitl [H9]; · iapply (leaves_of m c 9 t _ (fun _ => (after_9 m c t).symm) (fun h => absurd (show false = true from h) (by decide))); iexact H9
  isplitl [H10]; · iapply (leaves_of m c 10 t _ (fun _ => (after_10 m c t).symm) (fun h => absurd (show false = true from h) (by decide))); iexact H10
  isplitl [H11]; · iapply (leaves_of m c 11 t _ (fun _ => (after_11 m c t).symm) (fun h => absurd (show false = true from h) (by decide))); iexact H11
  isplitl [H12]; · iapply (leaves_of m c 12 t _ (fun _ => (after_12 m c t).symm) (fun h => absurd (show false = true from h) (by decide))); iexact H12
  isplitl [H13]; · iapply (leaves_of m c 13 t (if t.val % 24 = 23 then (S m c (t.val + 1)).y else (dats m 0 c).before 13 t d13) (fun h => (if_pos (by
      rcases h with h | h
      · have h' := mt (idle_13 t).mpr (by rw [show grid0.coords t = cfg0.grid.coords t from rfl, h]; decide); omega
      · exact (flush0_13 t).mp h)).trans (after_13 m c t).symm) (fun h _ => ⟨d13, if_neg (by have := (idle_13 t).mp h; omega)⟩)); iexact H13
  isplitl [H14]; · iapply (leaves_of m c 14 t (if t.val % 24 = 23 then (S m c (t.val + 1)).dx else (dats m 0 c).before 14 t d14) (fun h => (if_pos (by
      rcases h with h | h
      · have h' := mt (idle_14 t).mpr (by rw [show grid0.coords t = cfg0.grid.coords t from rfl, h]; decide); omega
      · exact (flush0_14 t).mp h)).trans (after_14 m c t).symm) (fun h _ => ⟨d14, if_neg (by have := (idle_14 t).mp h; omega)⟩)); iexact H14
  isplitl [H15]; · iapply (leaves_of m c 15 t _ (fun _ => (after_15 m c t).symm) (fun h => absurd (show false = true from h) (by decide))); iexact H15
  isplitl [H16]; · iapply (leaves_of m c 16 t _ (fun _ => (after_16 m c t).symm) (fun h => absurd (show false = true from h) (by decide))); iexact H16
  isplitl [H17]; · iapply (leaves_of m c 17 t _ (fun _ => (after_17 m c t).symm) (fun h _ => ⟨d17, by
      have h' := (idle_17 t).mp h
      rw [before_17 m c t (by omega)]
      show (S m c (t.val + 1)).dgate = _
      rw [S_succ]; exact keep_dgate (by rw [hc1]; omega) (by rw [hc3]; omega) _ _⟩)); iexact H17
  isplitl [H18]; · iapply (leaves_of m c 18 t _ (fun _ => (after_18 m c t).symm) (fun h _ => ⟨d18, by
      have h' := (idle_18 t).mp h
      rw [before_18 m c t (by omega)]
      show (S m c (t.val + 1)).xc = _
      rw [S_succ]; exact keep_xc (by rw [hc1]; omega) _ _⟩)); iexact H18
  isplitl [H19]; · iapply (leaves_of m c 19 t _ (fun _ => (after_19 m c t).symm) (fun h _ => ⟨d19, by
      have h' := (idle_19 t).mp h
      rw [before_19 m c t (by omega)]
      show (S m c (t.val + 1)).ax = _
      rw [S_succ]; exact keep_ax (by rw [hc1]; omega) _ _⟩)); iexact H19
  isplitl [H20]; · iapply (leaves_of m c 20 t _ (fun _ => (after_20 m c t).symm) (fun h => absurd (show false = true from h) (by decide))); iexact H20
  isplitl [H21]; · iapply (leaves_of m c 21 t _ (fun _ => (after_21 m c t).symm) (fun h => absurd (show false = true from h) (by decide))); iexact H21
  isplitl [H22]; · iapply (leaves_of m c 22 t _ (fun _ => (after_22 m c t).symm) (fun h _ => ⟨d22, by
      have h' := (idle_22 t).mp h
      rw [before_22 m c t (by omega)]
      show (S m c (t.val + 1)).doc = _
      rw [S_succ]; exact keep_doc (by rw [hc2]; omega) _ _⟩)); iexact H22
  isplitl [H23]; · iapply (leaves_of m c 23 t _ (fun _ => (after_23 m c t).symm) (fun h _ => ⟨d23, by
      have h' := (idle_23 t).mp h
      rw [before_23 m c t (by omega)]
      show (S m c (t.val + 1)).ado = _
      rw [S_succ]; exact keep_ado (by rw [hc1]; omega) (by rw [hc2]; omega) _ _⟩)); iexact H23
  isplitl [H24]; · iapply (leaves_of m c 24 t _ (fun _ => (after_24 m c t).symm) (fun h => absurd (show false = true from h) (by decide))); iexact H24
  iapply (leaves_of m c 25 t _ (fun _ => (after_25 m c t).symm) (fun h => absurd (show false = true from h) (by decide))); iexact H25

set_option maxHeartbeats 800000 in
theorem defs₀_row (t : Fin cfg0.N) : defs₀ (F := F) .tc cfg0.body (cfg0.bodyArgs t (cfg0.slots t)) = bodyAt0 t := by
  unfold defs₀; rw [Defs.onTc_tc]

set_option maxHeartbeats 1600000 in
/-- The library's body obligation. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from by show Phi m c 0 = _; exact if_pos rfl]

theorem hout (c : Dev nD) : (dats m 0 c).Φ (Fin.last cfg0.N) ⊢ Pipeline.ΦA spec0 c := by
  rw [show (dats m 0 c).Φ (Fin.last cfg0.N) = Scr c (S m c cfg0.N) from by show Phi m c cfg0.N = _; exact if_neg (by rw [show cfg0.N = 24 from N_0]; decide)]
  exact of_Scr c _

set_option backward.isDefEq.respectTransparency.types false in
set_option maxHeartbeats 800000 in
/-- The launch: it ends with every array as the proof data say and every semaphore counter at zero. -/
theorem run_main_quiescent : θ_run defs (onTc (τ := τ) (main (F := F))) (s₀ m ρ) (fun r =>
    Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m)
    (hmain := hmain m Variants.none) (hA := A_eq m) (hin := hin m) (hout := hout m)

theorem run_main : θ_run defs (onTc (τ := τ) (main (F := F))) (s₀ m ρ)
    (Pipeline.FramePost cfgs (dats m) 0 (V m)) :=
  (θ_run defs _ _).mono (fun _ h => h.1) (run_main_quiescent m ρ)

/-- The frame: the launch terminates, its arguments are as they were and every semaphore counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_and (frame_of m ρ (dats m) (A_eq m) (run_main m ρ)) ((θ_run defs _ _).mono (fun _ h => h.2) (run_main_quiescent m ρ))

end Cert.Kernel.Hand

end
-- ==== Proof.Val.Spec.lean ====
/-
  The layer's formulas over the extended reals, for one row or one expert's rows at a time, and the one-hot selection of rows.
-/
module

public import Idealize.ShloMosaic.Lib.Pointwise
public import Idealize.ShloMosaic.Lib.Claim
public import Idealize.ShloMosaic.Lib.IdealHost

@[expose] public section

noncomputable section

namespace Cert.Spec

open Idealize.ShloMosaic

/-- A number divided by a scale and clipped to ±448, the range of the activation codes. -/
def q4 (s v : EReal) : EReal := min (Ideal.ofBits .f32 1138753536#32) (max (Ideal.ofBits .f32 3286237184#32) (Ideal.div v s))

/-- A number divided by a scale and clipped to ±57344, the range of the cotangent codes. -/
def q5 (s v : EReal) : EReal := min (Ideal.ofBits .f32 1197473792#32) (max (Ideal.ofBits .f32 3344957440#32) (Ideal.div v s))

/-- One where the number is positive, zero elsewhere. -/
def ind (a : EReal) : EReal := FloatOps.sitofp (F := Ideal) FTy.f32 (BitVec.setWidth 32 (BitVec.ofBool (decide (0 < a))))

/-- The absolute value. -/
def ab (v : EReal) : EReal := FloatOps.absf (F := Ideal) (φ := .f32) v

/-- The four activation scales, the experts' weight scales and the experts' weights. -/
structure Data where
  sx : EReal
  sh : EReal
  sdo : EReal
  sda : EReal
  w1s : Fin 4 → EReal
  w2s : Fin 4 → EReal
  w1 : Fin 4 → Fin 768 → Fin 3072 → EReal
  w2 : Fin 4 → Fin 3072 → Fin 768 → EReal

/-- A row of the model's width. -/
abbrev Row := Fin 768 → EReal

variable (D : Data) (e : Fin 4)

/-- The pre-activation of a row. -/
def A (xr : Row) (f : Fin 3072) : EReal := (∑ d, q4 D.sx (xr d) * D.w1 e d f) * (D.sx * D.w1s e)
/-- The activation of a row, -/
def R (xr : Row) (f : Fin 3072) : EReal := max (A D e xr f) 0
/-- and its code. -/
def H (xr : Row) (f : Fin 3072) : EReal := q4 D.sh (R D e xr f)
/-- The cotangent of the pre-activation, -/
def DH (xr dr : Row) (f : Fin 3072) : EReal := (∑ d, q5 D.sdo (dr d) * D.w2 e f d) * (D.sdo * D.w2s e) * ind (A D e xr f)
/-- and its code. -/
def DA (xr dr : Row) (f : Fin 3072) : EReal := q5 D.sda (DH D e xr dr f)
/-- The gradient of the first weights, from an expert's rows. -/
def DW1 {n : ℕ} (X DO : Fin n → Row) (d : Fin 768) (f : Fin 3072) : EReal :=
  (∑ c, q4 D.sx (X c d) * DA D e (X c) (DO c) f) * (D.sx * D.sda)
/-- The gradient of the second weights, from an expert's rows. -/
def DW2 {n : ℕ} (X DO : Fin n → Row) (f : Fin 3072) (d : Fin 768) : EReal :=
  (∑ c, H D e (X c) f * q5 D.sdo (DO c d)) * (D.sh * D.sdo)

/-- Zero over a nonzero number is zero. -/
theorem div_zero_left {s : EReal} (h : s ≠ 0) : Ideal.div 0 s = 0 := by
  unfold Ideal.div; rw [if_neg h, zero_mul]

/-- The activation codes' upper bound is not negative. -/
theorem hi4 : (0 : EReal) ≤ Ideal.ofBits .f32 1138753536#32 := by
  simp [Ideal.ofBits, Ideal.ieee, -EReal.coe_mul]
/-- The activation codes' lower bound is not positive. -/
theorem lo4 : Ideal.ofBits .f32 3286237184#32 ≤ (0 : EReal) := by
  simp [Ideal.ofBits, Ideal.ieee, -EReal.coe_mul, -EReal.coe_neg]
/-- The cotangent codes' upper bound is not negative. -/
theorem hi5 : (0 : EReal) ≤ Ideal.ofBits .f32 1197473792#32 := by
  simp [Ideal.ofBits, Ideal.ieee, -EReal.coe_mul]
/-- The cotangent codes' lower bound is not positive. -/
theorem lo5 : Ideal.ofBits .f32 3344957440#32 ≤ (0 : EReal) := by
  simp [Ideal.ofBits, Ideal.ieee, -EReal.coe_mul, -EReal.coe_neg]
/-- The word that a maximum starts from is the least number. -/
theorem ninf : Ideal.ofBits .f32 4286578688#32 = (⊥ : EReal) := by
  simp [Ideal.ofBits, Ideal.ieee]

/-- Zero's activation code is zero, unless the scale is. -/
theorem q4_zero {s : EReal} (h : s ≠ 0) : q4 s 0 = 0 := by
  unfold q4; rw [div_zero_left h, max_eq_right lo4, min_eq_right hi4]

/-- Zero's cotangent code is zero, unless the scale is. -/
theorem q5_zero {s : EReal} (h : s ≠ 0) : q5 s 0 = 0 := by
  unfold q5; rw [div_zero_left h, max_eq_right lo5, min_eq_right hi5]

/-- Zero's size is zero. -/
theorem ab_zero : ab 0 = 0 := by show max (0 : EReal) (-0) = 0; simp
/-- A size is not negative. -/
theorem ab_nonneg (v : EReal) : 0 ≤ ab v := by
  show 0 ≤ max v (-v)
  rcases le_total 0 v with h | h
  · exact le_max_of_le_left h
  · exact le_max_of_le_right (EReal.neg_nonneg.mpr h)
/-- A number that is not negative is its own size. -/
theorem ab_of_nonneg {v : EReal} (h : 0 ≤ v) : ab v = v := by
  show max v (-v) = v
  exact max_eq_left ((show -v ≤ 0 by simpa using EReal.neg_le_neg_iff.mpr h).trans h)

/-- A row of zeros has the pre-activation zero, -/
theorem A_zero (f : Fin 3072) : A D e (fun _ => 0) f = 0 := by
  unfold A
  by_cases h : D.sx = 0
  · rw [h, zero_mul, mul_zero]
  · simp only [q4_zero h, zero_mul, Finset.sum_const_zero]

/-- the activation zero, -/
theorem R_zero (f : Fin 3072) : R D e (fun _ => 0) f = 0 := by
  unfold R; rw [A_zero, max_self]

/-- and a row of zeros for the output's cotangent makes the pre-activation's cotangent zero. -/
theorem DH_zero (xr : Row) (f : Fin 3072) : DH D e xr (fun _ => 0) f = 0 := by
  unfold DH
  by_cases h : D.sdo = 0
  · rw [h, zero_mul, mul_zero, zero_mul]
  · simp only [q5_zero h, zero_mul, Finset.sum_const_zero]

/-- An activation is not negative. -/
theorem R_nonneg (xr : Row) (f : Fin 3072) : 0 ≤ R D e xr f := le_max_right _ _

/-- The rows of a tile: the expert's slots, then sixteen rows of zeros. -/
def pad (X : Fin 80 → Row) (r : Fin 96) : Row := if h : r.val < 80 then X ⟨r.val, h⟩ else fun _ => 0

/-- The first rows are the slots'. -/
theorem pad_lt (X : Fin 80 → Row) (r : Fin 80) : pad X (Fin.castAdd 16 r) = X r := by
  unfold pad; rw [dif_pos (show (Fin.castAdd 16 r).val < 80 from r.isLt)]; rfl

/-- The others are zeros. -/
theorem pad_ge (X : Fin 80 → Row) (r : Fin 16) : pad X (Fin.natAdd 80 r) = fun _ => 0 := by
  unfold pad; rw [dif_neg (show ¬(Fin.natAdd 80 r).val < 80 by simp [Fin.natAdd])]

/-- The rows of zeros leave the first weights' gradient as it is. -/
theorem DW1_pad (X DO : Fin 80 → Row) (d : Fin 768) (f : Fin 3072) : DW1 D e (pad X) (pad DO) d f = DW1 D e X DO d f := by
  unfold DW1
  by_cases h : D.sx = 0
  · rw [h, zero_mul, mul_zero, mul_zero]
  · rw [Fin.sum_univ_add (a := 80) (b := 16)]
    simp only [pad_lt, pad_ge, q4_zero h, zero_mul, Finset.sum_const_zero, add_zero]

/-- The rows of zeros leave the second weights' gradient as it is. -/
theorem DW2_pad (X DO : Fin 80 → Row) (f : Fin 3072) (d : Fin 768) : DW2 D e (pad X) (pad DO) f d = DW2 D e X DO f d := by
  unfold DW2
  by_cases h : D.sdo = 0
  · rw [h, mul_zero, mul_zero, mul_zero]
  · rw [Fin.sum_univ_add (a := 80) (b := 16)]
    simp only [pad_lt, pad_ge, q5_zero h, mul_zero, Finset.sum_const_zero, add_zero]

/-- A statement about every row of a tile, split into the slots and the rows of zeros. -/
theorem forall_pad {P : Row → Row → Prop} (X DO : Fin 80 → Row) (h0 : P (fun _ => 0) (fun _ => 0)) :
    (∀ r, P (pad X r) (pad DO r)) ↔ ∀ r, P (X r) (DO r) := by
  constructor
  · intro h r
    have := h (Fin.castAdd 16 r)
    rwa [pad_lt, pad_lt] at this
  · intro h r
    unfold pad
    by_cases hr : r.val < 80
    · rw [dif_pos hr, dif_pos hr]; exact h _
    · rw [dif_neg hr, dif_neg hr]; exact h0

/-- The row of a table that a slot's word names, zeros when it names none. -/
def pick (x : Fin 256 → Row) (s : BitVec 32) : Row := if h : s.toNat < 256 then x ⟨s.toNat, h⟩ else fun _ => 0

/-- One where the bit is set, zero elsewhere, as the kernel converts a mask. -/
def bit (b : BitVec 1) : EReal := FloatOps.sitofp (F := Ideal) FTy.f32 (BitVec.setWidth 32 b)

/-- A set bit is one. -/
theorem bit_one : bit 1#1 = 1 := by
  show (((BitVec.setWidth 32 1#1).toInt : ℝ) : EReal) = 1
  rw [show (BitVec.setWidth 32 1#1).toInt = 1 by decide]; norm_num
/-- A clear bit is zero. -/
theorem bit_zero : bit 0#1 = 0 := by
  show (((BitVec.setWidth 32 0#1).toInt : ℝ) : EReal) = 0
  rw [show (BitVec.setWidth 32 0#1).toInt = 0 by decide]; norm_num

/-- A product with the one-hot row of a slot's word picks the row it names. -/
theorem onehot_sum (x : Fin 256 → Row) (s : BitVec 32) (b : Fin 256 → BitVec 1) (hb : ∀ t, b t = 1#1 ↔ s = BitVec.ofNat 32 t.val) (d : Fin 768) :
    ∑ t, bit (b t) * x t d = pick x s d := by
  have hb0 : ∀ t, ¬ s = BitVec.ofNat 32 t.val → b t = 0#1 := fun t h => by
    have h1 : ¬ b t = 1#1 := fun h' => h ((hb t).1 h')
    revert h1; generalize b t = u; revert u; decide
  unfold pick
  by_cases h : s.toNat < 256
  · rw [dif_pos h, Finset.sum_eq_single ⟨s.toNat, h⟩]
    · rw [(hb _).2 (by simp), bit_one, one_mul]
    · intro t _ ht
      rw [hb0 t, bit_zero, zero_mul]
      intro hs; apply ht; apply Fin.ext
      show t.val = s.toNat
      rw [hs, BitVec.toNat_ofNat]; omega
    · intro h'; exact absurd (Finset.mem_univ _) h'
  · rw [dif_neg h]
    refine Finset.sum_eq_zero fun t _ => ?_
    rw [hb0 t, bit_zero, zero_mul]
    intro hs; apply h; rw [hs]; simp [BitVec.toNat_ofNat]; omega

/-- A number's product with the mask's selected gates is the product with the one that the slot's word names. -/
theorem onehot_gate (g : Fin 256 → EReal) (x : Fin 256 → Row) (s : BitVec 32) (b : Fin 256 → BitVec 1) (hb : ∀ t, b t = 1#1 ↔ s = BitVec.ofNat 32 t.val) (d : Fin 768) :
    (∑ t, Scalar.select (b t) (g t) 0) * pick x s d = pick (fun t d => g t * x t d) s d := by
  have hb0 : ∀ t, ¬ s = BitVec.ofNat 32 t.val → b t = 0#1 := fun t h => by
    have h1 : ¬ b t = 1#1 := fun h' => h ((hb t).1 h')
    revert h1; generalize b t = u; revert u; decide
  unfold pick
  by_cases h : s.toNat < 256
  · rw [dif_pos h, dif_pos h, Finset.sum_eq_single ⟨s.toNat, h⟩]
    · rw [(hb _).2 (by simp)]; rfl
    · intro t _ ht
      rw [hb0 t]; rfl
      intro hs; apply ht; apply Fin.ext
      show t.val = s.toNat
      rw [hs, BitVec.toNat_ofNat]; omega
    · intro h'; exact absurd (Finset.mem_univ _) h'
  · rw [dif_neg h, dif_neg h, mul_zero]

/-- A mask with no bit set picks zeros. -/
theorem none_sum (x : Fin 256 → Row) (b : Fin 256 → BitVec 1) (hb : ∀ t, b t = 0#1) (d : Fin 768) : ∑ t, bit (b t) * x t d = 0 :=
  Finset.sum_eq_zero fun t _ => by rw [hb t, bit_zero, zero_mul]

end Cert.Spec

end
-- ==== Proof.Val.KerPay.lean ====
/-
  What the kernel's payloads hold at an index, over the reals.
-/
module

public import proofs.«01_k».proof.Proof.Gen.KernelIdeal.Skeleton
public import proofs.«01_k».proof.Proof.Val.Spec

@[expose] public section

set_option maxRecDepth 16384

noncomputable section

namespace Cert.KernelIdeal.Val

open Cert.KernelIdeal Cert.KernelIdeal.Gen Cert.Spec
open Idealize.ShloMosaic

/-- The one-hot mask: whether token t is in slot r of the expert whose number is w. -/
def mk (w : BitVec 32) (tok : IVec S1x256 32) (r : Fin 96) (t : Fin 256) : BitVec 1 :=
  IntOp.andi (IntOp.cmpi .eq (IntOp.subi (tok (ix2 0 t)) (Scalar.muli w 80#32)) (BitVec.ofNat 32 r.val)) (IntOp.cmpi .slt (BitVec.ofNat 32 r.val) 80#32)

/-- The row that the mask's row r selects, -/
def rowX (w : BitVec 32) (tok : IVec S1x256 32) (x : S256x768.Idx → EReal) (r : Fin 96) : Row := fun d => ∑ t, bit (mk w tok r t) * x (ix2 t d)

/-- and its product with the gate that the mask's row r selects. -/
def rowG (w : BitVec 32) (tok : IVec S1x256 32) (g : S1x256.Idx → EReal) (x : S256x768.Idx → EReal) (r : Fin 96) : Row :=
  fun d => (∑ t, Scalar.select (mk w tok r t) (g (ix2 0 t)) 0) * rowX w tok x r d

/-- What this payload of the kernel holds at an index. -/
theorem pay6_at (sx : EReal) (x : FVec Ideal S256x768 .bf16) (t : Fin 256) (d : Fin 768) : k0_pay6 (F := Ideal) sx x (ix2 t d) = q4 sx (x (ix2 t d)) := by
  pointwise [k0_pay6, k0_pay5]
  rfl

/-- What this payload of the kernel holds at an index. -/
theorem pay14_at (w : BitVec 32) (sx : EReal) (tok : IVec S1x256 32) (x : FVec Ideal S256x768 .bf16) (r : Fin 96) (d : Fin 768) :
    k0_pay14 (F := Ideal) w sx tok x (ix2 r d) = q4 sx (rowX w tok x r d) := by
  pointwise [k0_pay14, k0_pay13, k0_pay12, k0_pay11]
  rfl

/-- What this payload of the kernel holds at an index. -/
theorem pay15_at (w : BitVec 32) (sx : EReal) (tok : IVec S1x256 32) (x : FVec Ideal S256x768 .bf16) (r : Fin 96) (d : Fin 768) :
    k0_pay15 (F := Ideal) w sx tok x (ix2 d r) = q4 sx (rowX w tok x r d) := by
  rw [← pay14_at]
  pointwise [k0_pay15]
  pointwise [k0_pay14]

/-- What this payload of the kernel holds at an index. -/
theorem pay20_at (w : BitVec 32) (tok : IVec S1x256 32) (g : FVec Ideal S1x256 .f32) (x : FVec Ideal S256x768 .bf16) (r : Fin 96) (d : Fin 768) :
    k0_pay20 (F := Ideal) (k0_pay11 (F := Ideal) w tok) (k0_pay16 (F := Ideal) w tok x) g (ix2 r d) = rowG w tok g x r d := by
  pointwise [k0_pay20, k0_pay18, k0_pay16, k0_pay12, k0_pay11]
  rfl

/-- What this payload of the kernel holds at an index. -/
theorem pay21_at (sdo : EReal) (w : BitVec 32) (tok : IVec S1x256 32) (g : FVec Ideal S1x256 .f32) (x : FVec Ideal S256x768 .bf16) (r : Fin 96) (d : Fin 768) :
    k0_pay21 (F := Ideal) sdo (k0_pay11 (F := Ideal) w tok) (k0_pay16 (F := Ideal) w tok x) g (ix2 r d) = q5 sdo (rowG w tok g x r d) := by
  rw [← pay20_at]
  pointwise [k0_pay21]
  rfl

/-- What this payload of the kernel holds at an index. -/
theorem pay22_at (f : FVec Ideal S80x768 .fp8e5m2) (r : Fin 80) (d : Fin 768) : k0_pay22 (F := Ideal) f (ix3 0 r d) = f (ix2 r d) := by
  pointwise [k0_pay22]

/-- What this payload of the kernel holds at an index. -/
theorem pay34_at (w : FVec Ideal S1x512x768 .fp8e4m3) (f : Fin 512) (d : Fin 768) : k0_pay34 (F := Ideal) w (ix2 f d) = w (ix3 0 f d) := by
  pointwise [k0_pay34]

/-- What this payload of the kernel holds at an index. -/
theorem pay35_at (sx ws : EReal) (w : FVec Ideal S1x768x512 .fp8e4m3) (xs : FVec Ideal S96x768 .fp8e4m3) (r : Fin 96) (f : Fin 512) :
    k0_pay35 (F := Ideal) sx ws w xs (ix2 r f) = (∑ d : Fin 768, (show EReal from xs (ix2 r d)) * (show EReal from w (ix3 0 d f))) * (sx * ws) := by
  pointwise [k0_pay35, k0_pay33]

/-- What this payload of the kernel holds at an index. -/
theorem pay36_at (sx ws : EReal) (w : FVec Ideal S1x768x512 .fp8e4m3) (xs : FVec Ideal S96x768 .fp8e4m3) (r : Fin 96) (f : Fin 512) :
    k0_pay36 (F := Ideal) sx ws w xs (ix2 r f) = max (show EReal from k0_pay35 (F := Ideal) sx ws w xs (ix2 r f)) (0 : EReal) := by
  pointwise [k0_pay36]

/-- What this payload of the kernel holds at an index. -/
theorem pay37_at (sx sh ws : EReal) (w : FVec Ideal S1x768x512 .fp8e4m3) (xs : FVec Ideal S96x768 .fp8e4m3) (r : Fin 96) (f : Fin 512) :
    k0_pay37 (F := Ideal) sx sh ws w xs (ix2 r f) = q4 sh (k0_pay36 (F := Ideal) sx ws w xs (ix2 r f)) := by
  pointwise [k0_pay37]
  rfl

/-- What this payload of the kernel holds at an index. -/
theorem pay39_at (h : FVec Ideal S96x512 .fp8e4m3) (r : Fin 80) (f : Fin 512) : k0_pay39 (F := Ideal) h (ix3 0 r f) = h (ix2 ⟨r.val, by omega⟩ f) := by
  pointwise [k0_pay39]

/-- What this payload of the kernel holds at an index. -/
theorem pay41_at (sdo ws : EReal) (w : FVec Ideal S512x768 .fp8e4m3) (a : FVec Ideal S96x512 .f32) (dO : FVec Ideal S96x768 .fp8e5m2) (r : Fin 96) (f : Fin 512) :
    k0_pay41 (F := Ideal) sdo ws w a dO (ix2 r f) = (∑ d : Fin 768, (show EReal from dO (ix2 r d)) * (show EReal from w (ix2 f d))) * (sdo * ws) * ind (a (ix2 r f)) := by
  pointwise [k0_pay41]
  rfl

/-- What this payload of the kernel holds at an index. -/
theorem pay42_at (sdo sda ws : EReal) (w : FVec Ideal S512x768 .fp8e4m3) (a : FVec Ideal S96x512 .f32) (dO : FVec Ideal S96x768 .fp8e5m2) (r : Fin 96) (f : Fin 512) :
    k0_pay42 (F := Ideal) sdo sda ws w a dO (ix2 r f) = q5 sda (k0_pay41 (F := Ideal) sdo ws w a dO (ix2 r f)) := by
  pointwise [k0_pay42]
  rfl

/-- What this payload of the kernel holds at an index. -/
theorem pay45_at (h : FVec Ideal S96x512 .fp8e5m2) (r : Fin 80) (f : Fin 512) : k0_pay45 (F := Ideal) h (ix3 0 r f) = h (ix2 ⟨r.val, by omega⟩ f) := by
  pointwise [k0_pay45]

/-- What this payload of the kernel holds at an index. -/
theorem pay47_at (sx sda : EReal) (D : FVec Ideal S96x512 .fp8e5m2) (xst : FVec Ideal S768x96 .fp8e4m3) (d : Fin 768) (f : Fin 512) :
    k0_pay47 (F := Ideal) sx sda D xst (ix3 0 d f) = (∑ r : Fin 96, (show EReal from xst (ix2 d r)) * (show EReal from D (ix2 r f))) * (sx * sda) := by
  pointwise [k0_pay47]

/-- What this payload of the kernel holds at an index. -/
theorem pay48_at (sh sdo : EReal) (H : FVec Ideal S96x512 .fp8e4m3) (dO : FVec Ideal S96x768 .fp8e5m2) (f : Fin 512) (d : Fin 768) :
    k0_pay48 (F := Ideal) sh sdo H dO (ix3 0 f d) = (∑ r : Fin 96, (show EReal from H (ix2 r f)) * (show EReal from dO (ix2 r d))) * (sh * sdo) := by
  pointwise [k0_pay48]

end Cert.KernelIdeal.Val

end
-- ==== Proof.Val.KerIn.lean ====
/-
  What the kernel's input windows hold at a grid point.
-/
module

public import proofs.«01_k».proof.Proof.Data
public import proofs.«01_k».proof.Proof.Val.KerPay
public import Idealize.ShloMosaic.Lib.Pipeline.ValueKit

@[expose] public section

set_option maxRecDepth 16384

noncomputable section

namespace Cert.KernelIdeal.Val

open Cert.KernelIdeal Cert.KernelIdeal.Gen Cert.KernelIdeal.Hand Cert.Spec
open Idealize.ShloMosaic Idealize.ShloMosaic.TcCoe Idealize.SL.Sem
open Idealize.ShloMosaic.Pipeline (Dat)

variable (m : (ℓ : Loc nD τ sig) → Buf (Elt Ideal) ℓ)

/-- Which block each window shows at each point. -/
theorem idx : ∀ t : Fin cfg0.N, win0_0.index t = ![0] ∧ win0_1.index t = ![0] ∧ win0_2.index t = ![0] ∧ win0_3.index t = ![0]
    ∧ win0_4.index t = ![0] ∧ win0_5.index t = ![0] ∧ win0_6.index t = ![0, 0] ∧ win0_7.index t = ![0, 0] ∧ win0_8.index t = ![0, 0]
    ∧ win0_9.index t = ![0, 0] ∧ win0_10.index t = ![0, 0] ∧ win0_11.index t = ![t.val / 6, 0, t.val % 6] ∧ win0_12.index t = ![t.val / 6, t.val % 6, 0]
    ∧ win0_15.index t = ![t.val / 6, 0, t.val % 6] ∧ win0_16.index t = ![t.val / 6, t.val % 6, 0]
    ∧ win0_18.index t = ![0, 0] ∧ win0_19.index t = ![0] ∧ win0_20.index t = ![t.val / 6, 0, t.val % 6] ∧ win0_21.index t = ![0]
    ∧ win0_22.index t = ![t.val / 6, 0, 0] ∧ win0_23.index t = ![0] ∧ win0_24.index t = ![t.val / 6, 0, t.val % 6] ∧ win0_25.index t = ![0] :=
  (by decide +kernel : ∀ t : Fin grid0.N, _)

/-- A point's expert -/
def E (t : Fin cfg0.N) : Fin 4 := ⟨t.val / 6, by have : t.val < 24 := Nat.lt_of_lt_of_eq t.isLt N_0; omega⟩
/-- and a column of its tile. -/
def col (t : Fin cfg0.N) (f : Fin 512) : Fin 3072 := ⟨512 * (t.val % 6) + f.val, by omega⟩

variable (c : Dev nD) (t : Fin cfg0.N)

/-- What this input window holds at a point. -/
theorem in0 : iblk m c 0 t = V m c main_v0 := by blk_ext! [iblk, idx t]
/-- What this input window holds at a point. -/
theorem in1 : iblk m c 1 t = V m c main_v1 := by blk_ext! [iblk, idx t]
/-- What this input window holds at a point. -/
theorem in2 : iblk m c 2 t = V m c main_v2 := by blk_ext! [iblk, idx t]
/-- What this input window holds at a point. -/
theorem in3 : iblk m c 3 t = V m c main_v3 := by blk_ext! [iblk, idx t]
/-- What this input window holds at a point. -/
theorem in4 : iblk m c 4 t = V m c main_arg3 := by blk_ext! [iblk, idx t]
/-- What this input window holds at a point. -/
theorem in5 : iblk m c 5 t = V m c main_arg5 := by blk_ext! [iblk, idx t]
/-- What this input window holds at a point. -/
theorem in7 : iblk m c 7 t = V m c main_v4 := by blk_ext! [iblk, idx t]
/-- What this input window holds at a point. -/
theorem in8 : iblk m c 8 t = V m c main_v5 := by blk_ext! [iblk, idx t]
/-- What this input window holds at a point. -/
theorem in9 : iblk m c 9 t = V m c main_arg0 := by blk_ext! [iblk, idx t]
/-- What this input window holds at a point. -/
theorem in10 : iblk m c 10 t = V m c main_arg1 := by blk_ext! [iblk, idx t]

/-- What this input window holds at a point. -/
theorem in11 (d : Fin 768) (f : Fin 512) : iblk m c 11 t (ix3 0 d f) = V m c main_arg2 (ix3 (E t) d (col t f)) := by
  blk_ext [iblk, idx t, E, col]
/-- What this input window holds at a point. -/
theorem in12 (f : Fin 512) (d : Fin 768) : iblk m c 12 t (ix3 0 f d) = V m c main_arg4 (ix3 (E t) (col t f) d) := by
  blk_ext [iblk, idx t, E, col]

/-- A one-element table has one index. -/
theorem s1_eq (i j : S1.Idx) : i = j := by
  funext k
  obtain rfl : k = 0 := Subsingleton.elim _ _
  have h1 : (i 0).val < 1 := (i 0).isLt
  have h2 : (j 0).val < 1 := (j 0).isLt
  apply Fin.ext; omega

/-- A one-element table's number is its only element. -/
theorem sc_eq (x : Vec Ideal S1 .f32) : sc x = x (ix1 0) := congrArg x (s1_eq _ _)

/-- The first grid coordinate of a point is its expert. -/
theorem coord0 : (grid0.coords t 0).val = t.val / 6 := by
  have ht : t.val < 24 := Nat.lt_of_lt_of_eq t.isLt N_0
  have e0 : (grid0.coords t 0).val = t.val / 6 % 4 := Pipeline.Grid.coords_val t 0 (by decide) rfl
  omega

/-- The body's expert word is the expert's number. -/
theorem wE_eq : wE (grid0.coords t) = BitVec.ofNat 32 (E t).val := by
  unfold wE E; rw [coord0]

/-- The body's entry of a table of four is the expert's. -/
theorem sc4_eq (x : Vec Ideal S4 .f32) : sc4 (grid0.coords t) x = x (ix1 (E t)) := by
  refine congrArg x (funext fun a => Fin.ext ?_)
  obtain rfl : a = 0 := Subsingleton.elim _ _
  have ht : t.val < 24 := Nat.lt_of_lt_of_eq t.isLt N_0
  have hh : k0_off1 (grid0.coords t) 0 = t.val / 6 := by
    simp only [k0_off1, coord0]
    show (BitVec.ofNat 32 (t.val / 6)).toNat = t.val / 6
    rw [BitVec.toNat_ofNat]; omega
  show k0_off1 (grid0.coords t) 0 + 1 * 0 = t.val / 6
  omega

/-- A reshaped argument, at coordinates. -/
theorem Vv0 : V m c main_v0 (ix1 0) = m ((c : Thread nD τ).loc main_arg6) (fun a => a.elim0) := by
  entry_read
  exact congrArg (m ((c : Thread nD τ).loc main_arg6)) (funext fun a => a.elim0)
/-- A reshaped argument, at coordinates. -/
theorem Vv1 : V m c main_v1 (ix1 0) = m ((c : Thread nD τ).loc main_arg7) (fun a => a.elim0) := by
  entry_read
  exact congrArg (m ((c : Thread nD τ).loc main_arg7)) (funext fun a => a.elim0)
/-- A reshaped argument, at coordinates. -/
theorem Vv2 : V m c main_v2 (ix1 0) = m ((c : Thread nD τ).loc main_arg8) (fun a => a.elim0) := by
  entry_read
  exact congrArg (m ((c : Thread nD τ).loc main_arg8)) (funext fun a => a.elim0)
/-- A reshaped argument, at coordinates. -/
theorem Vv3 : V m c main_v3 (ix1 0) = m ((c : Thread nD τ).loc main_arg9) (fun a => a.elim0) := by
  entry_read
  exact congrArg (m ((c : Thread nD τ).loc main_arg9)) (funext fun a => a.elim0)
/-- A reshaped argument, at coordinates. -/
theorem Vv4 (s : Fin 256) : V m c main_v4 (ix2 0 s) = m ((c : Thread nD τ).loc main_arg12) (ix2 s 0) := by
  entry_read
  pointwise
/-- A reshaped argument, at coordinates. -/
theorem Vv5 (s : Fin 256) : V m c main_v5 (ix2 0 s) = m ((c : Thread nD τ).loc main_arg10) (ix2 s 0) := by
  entry_read
  pointwise

end Cert.KernelIdeal.Val

end
-- ==== Proof.Val.KerState.lean ====
/-
  How a grid point leaves the kernel's buffers, field by field.
-/
module

public import proofs.«01_k».proof.Proof.Body

@[expose] public section

set_option maxRecDepth 16384

noncomputable section

namespace Cert.KernelIdeal.Val

open Cert.KernelIdeal Cert.KernelIdeal.Gen Cert.KernelIdeal.Hand
open Idealize.ShloMosaic

variable {F : FTy → Type} [FloatOps F] (i : grid0.Coords) (I : In F) (s : St F)

/-- After the tile, a point changes nothing but the combined outputs. -/
theorem fin_eq (s : St F) : (fin i I s).xs = s.xs ∧ (fin i I s).xst = s.xst ∧ (fin i I s).dO = s.dO ∧ (fin i I s).dw1 = s.dw1 ∧ (fin i I s).dw2 = s.dw2 ∧ (fin i I s).xc = s.xc
    ∧ (fin i I s).ax = s.ax ∧ (fin i I s).h = s.h ∧ (fin i I s).ah = s.ah ∧ (fin i I s).doc = s.doc ∧ (fin i I s).ado = s.ado ∧ (fin i I s).da = s.da ∧ (fin i I s).ada = s.ada := by
  unfold fin
  split <;> split <;> exact ⟨rfl, rfl, rfl, rfl, rfl, rfl, rfl, rfl, rfl, rfl, rfl, rfl, rfl⟩

/-- This buffer after a point. -/
theorem step_xs : (step i I s).xs = (prep i I s).xs := (fin_eq i I _).1
/-- This buffer after a point. -/
theorem step_xst : (step i I s).xst = (prep i I s).xst := (fin_eq i I _).2.1
/-- This buffer after a point. -/
theorem step_dO : (step i I s).dO = (prep i I s).dO := (fin_eq i I _).2.2.1
/-- This buffer after a point. -/
theorem step_dw1 : (step i I s).dw1 = k0_pay47 (sc I.sx) (sc I.sda) (tD i I (prep i I s)) (prep i I s).xst := (fin_eq i I _).2.2.2.1
/-- This buffer after a point. -/
theorem step_dw2 : (step i I s).dw2 = k0_pay48 (sc I.sh) (sc I.sdo) (tH i I (prep i I s)) (prep i I s).dO := (fin_eq i I _).2.2.2.2.1
/-- This buffer after a point. -/
theorem step_xc : (step i I s).xc = (prep i I s).xc := (fin_eq i I _).2.2.2.2.2.1
/-- This buffer after a point. -/
theorem step_ax : (step i I s).ax = (prep i I s).ax := (fin_eq i I _).2.2.2.2.2.2.1
/-- This buffer after a point. -/
theorem step_h : (step i I s).h = k0_pay39 (tH i I (prep i I s)) := (fin_eq i I _).2.2.2.2.2.2.2.1
/-- This buffer after a point. -/
theorem step_ah : (step i I s).ah = fun _ => k0_pay38 (tR i I (prep i I s)) (sc (prep i I s).ah) := (fin_eq i I _).2.2.2.2.2.2.2.2.1
/-- This buffer after a point. -/
theorem step_doc : (step i I s).doc = (prep i I s).doc := (fin_eq i I _).2.2.2.2.2.2.2.2.2.1
/-- This buffer after a point. -/
theorem step_ado : (step i I s).ado = (prep i I s).ado := (fin_eq i I _).2.2.2.2.2.2.2.2.2.2.1
/-- This buffer after a point. -/
theorem step_da : (step i I s).da = k0_pay45 (tD i I (prep i I s)) := (fin_eq i I _).2.2.2.2.2.2.2.2.2.2.2.1
/-- This buffer after a point. -/
theorem step_ada : (step i I s).ada = fun _ => k0_pay44 (sc (prep i I s).ada) (k0_pay43 (sc I.sdo) (sc4 i I.w2s) (k0_pay34 I.w2) (tA i I (prep i I s)) (prep i I s).dO) :=
  (fin_eq i I _).2.2.2.2.2.2.2.2.2.2.2.2

/-- An expert's first point sets its rows, -/
theorem prep_new (h : k0_cond2 i = 1#1) : (prep i I s).xs = k0_pay14 (wE i) (sc I.sx) I.tok I.x ∧ (prep i I s).xst = k0_pay15 (wE i) (sc I.sx) I.tok I.x
    ∧ (prep i I s).dO = k0_pay21 (sc I.sdo) (k0_pay11 (wE i) I.tok) (k0_pay16 (wE i) I.tok I.dy) I.gate
    ∧ (prep i I s).doc = k0_pay22 (fun y => k0_pay21 (sc I.sdo) (k0_pay11 (wE i) I.tok) (k0_pay16 (wE i) I.tok I.dy) I.gate
             ((Rect.unit (s := S96x768) ![0, 0] S80x768.size inb_S96x768_S80x768_0_0).toLoadRect.idx y)) := by
  unfold prep
  rw [if_pos h]
  exact ⟨rfl, rfl, rfl, rfl⟩

/-- and the other points keep them. -/
theorem prep_old (h : ¬k0_cond2 i = 1#1) : (prep i I s).xs = s.xs ∧ (prep i I s).xst = s.xst ∧ (prep i I s).dO = s.dO ∧ (prep i I s).doc = s.doc := by
  unfold prep
  rw [if_neg h]
  split <;> exact ⟨rfl, rfl, rfl, rfl⟩

/-- The first point sets the activations' codes and their maximum, -/
theorem prep_first (h : k0_cond1 i = 1#1) : (prep i I s).xc = k0_pay6 (sc I.sx) I.x ∧ (prep i I s).ax = fun _ => k0_pay7 I.x := by
  unfold prep
  rw [if_pos h]
  split <;> dsimp only [expertSt, firstSt] <;> exact ⟨Eq.refl _, Eq.refl _⟩

/-- and the other points keep them. -/
theorem prep_later (h : ¬k0_cond1 i = 1#1) : (prep i I s).xc = s.xc ∧ (prep i I s).ax = s.ax := by
  unfold prep
  rw [if_neg h]
  split <;> exact ⟨rfl, rfl⟩

/-- The running maximum that a point starts from, -/
def base (i : grid0.Coords) (x : Vec F S1 .f32) : Vec F S1 .f32 := if k0_cond1 i = 1#1 then fun _ => Scalar.ofBits .f32 0x00000000#32 else x

/-- This buffer after a point. -/
theorem prep_ah : (prep i I s).ah = base i s.ah := by
  unfold prep base; split <;> split <;> rfl
/-- This buffer after a point. -/
theorem prep_ada : (prep i I s).ada = base i s.ada := by
  unfold prep base; split <;> split <;> rfl
/-- The output cotangents' maximum as the tile finds it: an expert's first point has raised it. -/
theorem prep_ado : (prep i I s).ado = if k0_cond2 i = 1#1 then fun _ => k0_pay23 (k0_pay11 (wE i) I.tok) (k0_pay16 (wE i) I.tok I.dy) I.gate (sc (base i s.ado)) else base i s.ado := by
  unfold prep base; split <;> split <;> rfl

end Cert.KernelIdeal.Val

end
-- ==== Proof.Val.KerRows.lean ====
/-
  What a grid point of the kernel computes, over the reals: with the mask's rows as an expert's rows, the expert's codes and gradients at the columns of the point's tile.
-/
module

public import proofs.«01_k».proof.Proof.Val.KerIn
public import proofs.«01_k».proof.Proof.Val.KerState

@[expose] public section

set_option maxRecDepth 16384

noncomputable section

namespace Cert.KernelIdeal.Val

open Cert.KernelIdeal Cert.KernelIdeal.Gen Cert.KernelIdeal.Hand Cert.Spec
open Idealize.ShloMosaic Idealize.ShloMosaic.TcCoe Idealize.SL.Sem
open Idealize.ShloMosaic.Pipeline (Dat)

variable (m : (ℓ : Loc nD τ sig) → Buf (Elt Ideal) ℓ) (c : Dev nD)

/-- The scales and weights that the kernel's call reads. -/
def K : Data where
  sx := (show FVec Ideal S1 .f32 from V m c main_v0) (ix1 0)
  sh := (show FVec Ideal S1 .f32 from V m c main_v1) (ix1 0)
  sdo := (show FVec Ideal S1 .f32 from V m c main_v2) (ix1 0)
  sda := (show FVec Ideal S1 .f32 from V m c main_v3) (ix1 0)
  w1s e := (show FVec Ideal S4 .f32 from V m c main_arg3) (ix1 e)
  w2s e := (show FVec Ideal S4 .f32 from V m c main_arg5) (ix1 e)
  w1 e d f := (show FVec Ideal S4x768x3072 .fp8e4m3 from V m c main_arg2) (ix3 e d f)
  w2 e f d := (show FVec Ideal S4x3072x768 .fp8e4m3 from V m c main_arg4) (ix3 e f d)

/-- The mask's rows of an expert, -/
def XR (e : Fin 4) (r : Fin 96) : Row := rowX (BitVec.ofNat 32 e.val) (V m c main_v4) (V m c main_arg0) r
/-- and their output cotangents. -/
def GR (e : Fin 4) (r : Fin 96) : Row := rowG (BitVec.ofNat 32 e.val) (V m c main_v4) (V m c main_v5) (V m c main_arg1) r

/-- The codes of an expert's output cotangents. -/
def dOv (e : Fin 4) : FVec Ideal S96x768 .fp8e5m2 :=
  k0_pay21 (F := Ideal) (K m c).sdo (k0_pay11 (F := Ideal) (BitVec.ofNat 32 e.val) (V m c main_v4)) (k0_pay16 (F := Ideal) (BitVec.ofNat 32 e.val) (V m c main_v4) (V m c main_arg1)) (V m c main_v5)

/-- The buffers hold an expert's rows. -/
def Rows (e : Fin 4) (s : St Ideal) : Prop :=
  s.xs = k0_pay14 (F := Ideal) (BitVec.ofNat 32 e.val) (K m c).sx (V m c main_v4) (V m c main_arg0)
  ∧ s.xst = k0_pay15 (F := Ideal) (BitVec.ofNat 32 e.val) (K m c).sx (V m c main_v4) (V m c main_arg0)
  ∧ s.dO = dOv m c e
  ∧ s.doc = k0_pay22 (F := Ideal) (fun y => dOv m c e ((Rect.unit (s := S96x768) ![0, 0] S80x768.size inb_S96x768_S80x768_0_0).toLoadRect.idx y))

/-- What the body reads at a point. -/
theorem I_sx (t : Fin cfg0.N) : sc (Ipt m c t).sx = (K m c).sx := (sc_eq _).trans (congrFun (in0 m c t) _)
/-- What the body reads at a point. -/
theorem I_sh (t : Fin cfg0.N) : sc (Ipt m c t).sh = (K m c).sh := (sc_eq _).trans (congrFun (in1 m c t) _)
/-- What the body reads at a point. -/
theorem I_sdo (t : Fin cfg0.N) : sc (Ipt m c t).sdo = (K m c).sdo := (sc_eq _).trans (congrFun (in2 m c t) _)
/-- What the body reads at a point. -/
theorem I_sda (t : Fin cfg0.N) : sc (Ipt m c t).sda = (K m c).sda := (sc_eq _).trans (congrFun (in3 m c t) _)
/-- What the body reads at a point. -/
theorem I_w1s (t : Fin cfg0.N) : sc4 (grid0.coords t) (Ipt m c t).w1s = (K m c).w1s (E t) := (sc4_eq t _).trans (congrFun (in4 m c t) _)
/-- What the body reads at a point. -/
theorem I_w2s (t : Fin cfg0.N) : sc4 (grid0.coords t) (Ipt m c t).w2s = (K m c).w2s (E t) := (sc4_eq t _).trans (congrFun (in5 m c t) _)
/-- What the body reads at a point. -/
theorem I_tok (t : Fin cfg0.N) : (Ipt m c t).tok = V m c main_v4 := in7 m c t
/-- What the body reads at a point. -/
theorem I_gate (t : Fin cfg0.N) : (Ipt m c t).gate = V m c main_v5 := in8 m c t
/-- What the body reads at a point. -/
theorem I_x (t : Fin cfg0.N) : (Ipt m c t).x = V m c main_arg0 := in9 m c t
/-- What the body reads at a point. -/
theorem I_dy (t : Fin cfg0.N) : (Ipt m c t).dy = V m c main_arg1 := in10 m c t
/-- What the body reads at a point. -/
theorem I_w1 (t : Fin cfg0.N) (d : Fin 768) (f : Fin 512) : (Ipt m c t).w1 (ix3 0 d f) = (K m c).w1 (E t) d (col t f) := in11 m c t d f
/-- What the body reads at a point. -/
theorem I_w2 (t : Fin cfg0.N) (f : Fin 512) (d : Fin 768) : (Ipt m c t).w2 (ix3 0 f d) = (K m c).w2 (E t) (col t f) d := in12 m c t f d

/-- The buffers as a point finds them at its tile. -/
def P (t : Fin cfg0.N) : St Ideal := prep (grid0.coords t) (Ipt m c t) (S m c t.val)

/-- A point's tile finds its expert's rows, when the point before left them. -/
theorem P_rows (t : Fin cfg0.N) (h : t.val % 6 ≠ 0 → Rows m c (E t) (S m c t.val)) : Rows m c (E t) (P m c t) := by
  by_cases hc : k0_cond2 (grid0.coords t) = 1#1
  · have hp := prep_new (grid0.coords t) (Ipt m c t) (S m c t.val) hc
    rw [I_sx, I_sdo, I_tok, I_x, I_dy, I_gate, wE_eq] at hp
    exact hp
  · have hp := prep_old (grid0.coords t) (Ipt m c t) (S m c t.val) hc
    have hr := h fun h0 => hc ((hc2 t).2 h0)
    exact ⟨hp.1.trans hr.1, hp.2.1.trans hr.2.1, hp.2.2.1.trans hr.2.2.1, hp.2.2.2.trans hr.2.2.2⟩

/-- At every point the buffers hold its expert's rows. -/
theorem rows_aux (n : ℕ) : ∀ t : Fin cfg0.N, t.val = n → Rows m c (E t) (P m c t) := by
  induction n with
  | zero => exact fun t ht => P_rows m c t fun h => absurd (by rw [ht]) h
  | succ n ih =>
    intro t ht
    refine P_rows m c t fun h => ?_
    have hn : n < cfg0.N := by have := t.isLt; omega
    have hr := ih ⟨n, hn⟩ rfl
    have hE : E (⟨n, hn⟩ : Fin cfg0.N) = E t := Fin.ext (by show n / 6 = t.val / 6; omega)
    rw [hE] at hr
    rw [ht, show n + 1 = (⟨n, hn⟩ : Fin cfg0.N).val + 1 from rfl, S_succ]
    exact ⟨(step_xs _ _ _).trans hr.1, (step_xst _ _ _).trans hr.2.1, (step_dO _ _ _).trans hr.2.2.1, (step_doc _ _ _).trans hr.2.2.2⟩

/-- At every point the buffers hold its expert's rows. -/
theorem rows (t : Fin cfg0.N) : Rows m c (E t) (P m c t) := rows_aux m c _ t rfl

/-- This buffer or value of the point's tile, at an index, by the formula. -/
theorem xs_at (t : Fin cfg0.N) (r : Fin 96) (d : Fin 768) : (P m c t).xs (ix2 r d) = q4 (K m c).sx (XR m c (E t) r d) := by
  rw [(rows m c t).1]; exact pay14_at _ _ _ _ _ _
/-- This buffer or value of the point's tile, at an index, by the formula. -/
theorem xst_at (t : Fin cfg0.N) (r : Fin 96) (d : Fin 768) : (P m c t).xst (ix2 d r) = q4 (K m c).sx (XR m c (E t) r d) := by
  rw [(rows m c t).2.1]; exact pay15_at _ _ _ _ _ _
/-- This buffer or value of the point's tile, at an index, by the formula. -/
theorem dOv_at (e : Fin 4) (r : Fin 96) (d : Fin 768) : dOv m c e (ix2 r d) = q5 (K m c).sdo (GR m c e r d) := pay21_at _ _ _ _ _ _ _
/-- This buffer or value of the point's tile, at an index, by the formula. -/
theorem dO_at (t : Fin cfg0.N) (r : Fin 96) (d : Fin 768) : (P m c t).dO (ix2 r d) = q5 (K m c).sdo (GR m c (E t) r d) := by
  rw [(rows m c t).2.2.1]; exact dOv_at m c _ _ _
/-- This buffer or value of the point's tile, at an index, by the formula. -/
theorem doc_at (t : Fin cfg0.N) (r : Fin 80) (d : Fin 768) : (P m c t).doc (ix3 0 r d) = q5 (K m c).sdo (GR m c (E t) ⟨r.val, by omega⟩ d) := by
  rw [(rows m c t).2.2.2, pay22_at, ← dOv_at]
  refine congrArg (dOv m c (E t)) (funext fun a => Fin.ext ?_)
  match a with
  | ⟨0, _⟩ => show 0 + 1 * r.val = r.val; omega
  | ⟨1, _⟩ => show 0 + 1 * d.val = d.val; omega

/-- This buffer or value of the point's tile, at an index, by the formula. -/
theorem tA_at (t : Fin cfg0.N) (r : Fin 96) (f : Fin 512) :
    tA (grid0.coords t) (Ipt m c t) (P m c t) (ix2 r f) = A (K m c) (E t) (XR m c (E t) r) (col t f) := by
  unfold tA A
  rw [I_sx, I_w1s, pay35_at]
  refine congrArg (· * _) (Finset.sum_congr rfl fun d _ => ?_)
  show (show EReal from (P m c t).xs (ix2 r d)) * (show EReal from (Ipt m c t).w1 (ix3 0 d f)) = _
  rw [xs_at, I_w1]

/-- This buffer or value of the point's tile, at an index, by the formula. -/
theorem tR_at (t : Fin cfg0.N) (r : Fin 96) (f : Fin 512) :
    tR (grid0.coords t) (Ipt m c t) (P m c t) (ix2 r f) = R (K m c) (E t) (XR m c (E t) r) (col t f) := by
  unfold R
  rw [← tA_at]
  exact pay36_at _ _ _ _ _ _

/-- This buffer or value of the point's tile, at an index, by the formula. -/
theorem tH_at (t : Fin cfg0.N) (r : Fin 96) (f : Fin 512) :
    tH (grid0.coords t) (Ipt m c t) (P m c t) (ix2 r f) = H (K m c) (E t) (XR m c (E t) r) (col t f) := by
  unfold H
  rw [← tR_at, ← I_sh m c t]
  exact pay37_at _ _ _ _ _ _ _

/-- The cotangent of the tile's pre-activation. -/
def tDH (t : Fin cfg0.N) : FVec Ideal S96x512 .f32 :=
  k0_pay41 (F := Ideal) (sc (Ipt m c t).sdo) (sc4 (grid0.coords t) (Ipt m c t).w2s) (k0_pay34 (F := Ideal) (Ipt m c t).w2) (tA (grid0.coords t) (Ipt m c t) (P m c t)) (P m c t).dO

/-- This buffer or value of the point's tile, at an index, by the formula. -/
theorem tDH_at (t : Fin cfg0.N) (r : Fin 96) (f : Fin 512) : tDH m c t (ix2 r f) = DH (K m c) (E t) (XR m c (E t) r) (GR m c (E t) r) (col t f) := by
  unfold tDH DH
  rw [I_sdo, I_w2s, pay41_at, tA_at]
  refine congrArg (fun z => z * _ * _) (Finset.sum_congr rfl fun d _ => ?_)
  show (show EReal from (P m c t).dO (ix2 r d)) * (show EReal from k0_pay34 (F := Ideal) (Ipt m c t).w2 (ix2 f d)) = _
  rw [dO_at, pay34_at, I_w2]

/-- This buffer or value of the point's tile, at an index, by the formula. -/
theorem tD_at (t : Fin cfg0.N) (r : Fin 96) (f : Fin 512) :
    tD (grid0.coords t) (Ipt m c t) (P m c t) (ix2 r f) = DA (K m c) (E t) (XR m c (E t) r) (GR m c (E t) r) (col t f) := by
  unfold DA
  rw [← tDH_at, ← I_sda m c t]
  exact pay42_at _ _ _ _ _ _ _ _

/-- This buffer or value of the point's tile, at an index, by the formula. -/
theorem dw1_at (t : Fin cfg0.N) (d : Fin 768) (f : Fin 512) : (S m c (t.val + 1)).dw1 (ix3 0 d f) = DW1 (K m c) (E t) (XR m c (E t)) (GR m c (E t)) d (col t f) := by
  rw [S_succ, step_dw1, I_sx, I_sda, pay47_at]
  unfold DW1
  refine congrArg (· * _) (Finset.sum_congr rfl fun r _ => ?_)
  show (show EReal from (P m c t).xst (ix2 d r)) * (show EReal from tD (grid0.coords t) (Ipt m c t) (P m c t) (ix2 r f)) = _
  rw [xst_at, tD_at]

/-- This buffer or value of the point's tile, at an index, by the formula. -/
theorem dw2_at (t : Fin cfg0.N) (f : Fin 512) (d : Fin 768) : (S m c (t.val + 1)).dw2 (ix3 0 f d) = DW2 (K m c) (E t) (XR m c (E t)) (GR m c (E t)) (col t f) d := by
  rw [S_succ, step_dw2, I_sh, I_sdo, pay48_at]
  unfold DW2
  refine congrArg (· * _) (Finset.sum_congr rfl fun r _ => ?_)
  show (show EReal from tH (grid0.coords t) (Ipt m c t) (P m c t) (ix2 r f)) * (show EReal from (P m c t).dO (ix2 r d)) = _
  rw [tH_at, dO_at]

/-- This buffer or value of the point's tile, at an index, by the formula. -/
theorem h_at (t : Fin cfg0.N) (r : Fin 80) (f : Fin 512) : (S m c (t.val + 1)).h (ix3 0 r f) = H (K m c) (E t) (XR m c (E t) ⟨r.val, by omega⟩) (col t f) := by
  rw [S_succ, step_h, pay39_at]
  exact tH_at m c t _ f

/-- This buffer or value of the point's tile, at an index, by the formula. -/
theorem da_at (t : Fin cfg0.N) (r : Fin 80) (f : Fin 512) :
    (S m c (t.val + 1)).da (ix3 0 r f) = DA (K m c) (E t) (XR m c (E t) ⟨r.val, by omega⟩) (GR m c (E t) ⟨r.val, by omega⟩) (col t f) := by
  rw [S_succ, step_da, pay45_at]
  exact tD_at m c t _ f

/-- The output cotangents' codes after a point. -/
theorem doc_after (t : Fin cfg0.N) (r : Fin 80) (d : Fin 768) : (S m c (t.val + 1)).doc (ix3 0 r d) = q5 (K m c).sdo (GR m c (E t) ⟨r.val, by omega⟩ d) := by
  rw [S_succ, step_doc]
  exact doc_at m c t r d

/-- After every point the first two results are the activations' codes and their maximum. -/
theorem first_aux (n : ℕ) : ∀ t : Fin cfg0.N, t.val = n → (S m c (t.val + 1)).xc = k0_pay6 (F := Ideal) (K m c).sx (V m c main_arg0)
    ∧ (S m c (t.val + 1)).ax = fun _ => k0_pay7 (F := Ideal) (V m c main_arg0) := by
  induction n with
  | zero =>
    intro t ht
    have hp := prep_first (grid0.coords t) (Ipt m c t) (S m c t.val) ((hc1 t).2 (by rw [ht]))
    rw [I_sx, I_x] at hp
    rw [S_succ, step_xc, step_ax]
    exact hp
  | succ n ih =>
    intro t ht
    have hn : n < cfg0.N := by have := t.isLt; omega
    have hr := ih ⟨n, hn⟩ rfl
    have hN : t.val < 24 := Nat.lt_of_lt_of_eq t.isLt N_0
    have hp := prep_later (grid0.coords t) (Ipt m c t) (S m c t.val) fun h => by have := (hc1 t).1 h; omega
    rw [S_succ, step_xc, step_ax, hp.1, hp.2, ht]
    exact hr

/-- The activations' codes and their maximum after a point. -/
theorem first_after (t : Fin cfg0.N) : (S m c (t.val + 1)).xc = k0_pay6 (F := Ideal) (K m c).sx (V m c main_arg0)
    ∧ (S m c (t.val + 1)).ax = fun _ => k0_pay7 (F := Ideal) (V m c main_arg0) := first_aux m c _ t rfl

end Cert.KernelIdeal.Val

end
-- ==== Proof.Val.KerMax.lean ====
/-
  The kernel's running maxima: what bounds them after its last point.
-/
module

public import proofs.«01_k».proof.Proof.Val.KerRows

@[expose] public section

set_option maxRecDepth 16384

noncomputable section

namespace Cert.KernelIdeal.Val

open Cert.KernelIdeal Cert.KernelIdeal.Gen Cert.KernelIdeal.Hand Cert.Spec
open Idealize.ShloMosaic Idealize.ShloMosaic.TcCoe Idealize.SL.Sem
open Idealize.ShloMosaic.Pipeline (Dat)

/-- The activations' maximum is below a number exactly when every activation's size is. -/
theorem pay7_le (x : FVec Ideal S256x768 .bf16) (z : EReal) : k0_pay7 (F := Ideal) x ≤ z ↔ ∀ t d, ab (x (ix2 t d)) ≤ z := by
  have key : ∀ P : Prop, (P ↔ ∀ t d, ab (x (ix2 t d)) ≤ z) → (k0_pay7 (F := Ideal) x ≤ z ↔ P) := fun P hP => by
      pointwise [k0_pay7, k0_pay5]
      rw [Finset.fold_max_le, ninf]
      rw [hP]
      constructor
      · intro h t d
        exact h.2 (t, d) (Finset.mem_univ _)
      · intro h
        exact ⟨bot_le, fun i _ => h i.1 i.2⟩
  exact key _ Iff.rfl

/-- A tile raises the running maximum to its own. -/
theorem pay38_le (R : FVec Ideal S96x512 .f32) (a z : EReal) : k0_pay38 (F := Ideal) R a ≤ z ↔ a ≤ z ∧ ∀ r f, R (ix2 r f) ≤ z := by
  have key : ∀ P : Prop, (P ↔ ∀ r f, R (ix2 r f) ≤ z) → (k0_pay38 (F := Ideal) R a ≤ z ↔ a ≤ z ∧ P) := fun P hP => by
      pointwise [k0_pay38]
      rw [max_le_iff, Finset.fold_max_le, ninf]
      rw [hP]
      constructor
      · intro h
        exact ⟨h.1, fun r f => h.2.2 (r, f) (Finset.mem_univ _)⟩
      · intro h
        exact ⟨h.1, bot_le, fun i _ => h.2 i.1 i.2⟩
  exact key _ Iff.rfl

/-- The pre-activation cotangents' running maximum, likewise. -/
theorem pay44_le (sdo ws : EReal) (w : FVec Ideal S512x768 .fp8e4m3) (A : FVec Ideal S96x512 .f32) (dO : FVec Ideal S96x768 .fp8e5m2) (a z : EReal) :
    k0_pay44 (F := Ideal) a (k0_pay43 (F := Ideal) sdo ws w A dO) ≤ z ↔ a ≤ z ∧ ∀ r f, ab (k0_pay41 (F := Ideal) sdo ws w A dO (ix2 r f)) ≤ z := by
  have key : ∀ P : Prop, (P ↔ ∀ r f, ab (k0_pay41 (F := Ideal) sdo ws w A dO (ix2 r f)) ≤ z) → (k0_pay44 (F := Ideal) a (k0_pay43 (F := Ideal) sdo ws w A dO) ≤ z ↔ a ≤ z ∧ P) := fun P hP => by
      unfold k0_pay43
      revert hP
      generalize k0_pay41 (F := Ideal) sdo ws w A dO = R
      intro hP
      pointwise [k0_pay44]
      rw [max_le_iff, Finset.fold_max_le, ninf]
      rw [hP]
      constructor
      · intro h
        exact ⟨h.1, fun r f => h.2.2 (r, f) (Finset.mem_univ _)⟩
      · intro h
        exact ⟨h.1, bot_le, fun i _ => h.2 i.1 i.2⟩
  exact key _ Iff.rfl

/-- The output cotangents' running maximum, likewise. -/
theorem pay23_le (b : IVec S96x256 1) (y : FVec Ideal S96x768 .f32) (g : FVec Ideal S1x256 .f32) (a z : EReal) :
    k0_pay23 (F := Ideal) b y g a ≤ z ↔ a ≤ z ∧ ∀ r d, ab (k0_pay20 (F := Ideal) b y g (ix2 r d)) ≤ z := by
  have key : ∀ P : Prop, (P ↔ ∀ r d, ab (k0_pay20 (F := Ideal) b y g (ix2 r d)) ≤ z) → (k0_pay23 (F := Ideal) b y g a ≤ z ↔ a ≤ z ∧ P) := fun P hP => by
      unfold k0_pay23
      revert hP
      generalize k0_pay20 (F := Ideal) b y g = R
      intro hP
      pointwise
      rw [max_le_iff, Finset.fold_max_le, ninf]
      rw [hP]
      constructor
      · intro h
        exact ⟨h.1, fun r f => h.2.2 (r, f) (Finset.mem_univ _)⟩
      · intro h
        exact ⟨h.1, bot_le, fun i _ => h.2 i.1 i.2⟩
  exact key _ Iff.rfl

variable (m : (ℓ : Loc nD τ sig) → Buf (Elt Ideal) ℓ) (c : Dev nD)

/-- The running maximum that a point starts from: zero at the first point. -/
theorem base_sc (t : Fin cfg0.N) (x : Vec Ideal S1 .f32) : sc (base (grid0.coords t) x) = if t.val = 0 then (0 : EReal) else sc x := by
  have hN : t.val < 24 := Nat.lt_of_lt_of_eq t.isLt N_0
  unfold base
  by_cases h : t.val = 0
  · rw [if_pos h, if_pos ((hc1 t).2 (by rw [h]))]
    rw [sc_eq]
    exact Ideal.ofBits_zero_f32
  · rw [if_neg h, if_neg fun h' => h (by have := (hc1 t).1 h'; omega)]

/-- A sequence that starts at zero and that every point raises to its own bound is bounded by all of them. -/
theorem run_le (x : ℕ → EReal) (B : Fin cfg0.N → EReal → Prop)
    (hs : ∀ t z, x (t.val + 1) ≤ z ↔ (if t.val = 0 then (0 : EReal) else x t.val) ≤ z ∧ B t z) (n : ℕ) :
    ∀ t : Fin cfg0.N, t.val = n → ∀ z, x (t.val + 1) ≤ z ↔ 0 ≤ z ∧ ∀ t' : Fin cfg0.N, t'.val ≤ n → B t' z := by
  induction n with
  | zero =>
    intro t ht z
    rw [hs, if_pos ht]
    refine and_congr_right fun _ => ⟨fun h t' h' => ?_, fun h => h t (by omega)⟩
    have : t' = t := Fin.ext (by omega)
    rw [this]; exact h
  | succ n ih =>
    intro t ht z
    have hn : n < cfg0.N := by have := t.isLt; omega
    have hr := ih ⟨n, hn⟩ rfl z
    rw [hs, if_neg (by omega), ht]
    rw [show x (n + 1) ≤ z ↔ _ from hr, and_assoc]
    refine and_congr_right fun _ => ⟨fun h t' h' => ?_, fun h => ⟨fun t' h' => h t' (by omega), h t (by omega)⟩⟩
    rcases Nat.lt_or_ge t'.val (n + 1) with h1 | h1
    · exact h.1 t' (by omega)
    · have : t' = t := Fin.ext (by omega)
      rw [this]; exact h.2

/-- After the last point such a sequence is bounded exactly by every point's bound. -/
theorem all_le (x : ℕ → EReal) (B : Fin cfg0.N → EReal → Prop)
    (hs : ∀ t z, x (t.val + 1) ≤ z ↔ (if t.val = 0 then (0 : EReal) else x t.val) ≤ z ∧ B t z) (z : EReal) :
    x 24 ≤ z ↔ 0 ≤ z ∧ ∀ t, B t z := by
  have h := run_le x B hs 23 ⟨23, Nat.lt_of_lt_of_eq (by omega) N_0.symm⟩ rfl z
  refine (show x 24 ≤ z ↔ _ from h).trans (and_congr_right fun _ => ⟨fun h t => h t ?_, fun h t _ => h t⟩)
  have : t.val < 24 := Nat.lt_of_lt_of_eq t.isLt N_0
  omega

/-- Every expert's column is in a point's tile. -/
theorem tile_of (e : Fin 4) (f : Fin 3072) : ∃ (t : Fin cfg0.N) (f' : Fin 512), E t = e ∧ col t f' = f := by
  have hN : 6 * e.val + f.val / 512 < cfg0.N := Nat.lt_of_lt_of_eq (by omega) N_0.symm
  refine ⟨⟨6 * e.val + f.val / 512, hN⟩, ⟨f.val % 512, by omega⟩, Fin.ext ?_, Fin.ext ?_⟩
  · show (6 * e.val + f.val / 512) / 6 = e.val
    omega
  · show 512 * ((6 * e.val + f.val / 512) % 6) + f.val % 512 = f.val
    omega

/-- What bounds the hidden activations' maximum. -/
theorem ah_le (z : EReal) : sc (S m c 24).ah ≤ z ↔ ∀ e r f, ab (R (K m c) e (XR m c e r) f) ≤ z := by
  rw [all_le (fun n => sc (S m c n).ah) (fun t z => ∀ r f, ab (R (K m c) (E t) (XR m c (E t) r) (col t f)) ≤ z)]
  · constructor
    · rintro ⟨-, h⟩ e r f
      obtain ⟨t, f', rfl, rfl⟩ := tile_of e f
      exact h t r f'
    · intro h
      exact ⟨(ab_nonneg _).trans (h 0 0 0), fun t r f => h _ _ _⟩
  · intro t z
    show sc (S m c (t.val + 1)).ah ≤ z ↔ _
    rw [S_succ, step_ah]
    refine (pay38_le _ _ z).trans ?_
    rw [prep_ah, base_sc]
    refine and_congr_right fun _ => forall_congr' fun r => forall_congr' fun f => ?_
    rw [ab_of_nonneg (R_nonneg _ _ _ _), ← tR_at]
    rfl

/-- What bounds the hidden cotangents' maximum. -/
theorem ada_le (z : EReal) : sc (S m c 24).ada ≤ z ↔ ∀ e r f, ab (DH (K m c) e (XR m c e r) (GR m c e r) f) ≤ z := by
  rw [all_le (fun n => sc (S m c n).ada) (fun t z => ∀ r f, ab (DH (K m c) (E t) (XR m c (E t) r) (GR m c (E t) r) (col t f)) ≤ z)]
  · constructor
    · rintro ⟨-, h⟩ e r f
      obtain ⟨t, f', rfl, rfl⟩ := tile_of e f
      exact h t r f'
    · intro h
      exact ⟨(ab_nonneg _).trans (h 0 0 0), fun t r f => h _ _ _⟩
  · intro t z
    show sc (S m c (t.val + 1)).ada ≤ z ↔ _
    rw [S_succ, step_ada]
    refine (pay44_le _ _ _ _ _ _ z).trans ?_
    rw [prep_ada, base_sc]
    refine and_congr_right fun _ => forall_congr' fun r => forall_congr' fun f => ?_
    rw [← tDH_at]
    rfl

/-- What bounds the output cotangents' maximum. -/
theorem ado_le (z : EReal) : sc (S m c 24).ado ≤ z ↔ ∀ e r d, ab (GR m c e r d) ≤ z := by
  rw [all_le (fun n => sc (S m c n).ado) (fun t z => t.val % 6 = 0 → ∀ r d, ab (GR m c (E t) r d) ≤ z)]
  · constructor
    · rintro ⟨-, h⟩ e r d
      have hN : 6 * e.val < cfg0.N := Nat.lt_of_lt_of_eq (by omega) N_0.symm
      have hE : E ⟨6 * e.val, hN⟩ = e := Fin.ext (by show 6 * e.val / 6 = e.val; omega)
      have h1 := h ⟨6 * e.val, hN⟩ (by show 6 * e.val % 6 = 0; omega) r d
      rw [hE] at h1
      exact h1
    · intro h
      exact ⟨(ab_nonneg _).trans (h 0 0 0), fun t _ r d => h _ _ _⟩
  · intro t z
    show sc (S m c (t.val + 1)).ado ≤ z ↔ _
    rw [S_succ, step_ado, prep_ado]
    by_cases h : t.val % 6 = 0
    · rw [if_pos ((hc2 t).2 h)]
      refine (pay23_le _ _ _ _ z).trans ?_
      rw [base_sc]
      refine and_congr_right fun _ => ?_
      rw [I_tok, I_dy, I_gate, wE_eq]
      simp only [h, forall_const]
      refine forall_congr' fun r => forall_congr' fun d => ?_
      rw [pay20_at]
      rfl
    · rw [if_neg fun h' => h ((hc2 t).1 h'), base_sc]
      simp only [h, false_imp_iff, and_true]

end Cert.KernelIdeal.Val

end
-- ==== Proof.Val.KerArr.lean ====
/-
  The kernel's result arrays, from what its points leave.
-/
module

public import proofs.«01_k».proof.Proof.Val.KerRows

@[expose] public section

set_option maxRecDepth 16384

noncomputable section

namespace Cert.KernelIdeal.Val

open Cert.KernelIdeal Cert.KernelIdeal.Gen Cert.KernelIdeal.Hand Cert.Spec
open Idealize.ShloMosaic Idealize.ShloMosaic.TcCoe Idealize.SL.Sem
open Idealize.ShloMosaic.Pipeline (Dat)

variable (m : (ℓ : Loc nD τ sig) → Buf (Elt Ideal) ℓ) (c : Dev nD)

/-- A slot's row among the rows of a tile. -/
abbrev up (r : Fin 80) : Fin 96 := ⟨r.val, by omega⟩

/-- The first weights' gradient, element by element. -/
def G15 : FVec Ideal S4x768x3072 .bf16 := fun i => DW1 (K m c) (i 0) (XR m c (i 0)) (GR m c (i 0)) (i 1) (i 2)
/-- The second weights' gradient, element by element. -/
def G16 : FVec Ideal S4x3072x768 .bf16 := fun i => DW2 (K m c) (i 0) (XR m c (i 0)) (GR m c (i 0)) (i 1) (i 2)
/-- The hidden activations' codes, element by element. -/
def G20 : FVec Ideal S4x80x3072 .fp8e4m3 := fun i => H (K m c) (i 0) (XR m c (i 0) (up (i 1))) (i 2)
/-- The hidden cotangents' codes, element by element. -/
def G24 : FVec Ideal S4x80x3072 .fp8e5m2 := fun i => DA (K m c) (i 0) (XR m c (i 0) (up (i 1))) (GR m c (i 0) (up (i 1))) (i 2)
/-- The output cotangents' codes, element by element. -/
def G22 : FVec Ideal S4x80x768 .fp8e5m2 := fun i => q5 (K m c).sdo (GR m c (i 0) (up (i 1)) (i 2))

/-- The first weights' gradient. -/
theorem arr15 : (dats m 0 c).arrAt 15 cfg0.N = G15 m c := by
  refine (dats m 0 c).arrAt_eq_of_covers 15 _ (by decide +kernel) fun t _ y => ?_
  blk_simp
  rw [after_15]
  have hy : y = ix3 0 (y 1) (y 2) := by blk_ext [idx t]
  have he : (win0_15.blk t).view.emb y = ix3 (E t) (y 1) (col t (y 2)) := by blk_ext [idx t, E, col]
  rw [he]
  exact (congrArg (S m c (t.val + 1)).dw1 hy).trans (dw1_at m c t (y 1) (y 2))

/-- The second weights' gradient. -/
theorem arr16 : (dats m 0 c).arrAt 16 cfg0.N = G16 m c := by
  refine (dats m 0 c).arrAt_eq_of_covers 16 _ (by decide +kernel) fun t _ y => ?_
  blk_simp
  rw [after_16]
  have hy : y = ix3 0 (y 1) (y 2) := by blk_ext [idx t]
  have he : (win0_16.blk t).view.emb y = ix3 (E t) (col t (y 1)) (y 2) := by blk_ext [idx t, E, col]
  rw [he]
  exact (congrArg (S m c (t.val + 1)).dw2 hy).trans (dw2_at m c t (y 1) (y 2))

/-- The hidden activations' codes. -/
theorem arr20 : (dats m 0 c).arrAt 20 cfg0.N = G20 m c := by
  refine (dats m 0 c).arrAt_eq_of_covers 20 _ (by decide +kernel) fun t _ y => ?_
  blk_simp
  rw [after_20]
  have hy : y = ix3 0 (y 1) (y 2) := by blk_ext [idx t]
  have he : (win0_20.blk t).view.emb y = ix3 (E t) (y 1) (col t (y 2)) := by blk_ext [idx t, E, col]
  rw [he]
  exact (congrArg (S m c (t.val + 1)).h hy).trans (h_at m c t (y 1) (y 2))

/-- The hidden cotangents' codes. -/
theorem arr24 : (dats m 0 c).arrAt 24 cfg0.N = G24 m c := by
  refine (dats m 0 c).arrAt_eq_of_covers 24 _ (by decide +kernel) fun t _ y => ?_
  blk_simp
  rw [after_24]
  have hy : y = ix3 0 (y 1) (y 2) := by blk_ext [idx t]
  have he : (win0_24.blk t).view.emb y = ix3 (E t) (y 1) (col t (y 2)) := by blk_ext [idx t, E, col]
  rw [he]
  exact (congrArg (S m c (t.val + 1)).da hy).trans (da_at m c t (y 1) (y 2))

/-- The output cotangents' codes. -/
theorem arr22 : (dats m 0 c).arrAt 22 cfg0.N = G22 m c := by
  refine (dats m 0 c).arrAt_eq_of_covers 22 _ (by decide +kernel) fun t _ y => ?_
  blk_simp
  rw [after_22]
  have hy : y = ix3 0 (y 1) (y 2) := by blk_ext [idx t]
  have he : (win0_22.blk t).view.emb y = ix3 (E t) (y 1) (y 2) := by blk_ext [idx t, E]
  rw [he]
  exact (congrArg (S m c (t.val + 1)).doc hy).trans (doc_after m c t (y 1) (y 2))

/-- The activations' codes. -/
theorem arr18 : (dats m 0 c).arrAt 18 cfg0.N = k0_pay6 (F := Ideal) (K m c).sx (V m c main_arg0) := by
  refine (dats m 0 c).arrAt_eq_of_covers 18 _ (by decide +kernel) fun t _ y => ?_
  blk_simp
  rw [after_18]
  have he : (win0_18.blk t).view.emb y = y := by blk_ext [idx t]
  rw [he, (first_after m c t).1]

/-- The activations' maximum. -/
theorem arr19 : (dats m 0 c).arrAt 19 cfg0.N = fun _ => k0_pay7 (F := Ideal) (V m c main_arg0) := by
  refine (dats m 0 c).arrAt_eq_of_covers 19 _ (by decide +kernel) fun t _ y => ?_
  blk_simp
  rw [after_19, (first_after m c t).2]

/-- The point that writes a maximum back is the last. -/
theorem last_eq (t : Fin cfg0.N) (h : t.val % 24 = 23) : t.val + 1 = 24 := by
  have : t.val < 24 := Nat.lt_of_lt_of_eq t.isLt N_0
  omega

/-- The three running maxima, as the last point leaves them. -/
theorem arr21 : (dats m 0 c).arrAt 21 cfg0.N = fun _ => sc (S m c 24).ah := by
  refine (dats m 0 c).arrAt_eq_of_covers 21 _ (by decide +kernel) fun t hf y => ?_
  blk_simp
  rw [after_21, last_eq t ((flush0_21 t).1 hf)]
  exact congrArg (S m c 24).ah (s1_eq _ _)

/-- The output cotangents' maximum. -/
theorem arr23 : (dats m 0 c).arrAt 23 cfg0.N = fun _ => sc (S m c 24).ado := by
  refine (dats m 0 c).arrAt_eq_of_covers 23 _ (by decide +kernel) fun t hf y => ?_
  blk_simp
  rw [after_23, last_eq t ((flush0_23 t).1 hf)]
  exact congrArg (S m c 24).ado (s1_eq _ _)

/-- The hidden cotangents' maximum. -/
theorem arr25 : (dats m 0 c).arrAt 25 cfg0.N = fun _ => sc (S m c 24).ada := by
  refine (dats m 0 c).arrAt_eq_of_covers 25 _ (by decide +kernel) fun t hf y => ?_
  blk_simp
  rw [after_25, last_eq t ((flush0_25 t).1 hf)]
  exact congrArg (S m c 24).ada (s1_eq _ _)

end Cert.KernelIdeal.Val

end
-- ==== Proof.Val.Mask.lean ====
/-
  The two tables of slots and tokens: what the precondition says of them, and which token the kernel's mask puts in a slot.
-/
module

public import proofs.«01_k».proof.Pre_inverse_tables
public import proofs.«01_k».proof.Proof.Gen.Pre_inverse_tables
public import proofs.«01_k».proof.Proof.Val.KerPay
public import Idealize.ShloMosaic.Lib.Pipeline.ValueKit

@[expose] public section

set_option maxRecDepth 16384

noncomputable section

namespace Cert.KernelIdeal.Val

open Cert.KernelIdeal Cert.KernelIdeal.Gen Cert.Spec
open Idealize.ShloMosaic

attribute [local instance] Cert.Pre_inverse_tables.Gen.facts

/-- A conjunction of bits is set exactly when both are. -/
theorem and_one (a b : BitVec 1) : IntOp.andi a b = 1#1 ↔ a = 1#1 ∧ b = 1#1 := by
  revert a b; decide

/-- The comparison's bit is set exactly when the words are equal. -/
theorem eq_one {w : ℕ} (a b : BitVec w) : IntOp.cmpi .eq a b = 1#1 ↔ a = b := by
  show BitVec.ofBool (a == b) = 1#1 ↔ a = b
  by_cases h : a = b
  · simp [h]
  · rw [beq_eq_false_iff_ne.2 h]
    simp [h]

/-- Of two bits, exactly when both or neither is set. -/
theorem eqv_one (a b : BitVec 1) : IntOp.cmpi .eq a b = 1#1 ↔ (a = 1#1 ↔ b = 1#1) := by
  revert a b; decide

/-- A word that is not negative is below half the range. -/
theorem sge_one (a : BitVec 32) (h : IntOp.cmpi .sge a 0#32 = 1#1) : a.toNat < 2 ^ 31 := by
  have h1 : BitVec.ofBool ((0#32).sle a) = 1#1 := h
  have h2 : (0#32).sle a = true := by
    revert h1; cases (0#32).sle a <;> simp
  rw [BitVec.sle_iff_toInt_le] at h2
  have h3 : (0 : ℤ) ≤ a.toInt := by simpa using h2
  rw [BitVec.toInt_eq_toNat_cond] at h3
  have := a.isLt
  split at h3 <;> omega

/-- The precondition's word at a token and a slot. -/
theorem pre_word (a0 a1 a2 a3 a4 a5 a6 a7 a8 a9 a10 a11 a12) (e : Fin 4) (r : Fin 80) (t : Fin 256) :
    Cert.Pre_inverse_tables.fn (F := Ideal) a0 a1 a2 a3 a4 a5 a6 a7 a8 a9 a10 a11 a12 (ix2 t ⟨80 * e.val + r.val, by omega⟩)
      = IntOp.andi (IntOp.cmpi .eq (IntOp.cmpi .eq (a12 (ix2 t 0)) (BitVec.ofNat 32 (80 * e.val + r.val)))
            (IntOp.cmpi .eq (a11 (ix2 e r)) (BitVec.ofNat 32 t.val))) (IntOp.cmpi .sge (a11 (ix2 e r)) 0#32) := by
  have hs : ∀ h, shapeCast (s := Cert.Pre_inverse_tables.S4x80) Cert.Pre_inverse_tables.S1x320 a11 h (ix2 0 ⟨80 * e.val + r.val, by omega⟩) = a11 (ix2 e r) := by
    intro h
    pointwise
    blk_ext
  pointwise [Cert.Pre_inverse_tables.fn]
  blk_ext

/-- The tables are inverse to each other and the slots' entries are not negative. -/
theorem pre_at (a0 a1 a2 a3 a4 a5 a6 a7 a8 a9 a10 a11 a12)
    (h : Cert.Pre_inverse_tables.fn (F := Ideal) a0 a1 a2 a3 a4 a5 a6 a7 a8 a9 a10 a11 a12 = fun _ => 1#1) (e : Fin 4) (r : Fin 80) (t : Fin 256) :
    (a12 (ix2 t 0) = BitVec.ofNat 32 (80 * e.val + r.val) ↔ a11 (ix2 e r) = BitVec.ofNat 32 t.val) ∧ (a11 (ix2 e r)).toNat < 2 ^ 31 := by
  have h1 := congrFun h (ix2 t ⟨80 * e.val + r.val, by omega⟩)
  rw [pre_word, and_one, eqv_one, eq_one, eq_one] at h1
  exact ⟨h1.1, sge_one _ h1.2⟩

/-- In an expert's slots the mask holds the token whose table entry is the slot's number, -/
theorem mk_lt (tok : IVec S1x256 32) (e : Fin 4) (r : Fin 96) (hr : r.val < 80) (t : Fin 256) :
    mk (BitVec.ofNat 32 e.val) tok r t = 1#1 ↔ tok (ix2 0 t) = BitVec.ofNat 32 (80 * e.val + r.val) := by
  have he := e.isLt
  unfold mk
  rw [and_one, eq_one]
  have h1 : IntOp.cmpi .slt (BitVec.ofNat 32 r.val) 80#32 = 1#1 := by
    show BitVec.ofBool ((BitVec.ofNat 32 r.val).slt 80#32) = 1#1
    rw [(BitVec.slt_iff_toInt_lt).2]
    · rfl
    · rw [BitVec.toInt_eq_toNat_cond, BitVec.toNat_ofNat, if_pos (by omega), show (80#32).toInt = 80 from rfl]
      omega
  have h2 : BitVec.ofNat 32 (80 * e.val + r.val) = BitVec.ofNat 32 r.val + BitVec.ofNat 32 e.val * 80#32 := by
    apply BitVec.eq_of_toNat_eq
    rw [BitVec.toNat_add, BitVec.toNat_mul, BitVec.toNat_ofNat, BitVec.toNat_ofNat, BitVec.toNat_ofNat, BitVec.toNat_ofNat]
    omega
  rw [h2]
  constructor
  · rintro ⟨h, -⟩
    exact BitVec.sub_eq_iff_eq_add.1 h
  · intro h
    exact ⟨BitVec.sub_eq_iff_eq_add.2 h, h1⟩

/-- and past them none. -/
theorem mk_ge (tok : IVec S1x256 32) (w : BitVec 32) (r : Fin 96) (hr : ¬ r.val < 80) (t : Fin 256) : mk w tok r t = 0#1 := by
  unfold mk
  have h1 : IntOp.cmpi .slt (BitVec.ofNat 32 r.val) 80#32 = 0#1 := by
    show BitVec.ofBool ((BitVec.ofNat 32 r.val).slt 80#32) = 0#1
    have h2 : (BitVec.ofNat 32 r.val).slt 80#32 = false := by
      rw [Bool.eq_false_iff]
      intro h
      rw [BitVec.slt_iff_toInt_lt, BitVec.toInt_eq_toNat_cond, BitVec.toNat_ofNat, if_pos (by omega), show (80#32).toInt = 80 from rfl] at h
      omega
    rw [h2]; rfl
  rw [h1]
  generalize IntOp.cmpi .eq _ _ = a
  revert a; decide

/-- A slot's row: the row of the table that its entry names. -/
theorem rowX_lt (tok : IVec S1x256 32) (x : S256x768.Idx → EReal) (s : BitVec 32) (e : Fin 4) (r : Fin 96) (hr : r.val < 80)
    (hs : ∀ t : Fin 256, tok (ix2 0 t) = BitVec.ofNat 32 (80 * e.val + r.val) ↔ s = BitVec.ofNat 32 t.val) :
    rowX (BitVec.ofNat 32 e.val) tok x r = pick (fun t d => x (ix2 t d)) s :=
  funext fun d => onehot_sum (fun t d => x (ix2 t d)) s _ (fun t => (mk_lt tok e r hr t).trans (hs t)) d

/-- A slot's cotangent: the gated row of the table that its entry names. -/
theorem rowG_lt (tok : IVec S1x256 32) (g : S1x256.Idx → EReal) (x : S256x768.Idx → EReal) (s : BitVec 32) (e : Fin 4) (r : Fin 96) (hr : r.val < 80)
    (hs : ∀ t : Fin 256, tok (ix2 0 t) = BitVec.ofNat 32 (80 * e.val + r.val) ↔ s = BitVec.ofNat 32 t.val) :
    rowG (BitVec.ofNat 32 e.val) tok g x r = pick (fun t d => g (ix2 0 t) * x (ix2 t d)) s := by
  funext d
  unfold rowG
  rw [rowX_lt tok x s e r hr hs]
  exact onehot_gate (fun t => g (ix2 0 t)) (fun t d => x (ix2 t d)) s _ (fun t => (mk_lt tok e r hr t).trans (hs t)) d

/-- Past the slots a row is zeros. -/
theorem rowX_ge (tok : IVec S1x256 32) (x : S256x768.Idx → EReal) (w : BitVec 32) (r : Fin 96) (hr : ¬ r.val < 80) : rowX w tok x r = fun _ => 0 :=
  funext fun d => none_sum (fun t d => x (ix2 t d)) _ (mk_ge tok w r hr) d

/-- Past the slots the cotangent is a row of zeros. -/
theorem rowG_ge (tok : IVec S1x256 32) (g : S1x256.Idx → EReal) (x : S256x768.Idx → EReal) (w : BitVec 32) (r : Fin 96) (hr : ¬ r.val < 80) : rowG w tok g x r = fun _ => 0 := by
  funext d
  unfold rowG
  rw [rowX_ge tok x w r hr, mul_zero]

end Cert.KernelIdeal.Val

end
-- ==== Proof.Val.RefPay.lean ====
/-
  What the reference's payloads hold at an index, over the reals.
-/
module

public import proofs.«01_k».proof.Proof.Gen.ReferenceIdeal.Skeleton
public import proofs.«01_k».proof.Proof.Val.Spec

@[expose] public section

set_option maxRecDepth 16384

noncomputable section

namespace Cert.ReferenceIdeal.Val

open Cert.ReferenceIdeal Cert.ReferenceIdeal.Gen Cert.Spec
open Idealize.ShloMosaic

/-- The experts' products, over whole arrays: scales, weights, gathered rows and gathered cotangents. -/
structure Arrs where
  sx : EReal
  sh : EReal
  sdo : EReal
  sda : EReal
  w1 : FVec Ideal S4x768x3072 .fp8e4m3
  w1s : FVec Ideal S4x1x1 .f32
  w2 : FVec Ideal S4x3072x768 .fp8e4m3
  w2s : FVec Ideal S4x1x1 .f32
  xg : FVec Ideal S4x80x768 .f32
  dg : FVec Ideal S4x80x768 .f32

variable (a : Arrs)

/-- Their scales and weights, by coordinates, -/
def Arrs.data : Data where
  sx := a.sx
  sh := a.sh
  sdo := a.sdo
  sda := a.sda
  w1s e := a.w1s (ix3 e 0 0)
  w2s e := a.w2s (ix3 e 0 0)
  w1 e d f := a.w1 (ix3 e d f)
  w2 e f d := a.w2 (ix3 e f d)

/-- an expert's rows -/
def Arrs.X (e : Fin 4) (r : Fin 80) : Row := fun d => a.xg (ix3 e r d)

/-- and their cotangents. -/
def Arrs.DO (e : Fin 4) (r : Fin 80) : Row := fun d => a.dg (ix3 e r d)

/-- The matrix product's starting value. -/
abbrev Z : FVec Ideal S4x80x3072 .f32 := constant S4x80x3072 .f32 0x00000000#32

/-- The pre-activations, -/
def Arrs.pA : FVec Ideal S4x80x3072 .f32 := k0_pay7 a.sx a.w1 (k0_pay1 a.w1s) (k0_pay6 a.sx a.xg) Z
/-- the activations' codes, -/
def Arrs.pH : FVec Ideal S4x80x3072 .fp8e4m3 := k0_pay9 a.sx a.sh a.w1 (k0_pay1 a.w1s) (k0_pay6 a.sx a.xg) Z
/-- their maximum, -/
def Arrs.pAH : EReal := k0_pay10 (F := Ideal) a.sx a.w1 (k0_pay1 a.w1s) (k0_pay6 a.sx a.xg) Z
/-- the cotangents of the pre-activations, -/
def Arrs.pDH : FVec Ideal S4x80x3072 .f32 := k0_pay14 a.sx a.sdo a.w1 (k0_pay1 a.w1s) a.w2 (k0_pay2 a.w2s) (k0_pay6 a.sx a.xg) Z a.dg
/-- those over their scale, -/
def Arrs.pQ : FVec Ideal S4x80x3072 .f32 := k0_pay15 a.sx a.sdo a.sda a.w1 (k0_pay1 a.w1s) a.w2 (k0_pay2 a.w2s) (k0_pay6 a.sx a.xg) Z a.dg
/-- their codes, -/
def Arrs.pDA : FVec Ideal S4x80x3072 .fp8e5m2 := k0_pay17 a.pQ (Scalar.ofBits .f32 0x47600000#32) k0_pay16
/-- the first weights' gradient -/
def Arrs.pDW1 : FVec Ideal S4x768x3072 .bf16 := k0_pay19 a.sx a.sda (k0_pay6 a.sx a.xg) a.pQ (Scalar.ofBits .f32 0x47600000#32) k0_pay16
/-- and the second's. -/
def Arrs.pDW2 : FVec Ideal S4x3072x768 .bf16 := k0_pay20 a.sh a.sdo a.pH (k0_pay12 a.sdo a.dg)

/-- This array at an index, by the formula. -/
theorem pH_at (e : Fin 4) (r : Fin 80) (f : Fin 3072) : a.pH (ix3 e r f) = H a.data e (a.X e r) f := by
  unfold Arrs.pH
  pointwise [k0_pay9, k0_pay8, k0_pay7, k0_pay6, k0_pay1]
  rfl

/-- This array at an index, by the formula. -/
theorem pDH_at (e : Fin 4) (r : Fin 80) (f : Fin 3072) : a.pDH (ix3 e r f) = DH a.data e (a.X e r) (a.DO e r) f := by
  unfold Arrs.pDH
  pointwise [k0_pay14, k0_pay7, k0_pay6, k0_pay1, k0_pay2, k0_pay12, k0_pay11]
  rfl

/-- This array at an index, by the formula. -/
theorem pDA_at (e : Fin 4) (r : Fin 80) (f : Fin 3072) : a.pDA (ix3 e r f) = DA a.data e (a.X e r) (a.DO e r) f := by
  unfold Arrs.pDA Arrs.pQ
  pointwise [k0_pay17, k0_pay16, k0_pay15, k0_pay14, k0_pay7, k0_pay6, k0_pay1, k0_pay2, k0_pay12, k0_pay11]
  rfl

/-- This array at an index, by the formula. -/
theorem pDW1_at (e : Fin 4) (d : Fin 768) (f : Fin 3072) : a.pDW1 (ix3 e d f) = DW1 a.data e (a.X e) (a.DO e) d f := by
  unfold Arrs.pDW1 Arrs.pQ
  pointwise [k0_pay19, k0_pay17, k0_pay16, k0_pay15, k0_pay14, k0_pay7, k0_pay6, k0_pay1, k0_pay2, k0_pay12, k0_pay11]
  rfl

/-- This array at an index, by the formula. -/
theorem pDW2_at (e : Fin 4) (f : Fin 3072) (d : Fin 768) : a.pDW2 (ix3 e f d) = DW2 a.data e (a.X e) (a.DO e) f d := by
  unfold Arrs.pDW2 Arrs.pH
  pointwise [k0_pay20, k0_pay9, k0_pay8, k0_pay7, k0_pay6, k0_pay1, k0_pay12, k0_pay11]
  rfl

/-- This array at an index, by the formula. -/
theorem pDO_at (e : Fin 4) (r : Fin 80) (d : Fin 768) : k0_pay12 (F := Ideal) a.sdo a.dg (ix3 e r d) = q5 a.sdo (a.DO e r d) := by
  pointwise [k0_pay12, k0_pay11]
  rfl

/-- A one-element table has one index. -/
theorem s1_eq (i j : S1.Idx) : i = j := by
  funext k
  obtain rfl : k = 0 := Subsingleton.elim _ _
  have h1 : (i 0).val < 1 := (i 0).isLt
  have h2 : (j 0).val < 1 := (j 0).isLt
  exact Fin.ext (by omega)

/-- The activations' maximum is below a number exactly when every activation is. -/
theorem pAH_le (z : EReal) : a.pAH ≤ z ↔ ∀ e r f, ab (R a.data e (a.X e r) f) ≤ z := by
  have key : ∀ P : Prop, (P ↔ ∀ e r f, ab (R a.data e (a.X e r) f) ≤ z) → (a.pAH ≤ z ↔ P) := fun P hP => by
      unfold Arrs.pAH
      pointwise [k0_pay10, k0_pay8, k0_pay7, k0_pay6, k0_pay1]
      rw [Finset.fold_max_le, ninf]
      rw [hP]
      constructor
      · intro h e r f
        exact h.2 (ix4 0 e r f) (Finset.mem_filter.2 ⟨Finset.mem_univ _, s1_eq _ _⟩)
      · intro h
        exact ⟨bot_le, fun i _ => h (i 1) (i 2) (i 3)⟩
  exact key _ Iff.rfl

/-- The output cotangents' maximum, likewise. -/
theorem pADO_le (z : EReal) : k0_pay13 (F := Ideal) a.dg ≤ z ↔ ∀ e r d, ab (a.DO e r d) ≤ z := by
  have key : ∀ P : Prop, (P ↔ ∀ e r d, ab (a.DO e r d) ≤ z) → (k0_pay13 (F := Ideal) a.dg ≤ z ↔ P) := fun P hP => by
      pointwise [k0_pay13, k0_pay11]
      rw [Finset.fold_max_le, ninf]
      rw [hP]
      constructor
      · intro h e r f
        exact h.2 (ix4 0 e r f) (Finset.mem_filter.2 ⟨Finset.mem_univ _, s1_eq _ _⟩)
      · intro h
        exact ⟨bot_le, fun i _ => h (i 1) (i 2) (i 3)⟩
  exact key _ Iff.rfl

/-- The pre-activation cotangents' maximum, likewise. -/
theorem pADA_le (z : EReal) : k0_pay18 (F := Ideal) a.pDH ≤ z ↔ ∀ e r f, ab (DH a.data e (a.X e r) (a.DO e r) f) ≤ z := by
  have key : ∀ P : Prop, (P ↔ ∀ e r f, ab (DH a.data e (a.X e r) (a.DO e r) f) ≤ z) → (k0_pay18 (F := Ideal) a.pDH ≤ z ↔ P) := fun P hP => by
      simp only [← pDH_at] at hP
      pointwise [k0_pay18]
      rw [Finset.fold_max_le, ninf]
      rw [hP]
      constructor
      · intro h e r f
        exact h.2 (ix4 0 e r f) (Finset.mem_filter.2 ⟨Finset.mem_univ _, s1_eq _ _⟩)
      · intro h
        exact ⟨bot_le, fun i _ => h (i 1) (i 2) (i 3)⟩
  exact key _ Iff.rfl

end Cert.ReferenceIdeal.Val

end
-- ==== Proof.Val.RefOut.lean ====
/-
  The reference's result arrays, as its body computes them.
-/
module

public import proofs.«01_k».proof.Proof.Gen.ReferenceIdeal.Frame
public import proofs.«01_k».proof.Proof.Val.RefPay
public import Idealize.ShloMosaic.Lib.Pipeline.ValueKit
public import Idealize.ShloMosaic.Lib.Pipeline.ReadBack

@[expose] public section

set_option maxRecDepth 16384

noncomputable section

namespace Cert.ReferenceIdeal.Val

open Cert.ReferenceIdeal Cert.ReferenceIdeal.Gen Cert.Spec
open Idealize.ShloMosaic Idealize.ShloMosaic.TcCoe Idealize.SL.Sem
open Idealize.ShloMosaic.Pipeline (Dat)

variable (m : (ℓ : Loc nD τ sig) → Buf (Elt Ideal) ℓ)

/-- What the reference's one call reads. -/
def arrs (c : Dev nD) : Arrs where
  sx := (show FVec Ideal S1 .f32 from V m c main_v8) (ix1 0)
  sh := (show FVec Ideal S1 .f32 from V m c main_v9) (ix1 0)
  sdo := (show FVec Ideal S1 .f32 from V m c main_v10) (ix1 0)
  sda := (show FVec Ideal S1 .f32 from V m c main_v11) (ix1 0)
  w1 := V m c main_arg2
  w1s := V m c main_v6
  w2 := V m c main_arg4
  w2s := V m c main_v7
  xg := V m c main_v2
  dg := V m c main_v5

/-- Every window shows its whole array. -/
theorem idx : ∀ t : Fin cfg0.N, win0_0.index t = ![0, 0] ∧ win0_1.index t = ![0, 0, 0] ∧ win0_2.index t = ![0, 0, 0] ∧ win0_3.index t = ![0, 0, 0]
    ∧ win0_4.index t = ![0, 0, 0] ∧ win0_5.index t = ![0, 0, 0] ∧ win0_6.index t = ![0, 0, 0] ∧ win0_7.index t = ![0] ∧ win0_8.index t = ![0]
    ∧ win0_9.index t = ![0] ∧ win0_10.index t = ![0] ∧ win0_11.index t = ![0, 0, 0] ∧ win0_12.index t = ![0, 0, 0] ∧ win0_13.index t = ![0, 0]
    ∧ win0_14.index t = ![0] ∧ win0_15.index t = ![0, 0, 0] ∧ win0_16.index t = ![0] ∧ win0_17.index t = ![0, 0, 0] ∧ win0_18.index t = ![0]
    ∧ win0_19.index t = ![0, 0, 0] ∧ win0_20.index t = ![0] :=
  (by decide +kernel : ∀ t : Fin grid0.N, _)

/-- What this input window holds. -/
theorem i0 (c : Dev nD) : iblk m c 0 t0_0 = V m c main_v0 := by blk_ext! [iblk, idx t0_0]
/-- What this input window holds. -/
theorem i1 (c : Dev nD) : iblk m c 1 t0_0 = V m c main_v2 := by blk_ext! [iblk, idx t0_0]
/-- What this input window holds. -/
theorem i2 (c : Dev nD) : iblk m c 2 t0_0 = V m c main_v5 := by blk_ext! [iblk, idx t0_0]
/-- What this input window holds. -/
theorem i3 (c : Dev nD) : iblk m c 3 t0_0 = V m c main_arg2 := by blk_ext! [iblk, idx t0_0]
/-- What this input window holds. -/
theorem i4 (c : Dev nD) : iblk m c 4 t0_0 = V m c main_v6 := by blk_ext! [iblk, idx t0_0]
/-- What this input window holds. -/
theorem i5 (c : Dev nD) : iblk m c 5 t0_0 = V m c main_arg4 := by blk_ext! [iblk, idx t0_0]
/-- What this input window holds. -/
theorem i6 (c : Dev nD) : iblk m c 6 t0_0 = V m c main_v7 := by blk_ext! [iblk, idx t0_0]
/-- What this input window holds. -/
theorem i7 (c : Dev nD) : iblk m c 7 t0_0 = V m c main_v8 := by blk_ext! [iblk, idx t0_0]
/-- What this input window holds. -/
theorem i8 (c : Dev nD) : iblk m c 8 t0_0 = V m c main_v9 := by blk_ext! [iblk, idx t0_0]
/-- What this input window holds. -/
theorem i9 (c : Dev nD) : iblk m c 9 t0_0 = V m c main_v10 := by blk_ext! [iblk, idx t0_0]
/-- What this input window holds. -/
theorem i10 (c : Dev nD) : iblk m c 10 t0_0 = V m c main_v11 := by blk_ext! [iblk, idx t0_0]

/-- The first index of a one-element table. -/
theorem first1 (h) : Shape.Idx.first (s := S1) h = ix1 0 := s1_eq _ _

set_option maxHeartbeats 1600000 in
/-- The second weights' gradient. -/
theorem arr12 (c : Dev nD) : (dats m 0 c).arrAt 12 cfg0.N = ((arrs m c).pDW2) := by
  refine (dats m 0 c).arrAt_eq_of_after_last 12 t0_0 (by decide +kernel) _ fun j => ?_
  blk_simp
  rw [after0_12]
  frame_out
  simp only [read_unread_whole, i0, i1, i2, i3, i4, i5, i6, i7, i8, i9, i10, first1]
  rfl

/-- The activations' codes. -/
theorem arr13 (c : Dev nD) : (dats m 0 c).arrAt 13 cfg0.N = (k0_pay4 (V m c main_v8 (ix1 0)) (V m c main_v0)) := by
  refine (dats m 0 c).arrAt_eq_of_after_last 13 t0_0 (by decide +kernel) _ fun j => ?_
  blk_simp
  rw [after0_13]
  frame_out
  simp only [read_unread_whole, i0, i1, i2, i3, i4, i5, i6, i7, i8, i9, i10, first1]

/-- The activations' maximum. -/
theorem arr14 (c : Dev nD) : (dats m 0 c).arrAt 14 cfg0.N = (fun _ => k0_pay5 (V m c main_v0)) := by
  refine (dats m 0 c).arrAt_eq_of_after_last 14 t0_0 (by decide +kernel) _ fun j => ?_
  blk_simp
  rw [after0_14]
  frame_out
  simp only [read_unread_whole, i0, i1, i2, i3, i4, i5, i6, i7, i8, i9, i10, first1]

set_option maxHeartbeats 1600000 in
/-- The hidden activations' codes. -/
theorem arr15 (c : Dev nD) : (dats m 0 c).arrAt 15 cfg0.N = ((arrs m c).pH) := by
  refine (dats m 0 c).arrAt_eq_of_after_last 15 t0_0 (by decide +kernel) _ fun j => ?_
  blk_simp
  rw [after0_15]
  frame_out
  simp only [read_unread_whole, i0, i1, i2, i3, i4, i5, i6, i7, i8, i9, i10, first1]
  rfl

set_option maxHeartbeats 1600000 in
/-- Their maximum. -/
theorem arr16 (c : Dev nD) : (dats m 0 c).arrAt 16 cfg0.N = (fun _ => (arrs m c).pAH) := by
  refine (dats m 0 c).arrAt_eq_of_after_last 16 t0_0 (by decide +kernel) _ fun j => ?_
  blk_simp
  rw [after0_16]
  frame_out
  simp only [read_unread_whole, i0, i1, i2, i3, i4, i5, i6, i7, i8, i9, i10, first1]
  rfl

/-- The output cotangents' codes. -/
theorem arr17 (c : Dev nD) : (dats m 0 c).arrAt 17 cfg0.N = (k0_pay12 (V m c main_v10 (ix1 0)) (V m c main_v5)) := by
  refine (dats m 0 c).arrAt_eq_of_after_last 17 t0_0 (by decide +kernel) _ fun j => ?_
  blk_simp
  rw [after0_17]
  frame_out
  simp only [read_unread_whole, i0, i1, i2, i3, i4, i5, i6, i7, i8, i9, i10, first1]

/-- Their maximum. -/
theorem arr18 (c : Dev nD) : (dats m 0 c).arrAt 18 cfg0.N = (fun _ => k0_pay13 (V m c main_v5)) := by
  refine (dats m 0 c).arrAt_eq_of_after_last 18 t0_0 (by decide +kernel) _ fun j => ?_
  blk_simp
  rw [after0_18]
  frame_out
  simp only [read_unread_whole, i0, i1, i2, i3, i4, i5, i6, i7, i8, i9, i10, first1]

set_option maxHeartbeats 1600000 in
/-- The hidden cotangents' codes. -/
theorem arr19 (c : Dev nD) : (dats m 0 c).arrAt 19 cfg0.N = ((arrs m c).pDA) := by
  refine (dats m 0 c).arrAt_eq_of_after_last 19 t0_0 (by decide +kernel) _ fun j => ?_
  blk_simp
  rw [after0_19]
  frame_out
  simp only [read_unread_whole, i0, i1, i2, i3, i4, i5, i6, i7, i8, i9, i10, first1]
  rfl

set_option maxHeartbeats 1600000 in
/-- Their maximum. -/
theorem arr20 (c : Dev nD) : (dats m 0 c).arrAt 20 cfg0.N = (fun _ => k0_pay18 (arrs m c).pDH) := by
  refine (dats m 0 c).arrAt_eq_of_after_last 20 t0_0 (by decide +kernel) _ fun j => ?_
  blk_simp
  rw [after0_20]
  frame_out
  simp only [read_unread_whole, i0, i1, i2, i3, i4, i5, i6, i7, i8, i9, i10, first1]
  rfl

end Cert.ReferenceIdeal.Val

end
-- ==== Proof.Val.RefIn.lean ====
/-
  What the reference's two gathers hold: row r of expert e is the row of its table that the slot's word names, or zeros if the word names none. The word must not be negative, since
  the gather would count a negative one from the end.
-/
module

public import proofs.«01_k».proof.Proof.Gen.ReferenceIdeal.Frame
public import proofs.«01_k».proof.Proof.Val.Spec
public import Idealize.ShloMosaic.Lib.Pipeline.ValueKit
public import Idealize.ShloMosaic.Lib.ReduceAll
public import Idealize.ShloMosaic.Lib.StableHlo.RunRead
public import Idealize.ShloMosaic.Lib.Pointwise
public import Idealize.ShloMosaic.Lib.ValueIdxCore

@[expose] public section

noncomputable section

namespace Cert.ReferenceIdeal.Val
open Idealize.ShloMosaic Idealize.SL Gen Pipeline Facts StableHlo Cert.Spec

attribute [local instance] Cert.ReferenceIdeal.Gen.facts

/-- The gather at an index: the row that the start index names, read as a signed number and clamped. -/
theorem gather_at (x : S256x768.Idx → EReal) (i : IVec S4x80x1 32) (e : Fin 4) (r : Fin 80) (d : Fin 768) (k : Fin 256)
    (hk : min (i (ix3 e r 0)).toInt.toNat 255 = k.val) : Host.gather gather_S256x768_S4x80x1_S4x80x768_2_0_n_n_0_2_1768 x i (ix3 e r d) = x (ix2 k d) := by
  unfold Host.gather
  refine congrArg x (funext fun a => Fin.ext ?_)
  match a with
  | ⟨0, _⟩ =>
    show gather_S256x768_S4x80x1_S4x80x768_2_0_n_n_0_2_1768.start (ix3 e r d) i 0 + gather_S256x768_S4x80x1_S4x80x768_2_0_n_n_0_2_1768.batchCoord (ix3 e r d) 0
      + gather_S256x768_S4x80x1_S4x80x768_2_0_n_n_0_2_1768.offCoord (ix3 e r d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S256x768_S4x80x1_S4x80x768_2_0_n_n_0_2_1768.startIndexMap from List.mem_singleton.mpr rfl)]
    have hsi : gather_S256x768_S4x80x1_S4x80x768_2_0_n_n_0_2_1768.siIdx (ix3 e r d) ⟨List.idxOf (0 : Fin 2) gather_S256x768_S4x80x1_S4x80x768_2_0_n_n_0_2_1768.startIndexMap,
        List.idxOf_lt_length_iff.2 (List.mem_singleton.mpr rfl)⟩ = ix3 e r 0 := by
      funext b; refine Fin.ext ?_
      match b with
      | ⟨0, _⟩ => rfl
      | ⟨1, _⟩ => rfl
      | ⟨2, _⟩ => rfl
    rw [hsi]
    exact hk
  | ⟨1, _⟩ =>
    show gather_S256x768_S4x80x1_S4x80x768_2_0_n_n_0_2_1768.start (ix3 e r d) i 1 + gather_S256x768_S4x80x1_S4x80x768_2_0_n_n_0_2_1768.batchCoord (ix3 e r d) 1
      + gather_S256x768_S4x80x1_S4x80x768_2_0_n_n_0_2_1768.offCoord (ix3 e r d) 1 = d.val
    rw [GatherDims.batchCoord_eq_zero _ _ _ List.not_mem_nil, Nat.add_zero]
    have hk : (1 : Fin 2) ∈ gather_S256x768_S4x80x1_S4x80x768_2_0_n_n_0_2_1768.sKept :=
      (GatherDims.mem_sKept _ _).2 ⟨fun h => absurd (List.mem_singleton.1 h) (by decide), List.not_mem_nil⟩
    have hm : (1 : Fin 2) ∉ gather_S256x768_S4x80x1_S4x80x768_2_0_n_n_0_2_1768.startIndexMap := fun h => absurd (List.mem_singleton.1 h) (by decide)
    unfold GatherDims.start GatherDims.offCoord
    rw [dif_neg hm, dif_pos hk, Nat.zero_add]
    rfl

/-- The start indices: the slots' words, a negative one counted from the end. -/
def start (s : IVec S4x80 32) : IVec S4x80x1 32 :=
  broadcastInDim S4x80x1 ![0, 1] bcast_S4x80_S4x80x1_0_1
    (select (cmpi .slt s (broadcastInDim S4x80 ![] bcast_S_S4x80 (constantI S_ 32 0#32))) (addi s (broadcastInDim S4x80 ![] bcast_S_S4x80 (constantI S_ 32 256#32))) s)

/-- Whether a start index lies within the table. -/
def inside (s : IVec S4x80 32) : IVec S4x80x1 1 :=
  andi (cmpi .sge (start s) (broadcastInDim S4x80x1 ![] bcast_S_S4x80x1 (constantI S_ 32 0#32)))
    (cmpi .sle (start s) (broadcastInDim S4x80x1 ![0, 1, 2] bcast_S1x1x1_S4x80x1_0_1_2 (broadcastInDim S1x1x1 ![2] bcast_S1_S1x1x1_2 (constantI S1 32 255#32))))

/-- The gather with zeros where the start index lies outside. -/
def taken (x : S256x768.Idx → EReal) (s : IVec S4x80 32) : S4x80x768.Idx → EReal :=
  select (broadcastInDim S4x80x768 ![0, 1] bcast_S4x80_S4x80x768_0_1 (Host.reduce IntOp.andi (inside s) (constantI S_ 1 1#1) reducesTo_S4x80x1_S4x80_d2 h_S_))
    (Host.gather gather_S256x768_S4x80x1_S4x80x768_2_0_n_n_0_2_1768 x (start s))
    (broadcastInDim S4x80x768 ![] bcast_S_S4x80x768 (constant (F := Ideal) S_ .f32 0x00000000#32))

/-- This step of the gather, at an index. -/
theorem start_at (s : IVec S4x80 32) (e : Fin 4) (r : Fin 80) (z : Fin 1) (h : (s (ix2 e r)).toNat < 2 ^ 31) : start s (ix3 e r z) = s (ix2 e r) := by
  have : start s (ix3 e r z) = Scalar.select (IntOp.cmpi .slt (s (ix2 e r)) 0#32) (IntOp.addi (s (ix2 e r)) 256#32) (s (ix2 e r)) := by
    pointwise [start]
  rw [this]
  have h0 : ¬ IntOp.cmpi .slt (s (ix2 e r)) 0#32 = 1#1 := fun h' => by
    have := IntOp.cmpi_slt.1 h'
    rw [BitVec.toInt_eq_toNat_of_lt (by omega), show (0#32).toInt = 0 from rfl] at this
    omega
  have h1 : IntOp.cmpi .slt (s (ix2 e r)) 0#32 = 0#1 := by
    revert h0; generalize IntOp.cmpi .slt (s (ix2 e r)) 0#32 = u; revert u; decide
  rw [h1]; rfl

/-- This step of the gather, at an index. -/
theorem inside_at (s : IVec S4x80 32) (e : Fin 4) (r : Fin 80) (z : Fin 1) (h : (s (ix2 e r)).toNat < 2 ^ 31) :
    inside s (ix3 e r z) = 1#1 ↔ (s (ix2 e r)).toNat < 256 := by
  have : inside s (ix3 e r z) = IntOp.andi (IntOp.cmpi .sge (start s (ix3 e r z)) 0#32) (IntOp.cmpi .sle (start s (ix3 e r z)) 255#32) := by
    pointwise [inside]
  rw [this, start_at s e r z h, IntOp.andi_eq_one, IntOp.cmpi_sge, IntOp.cmpi_sle, BitVec.toInt_eq_toNat_of_lt (x := s (ix2 e r)) (by omega),
    show (0#32).toInt = 0 from rfl, show (255#32).toInt = 255 from rfl]
  omega

/-- This step of the gather, at an index. -/
theorem taken_at (x : S256x768.Idx → EReal) (s : IVec S4x80 32) (e : Fin 4) (r : Fin 80) (d : Fin 768) (h : (s (ix2 e r)).toNat < 2 ^ 31) :
    taken x s (ix3 e r d) = pick (fun t d => x (ix2 t d)) (s (ix2 e r)) d := by
  have e1 : taken x s (ix3 e r d) = Scalar.select (Host.reduce IntOp.andi (inside s) (constantI S_ 1 1#1) reducesTo_S4x80x1_S4x80_d2 h_S_ (ix2 e r))
      (Host.gather gather_S256x768_S4x80x1_S4x80x768_2_0_n_n_0_2_1768 x (start s) (ix3 e r d)) (Ideal.ofBits .f32 0#32) := by
    have hb : ∀ y : IVec S4x80 1, broadcastInDim S4x80x768 ![0, 1] bcast_S4x80_S4x80x768_0_1 y (ix3 e r d) = y (ix2 e r) := fun y => by pointwise
    unfold taken
    show Scalar.select _ _ _ = _
    rw [hb]
    rfl
  rw [e1]
  unfold pick
  by_cases hs : (s (ix2 e r)).toNat < 256
  · rw [dif_pos hs]
    have hr : Host.reduce IntOp.andi (inside s) (constantI S_ 1 1#1) reducesTo_S4x80x1_S4x80_d2 h_S_ (ix2 e r) = 1#1 := by
      rw [Host.reduce_eq_foldl]
      refine IntOp.foldl_andi_one _ _ _ rfl fun n hn => ?_
      have hd : reducesTo_S4x80x1_S4x80_d2.drop n = ix2 e r := of_decide_eq_true (List.mem_filter.1 hn).2
      obtain ⟨e', r', z, rfl⟩ : ∃ e' r' z, n = ix3 e' r' z := ⟨n 0, n 1, n 2, by funext a; match a with | ⟨0, _⟩ => rfl | ⟨1, _⟩ => rfl | ⟨2, _⟩ => rfl⟩
      have h0 : e' = e := congrFun hd 0
      have h1 : r' = r := congrFun hd 1
      subst h0; subst h1
      exact (inside_at s e' r' z h).2 hs
    rw [hr]
    refine gather_at x _ e r d ⟨_, hs⟩ ?_
    rw [start_at s e r 0 h, BitVec.toInt_eq_toNat_of_lt (by omega)]
    show min (((s (ix2 e r)).toNat : Int)).toNat 255 = (s (ix2 e r)).toNat
    omega
  · rw [dif_neg hs]
    have hr : ¬ Host.reduce IntOp.andi (inside s) (constantI S_ 1 1#1) reducesTo_S4x80x1_S4x80_d2 h_S_ (ix2 e r) = 1#1 := fun h' =>
      hs ((inside_at s e r 0 h).1 (Host.reduce_andi_eq_one _ _ _ _ _ h' (ix3 e r 0) (by funext a; match a with | ⟨0, _⟩ => rfl | ⟨1, _⟩ => rfl)))
    have hr' : Host.reduce IntOp.andi (inside s) (constantI S_ 1 1#1) reducesTo_S4x80x1_S4x80_d2 h_S_ (ix2 e r) = 0#1 := by
      revert hr; generalize Host.reduce IntOp.andi (inside s) (constantI S_ 1 1#1) reducesTo_S4x80x1_S4x80_d2 h_S_ (ix2 e r) = u; revert u; decide
    rw [hr']
    exact Ideal.ofBits_zero_f32

end Cert.ReferenceIdeal.Val

end
-- ==== Proof.Val.RefVal.lean ====
/-
  What the reference's two gathers hold: row r of expert e is the row of its table that the slot's word names, or zeros if the word names none. The word must not be negative, since
  the gather would count a negative one from the end.
-/
module

public import proofs.«01_k».proof.Proof.Gen.ReferenceIdeal.Frame
public import proofs.«01_k».proof.Proof.Val.RefIn
public import Idealize.ShloMosaic.Lib.Pipeline.ValueKit
public import Idealize.ShloMosaic.Lib.ReduceAll
public import Idealize.ShloMosaic.Lib.StableHlo.RunRead
public import Idealize.ShloMosaic.Lib.Pointwise
public import Idealize.ShloMosaic.Lib.ValueIdxCore

@[expose] public section

noncomputable section

namespace Cert.ReferenceIdeal.Val
open Idealize.ShloMosaic Idealize.ShloMosaic.TcCoe Idealize.SL Gen Pipeline Facts StableHlo Cert.Spec

attribute [local instance] Cert.ReferenceIdeal.Gen.facts

variable (m : (ℓ : Loc nD τ sig) → Buf (Elt Ideal) ℓ)

/-- The first gather is of the activations. -/
theorem V_v2 (c : Dev nD) : V m c main_v2 = taken (m ((c : Thread nD τ).loc main_arg0)) (m ((c : Thread nD τ).loc main_arg11)) := by
  simp only [V, hostOps0, hostOps0_1, hostOps0_2, hostOps0_3, hostOps0_4, List.flatten_cons, List.flatten_nil, List.append_nil, List.cons_append, List.nil_append]
  after_reads_simp
  simp -implicitDefEqProofs only [StableHlo.TRef.toBuf, StableHlo.TRef.ofBuf, cast_cast, cast_eq]
  unfold taken inside start
  rfl

/-- The second gather is of the output gradients times the gates. -/
theorem V_v5 (c : Dev nD) : V m c main_v5 = taken (mulf (F := Ideal) (φ := .f32) (broadcastInDim S256x768 ![0, 1] bcast_S256x1_S256x768_0_1 (m ((c : Thread nD τ).loc main_arg10)))
    (extf .f32 (m ((c : Thread nD τ).loc main_arg1)) bitsLt_bf16_f32)) (m ((c : Thread nD τ).loc main_arg11)) := by
  simp only [V, hostOps0, hostOps0_1, hostOps0_2, hostOps0_3, hostOps0_4, List.flatten_cons, List.flatten_nil, List.append_nil, List.cons_append, List.nil_append]
  after_reads_simp
  simp -implicitDefEqProofs only [StableHlo.TRef.toBuf, StableHlo.TRef.ofBuf, cast_cast, cast_eq]
  unfold taken inside start
  rfl

/-- The array that the first entry reads is the activations. -/
theorem V_v0 (c : Dev nD) : V m c main_v0 = m ((c : Thread nD τ).loc main_arg0) := by
  simp only [V, hostOps0, hostOps0_1, hostOps0_2, hostOps0_3, hostOps0_4, List.flatten_cons, List.flatten_nil, List.append_nil, List.cons_append, List.nil_append]
  after_reads_simp
  rfl

/-- An array that the reference's host code prepares, from the arguments. -/
theorem V_v6 (c : Dev nD) (e : Fin 4) : V m c main_v6 (ix3 e 0 0) = m ((c : Thread nD τ).loc main_arg3) (ix1 e) := by
  simp only [V, hostOps0, hostOps0_1, hostOps0_2, hostOps0_3, hostOps0_4, List.flatten_cons, List.flatten_nil, List.append_nil, List.cons_append, List.nil_append]
  after_reads_simp
  pointwise

/-- An array that the reference's host code prepares, from the arguments. -/
theorem V_v7 (c : Dev nD) (e : Fin 4) : V m c main_v7 (ix3 e 0 0) = m ((c : Thread nD τ).loc main_arg5) (ix1 e) := by
  simp only [V, hostOps0, hostOps0_1, hostOps0_2, hostOps0_3, hostOps0_4, List.flatten_cons, List.flatten_nil, List.append_nil, List.cons_append, List.nil_append]
  after_reads_simp
  pointwise

/-- A table without axes has one index. -/
theorem ix0_eq (x y : S_.Idx) : x = y := funext fun a => a.elim0

/-- An array that the reference's host code prepares, from the arguments. -/
theorem V_v8 (c : Dev nD) : V m c main_v8 (ix1 0) = m ((c : Thread nD τ).loc main_arg6) (fun a => a.elim0) := by
  simp only [V, hostOps0, hostOps0_1, hostOps0_2, hostOps0_3, hostOps0_4, List.flatten_cons, List.flatten_nil, List.append_nil, List.cons_append, List.nil_append]
  after_reads_simp
  exact congrArg (m ((c : Thread nD τ).loc main_arg6)) (ix0_eq _ _)

/-- An array that the reference's host code prepares, from the arguments. -/
theorem V_v9 (c : Dev nD) : V m c main_v9 (ix1 0) = m ((c : Thread nD τ).loc main_arg7) (fun a => a.elim0) := by
  simp only [V, hostOps0, hostOps0_1, hostOps0_2, hostOps0_3, hostOps0_4, List.flatten_cons, List.flatten_nil, List.append_nil, List.cons_append, List.nil_append]
  after_reads_simp
  exact congrArg (m ((c : Thread nD τ).loc main_arg7)) (ix0_eq _ _)

/-- An array that the reference's host code prepares, from the arguments. -/
theorem V_v10 (c : Dev nD) : V m c main_v10 (ix1 0) = m ((c : Thread nD τ).loc main_arg8) (fun a => a.elim0) := by
  simp only [V, hostOps0, hostOps0_1, hostOps0_2, hostOps0_3, hostOps0_4, List.flatten_cons, List.flatten_nil, List.append_nil, List.cons_append, List.nil_append]
  after_reads_simp
  exact congrArg (m ((c : Thread nD τ).loc main_arg8)) (ix0_eq _ _)

/-- An array that the reference's host code prepares, from the arguments. -/
theorem V_v11 (c : Dev nD) : V m c main_v11 (ix1 0) = m ((c : Thread nD τ).loc main_arg9) (fun a => a.elim0) := by
  simp only [V, hostOps0, hostOps0_1, hostOps0_2, hostOps0_3, hostOps0_4, List.flatten_cons, List.flatten_nil, List.append_nil, List.cons_append, List.nil_append]
  after_reads_simp
  exact congrArg (m ((c : Thread nD τ).loc main_arg9)) (ix0_eq _ _)

/-- Row r of expert e of the first gather. -/
theorem v2_at (c : Dev nD) (e : Fin 4) (r : Fin 80) (d : Fin 768) (h : (m ((c : Thread nD τ).loc main_arg11) (ix2 e r)).toNat < 2 ^ 31) :
    V m c main_v2 (ix3 e r d) = pick (fun t d => m ((c : Thread nD τ).loc main_arg0) (ix2 t d)) (m ((c : Thread nD τ).loc main_arg11) (ix2 e r)) d := by
  rw [V_v2]; exact taken_at _ _ e r d h

/-- Row r of expert e of the second gather. -/
theorem v5_at (c : Dev nD) (e : Fin 4) (r : Fin 80) (d : Fin 768) (h : (m ((c : Thread nD τ).loc main_arg11) (ix2 e r)).toNat < 2 ^ 31) :
    V m c main_v5 (ix3 e r d) = pick (fun t d => (show EReal from m ((c : Thread nD τ).loc main_arg10) (ix2 t 0)) * (show EReal from m ((c : Thread nD τ).loc main_arg1) (ix2 t d))) (m ((c : Thread nD τ).loc main_arg11) (ix2 e r)) d := by
  rw [V_v5, taken_at _ _ e r d h]
  refine congrArg (fun x => pick x _ d) (funext fun t => funext fun d => ?_)
  pointwise

end Cert.ReferenceIdeal.Val

end
-- ==== Proof.Val.Bridge.lean ====
/-
  The kernel's results and the reference's are the same, when the two tables are inverse to each other.
-/
module

public import proofs.«01_k».proof.Proof.Val.KerMax
public import proofs.«01_k».proof.Proof.Val.KerArr
public import proofs.«01_k».proof.Proof.Val.Mask
public import proofs.«01_k».proof.Proof.Val.RefOut
public import proofs.«01_k».proof.Proof.Val.RefVal

@[expose] public section

set_option maxRecDepth 16384

noncomputable section

namespace Cert.Bridge

open Idealize.ShloMosaic Idealize.SL.Sem Cert.Spec
open Cert.KernelIdeal.Val (K XR GR up)
open Cert.ReferenceIdeal.Val (arrs Arrs.data Arrs.X Arrs.DO)

attribute [local instance] Cert.Pre_inverse_tables.Gen.facts

/-- What the reference's payloads of the activations hold. -/
theorem rpay4_at (sx : EReal) (x : FVec Ideal Cert.ReferenceIdeal.S256x768 .f32) (t : Fin 256) (d : Fin 768) :
    Cert.ReferenceIdeal.Gen.k0_pay4 (F := Ideal) sx x (ix2 t d) = q4 sx (x (ix2 t d)) := by
  pointwise [Cert.ReferenceIdeal.Gen.k0_pay4, Cert.ReferenceIdeal.Gen.k0_pay3]
  rfl

/-- The reference's maximum of the activations is below a number exactly when every activation's size is. -/
theorem rpay5_le (x : FVec Ideal Cert.ReferenceIdeal.S256x768 .f32) (z : EReal) : Cert.ReferenceIdeal.Gen.k0_pay5 (F := Ideal) x ≤ z ↔ ∀ t d, ab (x (ix2 t d)) ≤ z := by
  have key : ∀ P : Prop, (P ↔ ∀ t d, ab (x (ix2 t d)) ≤ z) → (Cert.ReferenceIdeal.Gen.k0_pay5 (F := Ideal) x ≤ z ↔ P) := fun P hP => by
      pointwise [Cert.ReferenceIdeal.Gen.k0_pay5, Cert.ReferenceIdeal.Gen.k0_pay3]
      rw [Finset.fold_max_le, ninf]
      rw [hP]
      constructor
      · intro h t d
        exact h.2 (t, d) (Finset.mem_univ _)
      · intro h
        exact ⟨bot_le, fun i _ => h i.1 i.2⟩
  exact key _ Iff.rfl

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- The two programs start from the same arguments. -/
def Same : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
    ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
    ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
    ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
    ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
    ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
    ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
    ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
    ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
    ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
    ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
    ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
    ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)

/-- The arguments meet the precondition. -/
def Inv : Prop := Cert.Pre_inverse_tables.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) = fun _ => 1#1

variable (h : Same m m' c) (hp : Inv m c)

include h

/-- Argument by argument, as arrays. -/
theorem a0 : (show FVec Ideal Cert.KernelIdeal.S256x768 .bf16 from (m' ((c.tc : Thread Cert.ReferenceIdeal.nD Cert.ReferenceIdeal.τ).loc Cert.ReferenceIdeal.main_arg0))) = (m ((c.tc : Thread Cert.KernelIdeal.nD Cert.KernelIdeal.τ).loc Cert.KernelIdeal.main_arg0)) := h.1
/-- Argument 1 is the same array. -/
theorem a1 : (show FVec Ideal Cert.KernelIdeal.S256x768 .bf16 from (m' ((c.tc : Thread Cert.ReferenceIdeal.nD Cert.ReferenceIdeal.τ).loc Cert.ReferenceIdeal.main_arg1))) = (m ((c.tc : Thread Cert.KernelIdeal.nD Cert.KernelIdeal.τ).loc Cert.KernelIdeal.main_arg1)) := h.2.1
/-- Argument 2 is the same array. -/
theorem a2 : (show FVec Ideal Cert.KernelIdeal.S4x768x3072 .fp8e4m3 from (m' ((c.tc : Thread Cert.ReferenceIdeal.nD Cert.ReferenceIdeal.τ).loc Cert.ReferenceIdeal.main_arg2))) = (m ((c.tc : Thread Cert.KernelIdeal.nD Cert.KernelIdeal.τ).loc Cert.KernelIdeal.main_arg2)) := h.2.2.1
/-- Argument 3 is the same array. -/
theorem a3 : (show FVec Ideal Cert.KernelIdeal.S4 .f32 from (m' ((c.tc : Thread Cert.ReferenceIdeal.nD Cert.ReferenceIdeal.τ).loc Cert.ReferenceIdeal.main_arg3))) = (m ((c.tc : Thread Cert.KernelIdeal.nD Cert.KernelIdeal.τ).loc Cert.KernelIdeal.main_arg3)) := h.2.2.2.1
/-- Argument 4 is the same array. -/
theorem a4 : (show FVec Ideal Cert.KernelIdeal.S4x3072x768 .fp8e4m3 from (m' ((c.tc : Thread Cert.ReferenceIdeal.nD Cert.ReferenceIdeal.τ).loc Cert.ReferenceIdeal.main_arg4))) = (m ((c.tc : Thread Cert.KernelIdeal.nD Cert.KernelIdeal.τ).loc Cert.KernelIdeal.main_arg4)) := h.2.2.2.2.1
/-- Argument 5 is the same array. -/
theorem a5 : (show FVec Ideal Cert.KernelIdeal.S4 .f32 from (m' ((c.tc : Thread Cert.ReferenceIdeal.nD Cert.ReferenceIdeal.τ).loc Cert.ReferenceIdeal.main_arg5))) = (m ((c.tc : Thread Cert.KernelIdeal.nD Cert.KernelIdeal.τ).loc Cert.KernelIdeal.main_arg5)) := h.2.2.2.2.2.1
/-- Argument 6 is the same array. -/
theorem a6 : (show FVec Ideal Cert.KernelIdeal.S_ .f32 from (m' ((c.tc : Thread Cert.ReferenceIdeal.nD Cert.ReferenceIdeal.τ).loc Cert.ReferenceIdeal.main_arg6))) = (m ((c.tc : Thread Cert.KernelIdeal.nD Cert.KernelIdeal.τ).loc Cert.KernelIdeal.main_arg6)) := h.2.2.2.2.2.2.1
/-- Argument 7 is the same array. -/
theorem a7 : (show FVec Ideal Cert.KernelIdeal.S_ .f32 from (m' ((c.tc : Thread Cert.ReferenceIdeal.nD Cert.ReferenceIdeal.τ).loc Cert.ReferenceIdeal.main_arg7))) = (m ((c.tc : Thread Cert.KernelIdeal.nD Cert.KernelIdeal.τ).loc Cert.KernelIdeal.main_arg7)) := h.2.2.2.2.2.2.2.1
/-- Argument 8 is the same array. -/
theorem a8 : (show FVec Ideal Cert.KernelIdeal.S_ .f32 from (m' ((c.tc : Thread Cert.ReferenceIdeal.nD Cert.ReferenceIdeal.τ).loc Cert.ReferenceIdeal.main_arg8))) = (m ((c.tc : Thread Cert.KernelIdeal.nD Cert.KernelIdeal.τ).loc Cert.KernelIdeal.main_arg8)) := h.2.2.2.2.2.2.2.2.1
/-- Argument 9 is the same array. -/
theorem a9 : (show FVec Ideal Cert.KernelIdeal.S_ .f32 from (m' ((c.tc : Thread Cert.ReferenceIdeal.nD Cert.ReferenceIdeal.τ).loc Cert.ReferenceIdeal.main_arg9))) = (m ((c.tc : Thread Cert.KernelIdeal.nD Cert.KernelIdeal.τ).loc Cert.KernelIdeal.main_arg9)) := h.2.2.2.2.2.2.2.2.2.1
/-- Argument 10 is the same array. -/
theorem a10 : (show FVec Ideal Cert.KernelIdeal.S256x1 .f32 from (m' ((c.tc : Thread Cert.ReferenceIdeal.nD Cert.ReferenceIdeal.τ).loc Cert.ReferenceIdeal.main_arg10))) = (m ((c.tc : Thread Cert.KernelIdeal.nD Cert.KernelIdeal.τ).loc Cert.KernelIdeal.main_arg10)) := h.2.2.2.2.2.2.2.2.2.2.1
/-- Argument 11 is the same array. -/
theorem a11 : (show IVec Cert.KernelIdeal.S4x80 32 from (m' ((c.tc : Thread Cert.ReferenceIdeal.nD Cert.ReferenceIdeal.τ).loc Cert.ReferenceIdeal.main_arg11))) = (m ((c.tc : Thread Cert.KernelIdeal.nD Cert.KernelIdeal.τ).loc Cert.KernelIdeal.main_arg11)) := h.2.2.2.2.2.2.2.2.2.2.2.1

/-- The scales and weights, field by field. -/
theorem d_sx : (arrs m' c).data.sx = (K m c).sx := by
  have h1 : (arrs m' c).data.sx = (show FVec Ideal Cert.KernelIdeal.S_ .f32 from (m' ((c.tc : Thread Cert.ReferenceIdeal.nD Cert.ReferenceIdeal.τ).loc Cert.ReferenceIdeal.main_arg6))) (fun a => a.elim0) := Cert.ReferenceIdeal.Val.V_v8 m' c
  have h2 : (K m c).sx = (show FVec Ideal Cert.KernelIdeal.S_ .f32 from (m ((c.tc : Thread Cert.KernelIdeal.nD Cert.KernelIdeal.τ).loc Cert.KernelIdeal.main_arg6))) (fun a => a.elim0) := Cert.KernelIdeal.Val.Vv0 m c
  rw [h1, h2, a6 m m' c h]
/-- This field is the same in both programs. -/
theorem d_sh : (arrs m' c).data.sh = (K m c).sh := by
  have h1 : (arrs m' c).data.sh = (show FVec Ideal Cert.KernelIdeal.S_ .f32 from (m' ((c.tc : Thread Cert.ReferenceIdeal.nD Cert.ReferenceIdeal.τ).loc Cert.ReferenceIdeal.main_arg7))) (fun a => a.elim0) := Cert.ReferenceIdeal.Val.V_v9 m' c
  have h2 : (K m c).sh = (show FVec Ideal Cert.KernelIdeal.S_ .f32 from (m ((c.tc : Thread Cert.KernelIdeal.nD Cert.KernelIdeal.τ).loc Cert.KernelIdeal.main_arg7))) (fun a => a.elim0) := Cert.KernelIdeal.Val.Vv1 m c
  rw [h1, h2, a7 m m' c h]
/-- This field is the same in both programs. -/
theorem d_sdo : (arrs m' c).data.sdo = (K m c).sdo := by
  have h1 : (arrs m' c).data.sdo = (show FVec Ideal Cert.KernelIdeal.S_ .f32 from (m' ((c.tc : Thread Cert.ReferenceIdeal.nD Cert.ReferenceIdeal.τ).loc Cert.ReferenceIdeal.main_arg8))) (fun a => a.elim0) := Cert.ReferenceIdeal.Val.V_v10 m' c
  have h2 : (K m c).sdo = (show FVec Ideal Cert.KernelIdeal.S_ .f32 from (m ((c.tc : Thread Cert.KernelIdeal.nD Cert.KernelIdeal.τ).loc Cert.KernelIdeal.main_arg8))) (fun a => a.elim0) := Cert.KernelIdeal.Val.Vv2 m c
  rw [h1, h2, a8 m m' c h]
/-- This field is the same in both programs. -/
theorem d_sda : (arrs m' c).data.sda = (K m c).sda := by
  have h1 : (arrs m' c).data.sda = (show FVec Ideal Cert.KernelIdeal.S_ .f32 from (m' ((c.tc : Thread Cert.ReferenceIdeal.nD Cert.ReferenceIdeal.τ).loc Cert.ReferenceIdeal.main_arg9))) (fun a => a.elim0) := Cert.ReferenceIdeal.Val.V_v11 m' c
  have h2 : (K m c).sda = (show FVec Ideal Cert.KernelIdeal.S_ .f32 from (m ((c.tc : Thread Cert.KernelIdeal.nD Cert.KernelIdeal.τ).loc Cert.KernelIdeal.main_arg9))) (fun a => a.elim0) := Cert.KernelIdeal.Val.Vv3 m c
  rw [h1, h2, a9 m m' c h]
/-- This field is the same in both programs. -/
theorem d_w1s : (arrs m' c).data.w1s = (K m c).w1s := by
  funext e
  have h1 : (arrs m' c).data.w1s e = (show FVec Ideal Cert.KernelIdeal.S4 .f32 from (m' ((c.tc : Thread Cert.ReferenceIdeal.nD Cert.ReferenceIdeal.τ).loc Cert.ReferenceIdeal.main_arg3))) (ix1 e) := Cert.ReferenceIdeal.Val.V_v6 m' c e
  have h2 : (K m c).w1s e = (show FVec Ideal Cert.KernelIdeal.S4 .f32 from (m ((c.tc : Thread Cert.KernelIdeal.nD Cert.KernelIdeal.τ).loc Cert.KernelIdeal.main_arg3))) (ix1 e) := congrFun (Cert.KernelIdeal.Gen.V_main_arg3 m c) _
  rw [h1, h2, a3 m m' c h]
/-- This field is the same in both programs. -/
theorem d_w2s : (arrs m' c).data.w2s = (K m c).w2s := by
  funext e
  have h1 : (arrs m' c).data.w2s e = (show FVec Ideal Cert.KernelIdeal.S4 .f32 from (m' ((c.tc : Thread Cert.ReferenceIdeal.nD Cert.ReferenceIdeal.τ).loc Cert.ReferenceIdeal.main_arg5))) (ix1 e) := Cert.ReferenceIdeal.Val.V_v7 m' c e
  have h2 : (K m c).w2s e = (show FVec Ideal Cert.KernelIdeal.S4 .f32 from (m ((c.tc : Thread Cert.KernelIdeal.nD Cert.KernelIdeal.τ).loc Cert.KernelIdeal.main_arg5))) (ix1 e) := congrFun (Cert.KernelIdeal.Gen.V_main_arg5 m c) _
  rw [h1, h2, a5 m m' c h]
/-- This field is the same in both programs. -/
theorem d_w1 : (arrs m' c).data.w1 = (K m c).w1 := by
  funext e x y
  have h1 : (arrs m' c).data.w1 e x y = (show FVec Ideal Cert.KernelIdeal.S4x768x3072 .fp8e4m3 from (m' ((c.tc : Thread Cert.ReferenceIdeal.nD Cert.ReferenceIdeal.τ).loc Cert.ReferenceIdeal.main_arg2))) (ix3 e x y) := congrFun (Cert.ReferenceIdeal.Gen.V_main_arg2 m' c) _
  have h2 : (K m c).w1 e x y = (show FVec Ideal Cert.KernelIdeal.S4x768x3072 .fp8e4m3 from (m ((c.tc : Thread Cert.KernelIdeal.nD Cert.KernelIdeal.τ).loc Cert.KernelIdeal.main_arg2))) (ix3 e x y) := congrFun (Cert.KernelIdeal.Gen.V_main_arg2 m c) _
  rw [h1, h2, a2 m m' c h]
/-- This field is the same in both programs. -/
theorem d_w2 : (arrs m' c).data.w2 = (K m c).w2 := by
  funext e x y
  have h1 : (arrs m' c).data.w2 e x y = (show FVec Ideal Cert.KernelIdeal.S4x3072x768 .fp8e4m3 from (m' ((c.tc : Thread Cert.ReferenceIdeal.nD Cert.ReferenceIdeal.τ).loc Cert.ReferenceIdeal.main_arg4))) (ix3 e x y) := congrFun (Cert.ReferenceIdeal.Gen.V_main_arg4 m' c) _
  have h2 : (K m c).w2 e x y = (show FVec Ideal Cert.KernelIdeal.S4x3072x768 .fp8e4m3 from (m ((c.tc : Thread Cert.KernelIdeal.nD Cert.KernelIdeal.τ).loc Cert.KernelIdeal.main_arg4))) (ix3 e x y) := congrFun (Cert.KernelIdeal.Gen.V_main_arg4 m c) _
  rw [h1, h2, a4 m m' c h]

omit h in
/-- Two of them with equal fields are equal. -/
theorem data_ext (D D' : Data) (e0 : D.sx = D'.sx) (e1 : D.sh = D'.sh) (e2 : D.sdo = D'.sdo) (e3 : D.sda = D'.sda) (e4 : D.w1s = D'.w1s) (e5 : D.w2s = D'.w2s)
    (e6 : D.w1 = D'.w1) (e7 : D.w2 = D'.w2) : D = D' := by
  cases D; cases D'
  dsimp only at e0 e1 e2 e3 e4 e5 e6 e7
  subst e0 e1 e2 e3 e4 e5 e6 e7
  rfl

/-- The programs read the same scales and weights. -/
theorem data_eq : (arrs m' c).data = K m c :=
  data_ext _ _ (d_sx m m' c h) (d_sh m m' c h) (d_sdo m m' c h) (d_sda m m' c h) (d_w1s m m' c h) (d_w2s m m' c h) (d_w1 m m' c h) (d_w2 m m' c h)

omit h in
/-- The kernel's activations and cotangents are its arguments. -/
theorem kx : (show FVec Ideal Cert.KernelIdeal.S256x768 .bf16 from Cert.KernelIdeal.Gen.V m c Cert.KernelIdeal.main_arg0) = (m ((c.tc : Thread Cert.KernelIdeal.nD Cert.KernelIdeal.τ).loc Cert.KernelIdeal.main_arg0)) := Cert.KernelIdeal.Gen.V_main_arg0 m c
omit h in
/-- The kernel's output gradients are its argument. -/
theorem kdy : (show FVec Ideal Cert.KernelIdeal.S256x768 .bf16 from Cert.KernelIdeal.Gen.V m c Cert.KernelIdeal.main_arg1) = (m ((c.tc : Thread Cert.KernelIdeal.nD Cert.KernelIdeal.τ).loc Cert.KernelIdeal.main_arg1)) := Cert.KernelIdeal.Gen.V_main_arg1 m c

/-- The reference reads the same activations. -/
theorem rx : (show FVec Ideal Cert.KernelIdeal.S256x768 .f32 from Cert.ReferenceIdeal.Gen.V m' c Cert.ReferenceIdeal.main_v0) = (show FVec Ideal Cert.KernelIdeal.S256x768 .bf16 from Cert.KernelIdeal.Gen.V m c Cert.KernelIdeal.main_arg0) := by
  have h1 : (show FVec Ideal Cert.KernelIdeal.S256x768 .f32 from Cert.ReferenceIdeal.Gen.V m' c Cert.ReferenceIdeal.main_v0) = (show FVec Ideal Cert.KernelIdeal.S256x768 .bf16 from (m' ((c.tc : Thread Cert.ReferenceIdeal.nD Cert.ReferenceIdeal.τ).loc Cert.ReferenceIdeal.main_arg0))) := Cert.ReferenceIdeal.Val.V_v0 m' c
  exact h1.trans ((a0 m m' c h).trans (kx m c).symm)

include hp

omit h in
/-- What the precondition says of a slot. -/
theorem slot (e : Fin 4) (r : Fin 80) (t : Fin 256) :
    ((show IVec Cert.KernelIdeal.S1x256 32 from Cert.KernelIdeal.Gen.V m c Cert.KernelIdeal.main_v4) (ix2 0 t) = BitVec.ofNat 32 (80 * e.val + r.val)
        ↔ (show IVec Cert.KernelIdeal.S4x80 32 from m ((c.tc : Thread Cert.KernelIdeal.nD Cert.KernelIdeal.τ).loc Cert.KernelIdeal.main_arg11)) (ix2 e r) = BitVec.ofNat 32 t.val)
      ∧ ((show IVec Cert.KernelIdeal.S4x80 32 from m ((c.tc : Thread Cert.KernelIdeal.nD Cert.KernelIdeal.τ).loc Cert.KernelIdeal.main_arg11)) (ix2 e r)).toNat < 2 ^ 31 := by
  have h1 := Cert.KernelIdeal.Val.pre_at _ _ _ _ _ _ _ _ _ _ _ _ _ hp e r t
  refine ⟨Iff.trans ?_ h1.1, h1.2⟩
  rw [show (show IVec Cert.KernelIdeal.S1x256 32 from Cert.KernelIdeal.Gen.V m c Cert.KernelIdeal.main_v4) (ix2 0 t) = _ from Cert.KernelIdeal.Val.Vv4 m c t]

/-- The mask's rows are the gathered rows, then rows of zeros, -/
theorem X_eq (e : Fin 4) : XR m c e = Spec.pad ((arrs m' c).X e) := by
  funext r
  unfold Spec.pad XR
  by_cases hr : r.val < 80
  · rw [dif_pos hr, Cert.KernelIdeal.Val.rowX_lt _ _ _ e r hr fun t => (slot m c hp e ⟨r.val, hr⟩ t).1]
    funext d
    have hs : ((show IVec Cert.KernelIdeal.S4x80 32 from (m' ((c.tc : Thread Cert.ReferenceIdeal.nD Cert.ReferenceIdeal.τ).loc Cert.ReferenceIdeal.main_arg11))) (ix2 e ⟨r.val, hr⟩)).toNat < 2 ^ 31 := by rw [a11 m m' c h]; exact (slot m c hp e ⟨r.val, hr⟩ 0).2
    have h1 : (arrs m' c).X e ⟨r.val, hr⟩ d = pick (fun t d => (show FVec Ideal Cert.KernelIdeal.S256x768 .bf16 from (m' ((c.tc : Thread Cert.ReferenceIdeal.nD Cert.ReferenceIdeal.τ).loc Cert.ReferenceIdeal.main_arg0))) (ix2 t d)) ((show IVec Cert.KernelIdeal.S4x80 32 from (m' ((c.tc : Thread Cert.ReferenceIdeal.nD Cert.ReferenceIdeal.τ).loc Cert.ReferenceIdeal.main_arg11))) (ix2 e ⟨r.val, hr⟩)) d := Cert.ReferenceIdeal.Val.v2_at m' c e ⟨r.val, hr⟩ d hs
    rw [h1, a0 m m' c h, a11 m m' c h]
    rw [← kx m c]
  · rw [dif_neg hr, Cert.KernelIdeal.Val.rowX_ge _ _ _ r hr]

/-- and so are their cotangents. -/
theorem DO_eq (e : Fin 4) : GR m c e = Spec.pad ((arrs m' c).DO e) := by
  funext r
  unfold Spec.pad GR
  by_cases hr : r.val < 80
  · rw [dif_pos hr, Cert.KernelIdeal.Val.rowG_lt _ _ _ _ e r hr fun t => (slot m c hp e ⟨r.val, hr⟩ t).1]
    funext d
    have hs : ((show IVec Cert.KernelIdeal.S4x80 32 from (m' ((c.tc : Thread Cert.ReferenceIdeal.nD Cert.ReferenceIdeal.τ).loc Cert.ReferenceIdeal.main_arg11))) (ix2 e ⟨r.val, hr⟩)).toNat < 2 ^ 31 := by rw [a11 m m' c h]; exact (slot m c hp e ⟨r.val, hr⟩ 0).2
    have h1 : (arrs m' c).DO e ⟨r.val, hr⟩ d = pick (fun t d => (show EReal from (show FVec Ideal Cert.KernelIdeal.S256x1 .f32 from (m' ((c.tc : Thread Cert.ReferenceIdeal.nD Cert.ReferenceIdeal.τ).loc Cert.ReferenceIdeal.main_arg10))) (ix2 t 0)) * (show EReal from (show FVec Ideal Cert.KernelIdeal.S256x768 .bf16 from (m' ((c.tc : Thread Cert.ReferenceIdeal.nD Cert.ReferenceIdeal.τ).loc Cert.ReferenceIdeal.main_arg1))) (ix2 t d))) ((show IVec Cert.KernelIdeal.S4x80 32 from (m' ((c.tc : Thread Cert.ReferenceIdeal.nD Cert.ReferenceIdeal.τ).loc Cert.ReferenceIdeal.main_arg11))) (ix2 e ⟨r.val, hr⟩)) d := Cert.ReferenceIdeal.Val.v5_at m' c e ⟨r.val, hr⟩ d hs
    rw [h1, a1 m m' c h, a10 m m' c h, a11 m m' c h]
    rw [← kdy m c]
    refine congrArg (fun x => pick x _ d) (funext fun t => funext fun d => ?_)
    exact congrArg (fun z : EReal => z * _) (Cert.KernelIdeal.Val.Vv5 m c t)
  · rw [dif_neg hr, Cert.KernelIdeal.Val.rowG_ge _ _ _ _ r hr]

/-- A slot's row, -/
theorem X_up (e : Fin 4) (r : Fin 80) : XR m c e (up r) = (arrs m' c).X e r := by rw [X_eq m m' c h hp]; exact pad_lt _ r
/-- and its cotangent. -/
theorem DO_up (e : Fin 4) (r : Fin 80) : GR m c e (up r) = (arrs m' c).DO e r := by rw [DO_eq m m' c h hp]; exact pad_lt _ r

/-- The first weights' gradients agree, -/
theorem r0 : Cert.KernelIdeal.Val.G15 m c = (arrs m' c).pDW1 := by
  have key : ∀ (e : Fin 4) (r : Fin 768) (f : Fin 3072), Cert.KernelIdeal.Val.G15 m c (ix3 e r f) = (arrs m' c).pDW1 (ix3 e r f) := fun e r f => by
    refine Eq.trans ?_ (Cert.ReferenceIdeal.Val.pDW1_at (arrs m' c) e r f).symm
    show DW1 (K m c) e (XR m c e) (GR m c e) r f = _
    rw [X_eq m m' c h hp, DO_eq m m' c h hp, DW1_pad, data_eq m m' c h]
  funext i
  have hi : i = ix3 (i 0) (i 1) (i 2) := by blk_ext
  rw [hi]
  exact key _ _ _

/-- the second's, -/
theorem r1 : Cert.KernelIdeal.Val.G16 m c = (arrs m' c).pDW2 := by
  have key : ∀ (e : Fin 4) (r : Fin 3072) (f : Fin 768), Cert.KernelIdeal.Val.G16 m c (ix3 e r f) = (arrs m' c).pDW2 (ix3 e r f) := fun e r f => by
    refine Eq.trans ?_ (Cert.ReferenceIdeal.Val.pDW2_at (arrs m' c) e r f).symm
    show DW2 (K m c) e (XR m c e) (GR m c e) r f = _
    rw [X_eq m m' c h hp, DO_eq m m' c h hp, DW2_pad, data_eq m m' c h]
  funext i
  have hi : i = ix3 (i 0) (i 1) (i 2) := by blk_ext
  rw [hi]
  exact key _ _ _

omit hp in
/-- the activations' codes -/
theorem r2 : Cert.KernelIdeal.Gen.k0_pay6 (F := Ideal) (K m c).sx (Cert.KernelIdeal.Gen.V m c Cert.KernelIdeal.main_arg0)
    = Cert.ReferenceIdeal.Gen.k0_pay4 (F := Ideal) (arrs m' c).sx (Cert.ReferenceIdeal.Gen.V m' c Cert.ReferenceIdeal.main_v0) := by
  have key : ∀ (t : Fin 256) (d : Fin 768), Cert.KernelIdeal.Gen.k0_pay6 (F := Ideal) (K m c).sx (Cert.KernelIdeal.Gen.V m c Cert.KernelIdeal.main_arg0) (ix2 t d)
      = Cert.ReferenceIdeal.Gen.k0_pay4 (F := Ideal) (arrs m' c).sx (Cert.ReferenceIdeal.Gen.V m' c Cert.ReferenceIdeal.main_v0) (ix2 t d) := fun t d => by
    refine (Cert.KernelIdeal.Val.pay6_at _ _ t d).trans (Eq.trans ?_ (rpay4_at _ _ t d).symm)
    have h1 : (arrs m' c).sx = (K m c).sx := d_sx m m' c h
    rw [h1]
    exact congrArg (q4 (K m c).sx) (congrFun (rx m m' c h) (ix2 t d)).symm
  funext i
  have hi : i = ix2 (i 0) (i 1) := by blk_ext
  rw [hi]
  exact key _ _

omit hp in
/-- and their maximum, -/
theorem r3 : Cert.KernelIdeal.Gen.k0_pay7 (F := Ideal) (Cert.KernelIdeal.Gen.V m c Cert.KernelIdeal.main_arg0)
    = Cert.ReferenceIdeal.Gen.k0_pay5 (F := Ideal) (Cert.ReferenceIdeal.Gen.V m' c Cert.ReferenceIdeal.main_v0) := by
  refine eq_of_forall_ge_iff fun z => (Cert.KernelIdeal.Val.pay7_le _ z).trans (Iff.trans ?_ (rpay5_le _ z).symm)
  refine forall_congr' fun t => forall_congr' fun d => ?_
  exact Iff.of_eq (congrArg (fun v : EReal => ab v ≤ z) (congrFun (rx m m' c h) (ix2 t d)).symm)

/-- the hidden activations' codes -/
theorem r4 : Cert.KernelIdeal.Val.G20 m c = (arrs m' c).pH := by
  have key : ∀ (e : Fin 4) (r : Fin 80) (f : Fin 3072), Cert.KernelIdeal.Val.G20 m c (ix3 e r f) = (arrs m' c).pH (ix3 e r f) := fun e r f => by
    refine Eq.trans ?_ (Cert.ReferenceIdeal.Val.pH_at (arrs m' c) e r f).symm
    show H (K m c) e (XR m c e (up r)) f = _
    rw [X_up m m' c h hp, data_eq m m' c h]
  funext i
  have hi : i = ix3 (i 0) (i 1) (i 2) := by blk_ext
  rw [hi]
  exact key _ _ _

/-- and their maximum, -/
theorem r5 : Cert.KernelIdeal.Hand.sc (Cert.KernelIdeal.Hand.S m c 24).ah = (arrs m' c).pAH := by
  refine eq_of_forall_ge_iff fun z => (Cert.KernelIdeal.Val.ah_le m c z).trans (Iff.trans ?_ (Cert.ReferenceIdeal.Val.pAH_le (arrs m' c) z).symm)
  rw [data_eq m m' c h]
  have key : ∀ e f, 0 ≤ z → ((∀ r, ab (R (K m c) e (XR m c e r) f) ≤ z) ↔ ∀ r, ab (R (K m c) e ((arrs m' c).X e r) f) ≤ z) := fun e f hz => by
    rw [X_eq m m' c h hp]
    exact forall_pad (P := fun x _ => ab (R (K m c) e x f) ≤ z) ((arrs m' c).X e) ((arrs m' c).X e) (by show ab (R (K m c) e (fun _ => 0) f) ≤ z; rw [R_zero, ab_zero]; exact hz)
  constructor
  · intro hh e r f
    exact (key e f ((ab_nonneg _).trans (hh 0 0 0))).1 (fun r => hh e r f) r
  · intro hh e r f
    exact (key e f ((ab_nonneg _).trans (hh 0 0 0))).2 (fun r => hh e r f) r

/-- the output cotangents' codes -/
theorem r6 : Cert.KernelIdeal.Val.G22 m c = Cert.ReferenceIdeal.Gen.k0_pay12 (F := Ideal) (arrs m' c).sdo (arrs m' c).dg := by
  have key : ∀ (e : Fin 4) (r : Fin 80) (f : Fin 768), Cert.KernelIdeal.Val.G22 m c (ix3 e r f) = Cert.ReferenceIdeal.Gen.k0_pay12 (F := Ideal) (arrs m' c).sdo (arrs m' c).dg (ix3 e r f) := fun e r f => by
    refine Eq.trans ?_ (Cert.ReferenceIdeal.Val.pDO_at (arrs m' c) e r f).symm
    show q5 (K m c).sdo (GR m c e (up r) f) = _
    rw [DO_up m m' c h hp, ← d_sdo m m' c h]
    rfl
  funext i
  have hi : i = ix3 (i 0) (i 1) (i 2) := by blk_ext
  rw [hi]
  exact key _ _ _

/-- and their maximum, -/
theorem r7 : Cert.KernelIdeal.Hand.sc (Cert.KernelIdeal.Hand.S m c 24).ado = Cert.ReferenceIdeal.Gen.k0_pay13 (F := Ideal) (arrs m' c).dg := by
  refine eq_of_forall_ge_iff fun z => (Cert.KernelIdeal.Val.ado_le m c z).trans (Iff.trans ?_ (Cert.ReferenceIdeal.Val.pADO_le (arrs m' c) z).symm)
  have key : ∀ e d, 0 ≤ z → ((∀ r, ab (GR m c e r d) ≤ z) ↔ ∀ r, ab ((arrs m' c).DO e r d) ≤ z) := fun e d hz => by
    rw [DO_eq m m' c h hp]
    exact forall_pad (P := fun x _ => ab (x d) ≤ z) ((arrs m' c).DO e) ((arrs m' c).DO e) (by show ab 0 ≤ z; rw [ab_zero]; exact hz)
  constructor
  · intro hh e r d
    exact (key e d ((ab_nonneg _).trans (hh 0 0 0))).1 (fun r => hh e r d) r
  · intro hh e r d
    exact (key e d ((ab_nonneg _).trans (hh 0 0 0))).2 (fun r => hh e r d) r

/-- the hidden cotangents' codes -/
theorem r8 : Cert.KernelIdeal.Val.G24 m c = (arrs m' c).pDA := by
  have key : ∀ (e : Fin 4) (r : Fin 80) (f : Fin 3072), Cert.KernelIdeal.Val.G24 m c (ix3 e r f) = (arrs m' c).pDA (ix3 e r f) := fun e r f => by
    refine Eq.trans ?_ (Cert.ReferenceIdeal.Val.pDA_at (arrs m' c) e r f).symm
    show DA (K m c) e (XR m c e (up r)) (GR m c e (up r)) f = _
    rw [X_up m m' c h hp, DO_up m m' c h hp, data_eq m m' c h]
  funext i
  have hi : i = ix3 (i 0) (i 1) (i 2) := by blk_ext
  rw [hi]
  exact key _ _ _

/-- and their maximum. -/
theorem r9 : Cert.KernelIdeal.Hand.sc (Cert.KernelIdeal.Hand.S m c 24).ada = Cert.ReferenceIdeal.Gen.k0_pay18 (F := Ideal) (arrs m' c).pDH := by
  refine eq_of_forall_ge_iff fun z => (Cert.KernelIdeal.Val.ada_le m c z).trans (Iff.trans ?_ (Cert.ReferenceIdeal.Val.pADA_le (arrs m' c) z).symm)
  rw [data_eq m m' c h]
  have key : ∀ e f, 0 ≤ z → ((∀ r, ab (DH (K m c) e (XR m c e r) (GR m c e r) f) ≤ z) ↔ ∀ r, ab (DH (K m c) e ((arrs m' c).X e r) ((arrs m' c).DO e r) f) ≤ z) := fun e f hz => by
    rw [X_eq m m' c h hp, DO_eq m m' c h hp]
    exact forall_pad (P := fun x y => ab (DH (K m c) e x y f) ≤ z) ((arrs m' c).X e) ((arrs m' c).DO e) (by show ab (DH (K m c) e (fun _ => 0) (fun _ => 0) f) ≤ z; rw [DH_zero, ab_zero]; exact hz)
  constructor
  · intro hh e r f
    exact (key e f ((ab_nonneg _).trans (hh 0 0 0))).1 (fun r => hh e r f) r
  · intro hh e r f
    exact (key e f ((ab_nonneg _).trans (hh 0 0 0))).2 (fun r => hh e r f) r

end Cert.Bridge

end
-- ==== Proof.Val.KerRun.lean ====
/-
  The kernel's run with its results named.
-/
module

public import proofs.«01_k».proof.Proof.Val.KerArr

@[expose] public section

set_option maxRecDepth 16384

noncomputable section

namespace Cert.KernelIdeal.Val

open Cert.KernelIdeal Cert.KernelIdeal.Gen Cert.KernelIdeal.Hand Cert.Spec
open Idealize.ShloMosaic Idealize.ShloMosaic.TcCoe Idealize.SL.Sem

variable (m : (ℓ : Loc nD τ sig) → Buf (Elt Ideal) ℓ) (ρ : Dev nD → PrngReg)

/-- The kernel's launch ends with these results and its arguments as they were. -/
theorem run : θ_run (defs (F := Ideal)) (onTc (τ := τ) (main (F := Ideal))) ⟨m, fun _ => 0, ρ⟩ (fun r => ∀ c : Dev nD,
        r.2.mem ((c.tc : Thread nD τ).loc main_v6_2) = G15 m c
        ∧ r.2.mem ((c.tc : Thread nD τ).loc main_v6_3) = G16 m c
        ∧ r.2.mem ((c.tc : Thread nD τ).loc main_v6_5) = k0_pay6 (F := Ideal) (K m c).sx (V m c main_arg0)
        ∧ r.2.mem ((c.tc : Thread nD τ).loc main_v6_6) = (fun _ => k0_pay7 (F := Ideal) (V m c main_arg0))
        ∧ r.2.mem ((c.tc : Thread nD τ).loc main_v6_7) = G20 m c
        ∧ r.2.mem ((c.tc : Thread nD τ).loc main_v6_8) = (fun _ => sc (S m c 24).ah)
        ∧ r.2.mem ((c.tc : Thread nD τ).loc main_v6_9) = G22 m c
        ∧ r.2.mem ((c.tc : Thread nD τ).loc main_v6_10) = (fun _ => sc (S m c 24).ado)
        ∧ r.2.mem ((c.tc : Thread nD τ).loc main_v6_11) = G24 m c
        ∧ r.2.mem ((c.tc : Thread nD τ).loc main_v6_12) = (fun _ => sc (S m c 24).ada)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11)
        ∧ r.2.mem ((c.tc : Thread nD τ).loc main_arg12) = m ((c.tc : Thread nD τ).loc main_arg12)) :=
  (θ_run (defs (F := Ideal)) _ _).mono (fun _ h c => ⟨((h.1 c).1 15).trans (arr15 m c), ((h.1 c).1 16).trans (arr16 m c), ((h.1 c).1 18).trans (arr18 m c), ((h.1 c).1 19).trans (arr19 m c), ((h.1 c).1 20).trans (arr20 m c), ((h.1 c).1 21).trans (arr21 m c), ((h.1 c).1 22).trans (arr22 m c), ((h.1 c).1 23).trans (arr23 m c), ((h.1 c).1 24).trans (arr24 m c), ((h.1 c).1 25).trans (arr25 m c), h.2.1 c⟩)
    (θ_run_and (run_main m ρ) (frame m ρ))

end Cert.KernelIdeal.Val

end
-- ==== Proof.Val.RefDw1.lean ====
/-
  The reference's first weights' gradient, as its body computes it.
-/
module

public import proofs.«01_k».proof.Proof.Val.RefOut

@[expose] public section

set_option maxRecDepth 16384

noncomputable section

namespace Cert.ReferenceIdeal.Val

open Cert.ReferenceIdeal Cert.ReferenceIdeal.Gen Cert.Spec
open Idealize.ShloMosaic Idealize.ShloMosaic.TcCoe Idealize.SL.Sem
open Idealize.ShloMosaic.Pipeline (Dat)

variable (m : (ℓ : Loc nD τ sig) → Buf (Elt Ideal) ℓ)

set_option maxHeartbeats 3000000 in
/-- The first weights' gradient. -/
theorem arr11 (c : Dev nD) : (dats m 0 c).arrAt 11 cfg0.N = ((arrs m c).pDW1) := by
  refine (dats m 0 c).arrAt_eq_of_after_last 11 t0_0 (by decide +kernel) _ fun j => ?_
  blk_simp
  rw [after0_11]
  simp only [outsAt0]
  frame_out
  simp only [read_unread_whole, i0, i1, i2, i3, i4, i5, i6, i7, i8, i9, i10, first1]
  rfl

end Cert.ReferenceIdeal.Val

end
-- ==== Proof.Val.RefRun.lean ====
/-
  The reference's run with its results named.
-/
module

public import proofs.«01_k».proof.Proof.Gen.ReferenceIdeal.Value
public import proofs.«01_k».proof.Proof.Val.RefOut
public import proofs.«01_k».proof.Proof.Val.RefDw1

@[expose] public section

set_option maxRecDepth 16384

noncomputable section

namespace Cert.ReferenceIdeal.Val

open Cert.ReferenceIdeal Cert.ReferenceIdeal.Gen Cert.Spec
open Idealize.ShloMosaic Idealize.ShloMosaic.TcCoe Idealize.SL.Sem

attribute [local instance] Cert.ReferenceIdeal.Gen.facts

variable (m : (ℓ : Loc nD τ sig) → Buf (Elt Ideal) ℓ) (ρ : Dev nD → PrngReg)

set_option maxHeartbeats 1600000 in
/-- The reference's run ends with these results and its arguments as they were. -/
theorem run : θ_run (defs (F := Ideal)) (onTc (τ := τ) (main (F := Ideal))) ⟨m, fun _ => 0, ρ⟩ (fun r => ∀ c : Dev nD,
        r.2.mem ((c.tc : Thread nD τ).loc main_v12_0) = (arrs m c).pDW1
        ∧ r.2.mem ((c.tc : Thread nD τ).loc main_v12_1) = (arrs m c).pDW2
        ∧ r.2.mem ((c.tc : Thread nD τ).loc main_v12_2) = (k0_pay4 (F := Ideal) (arrs m c).sx (V m c main_v0))
        ∧ r.2.mem ((c.tc : Thread nD τ).loc main_v12_3) = (fun _ => k0_pay5 (F := Ideal) (V m c main_v0))
        ∧ r.2.mem ((c.tc : Thread nD τ).loc main_v12_4) = (arrs m c).pH
        ∧ r.2.mem ((c.tc : Thread nD τ).loc main_v12_5) = (fun _ => (arrs m c).pAH)
        ∧ r.2.mem ((c.tc : Thread nD τ).loc main_v12_6) = (k0_pay12 (F := Ideal) (arrs m c).sdo (arrs m c).dg)
        ∧ r.2.mem ((c.tc : Thread nD τ).loc main_v12_7) = (fun _ => k0_pay13 (F := Ideal) (arrs m c).dg)
        ∧ r.2.mem ((c.tc : Thread nD τ).loc main_v12_8) = (arrs m c).pDA
        ∧ r.2.mem ((c.tc : Thread nD τ).loc main_v12_9) = (fun _ => k0_pay18 (F := Ideal) (arrs m c).pDH)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11)
        ∧ r.2.mem ((c.tc : Thread nD τ).loc main_arg12) = m ((c.tc : Thread nD τ).loc main_arg12)) :=
  (θ_run (defs (F := Ideal)) _ _).mono (fun _ h c => ⟨(h c).1.trans (arr11 m c), (h c).2.1.trans (arr12 m c), (h c).2.2.1.trans (arr13 m c), (h c).2.2.2.1.trans (arr14 m c), (h c).2.2.2.2.1.trans (arr15 m c), (h c).2.2.2.2.2.1.trans (arr16 m c), (h c).2.2.2.2.2.2.1.trans (arr17 m c), (h c).2.2.2.2.2.2.2.1.trans (arr18 m c), (h c).2.2.2.2.2.2.2.2.1.trans (arr19 m c), (h c).2.2.2.2.2.2.2.2.2.1.trans (arr20 m c), (h c).2.2.2.2.2.2.2.2.2.2⟩)
    (Cert.ReferenceIdeal.Value.run_blocks m ρ)

end Cert.ReferenceIdeal.Val

end
-- ==== Proof.lean ====
/-
  The claims: each program's frame, that the ideal program is the kernel's own text, and that over the reals the kernel and the
  reference leave the same ten results when the two routing tables are inverse to each other.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Gen.Pre_inverse_tables
public import proofs.«01_k».proof.Proof.Data
public import proofs.«01_k».proof.Proof.Bits.Data
public import proofs.«01_k».proof.Proof.Val.Bridge
public import proofs.«01_k».proof.Proof.Val.KerRun
public import proofs.«01_k».proof.Proof.Val.RefRun
public import Idealize.ShloMosaic.Adequacy
public import Idealize.ShloMosaic.Init

@[expose] public section

noncomputable section

namespace Cert.Proof

open Idealize.ShloMosaic Idealize.SL.Sem Cert.Kernel

open Cert.KernelIdeal.Val (G15 G16 G20 G22 G24 K)
open Cert.KernelIdeal.Gen (k0_pay6 k0_pay7 V)
open Cert.KernelIdeal.Hand (sc S)
open Cert.Bridge

attribute [local instance] Cert.Kernel.Gen.facts Cert.KernelIdeal.Gen.facts Cert.ReferenceIdeal.Gen.facts Cert.Pre_inverse_tables.Gen.facts

set_option maxRecDepth 16384
set_option maxHeartbeats 1600000 in
/-- Over the reals the kernel and the reference leave the same ten results. -/
theorem algebraic : Cert.algebraic_KernelIdeal_ReferenceIdeal_pre_inverse_tables := fun m g m' g' hp hs =>
  ⟨fun c => G15 m c, fun c => G16 m c, fun c => k0_pay6 (F := Ideal) (K m c).sx (V m c Cert.KernelIdeal.main_arg0), fun c => (fun _ => k0_pay7 (F := Ideal) (V m c Cert.KernelIdeal.main_arg0)), fun c => G20 m c, fun c => (fun _ => sc (S m c 24).ah), fun c => G22 m c, fun c => (fun _ => sc (S m c 24).ado), fun c => G24 m c, fun c => (fun _ => sc (S m c 24).ada), Cert.KernelIdeal.Val.run m g,
    (θ_run (Cert.ReferenceIdeal.defs (F := Ideal)) _ _).mono (fun _ h c => ⟨((h c).1).trans (r0 m m' c (hs c) (hp c)).symm, ((h c).2.1).trans (r1 m m' c (hs c) (hp c)).symm, ((h c).2.2.1).trans (r2 m m' c (hs c)).symm, ((h c).2.2.2.1).trans (congrArg (fun v : EReal => fun _ : Cert.KernelIdeal.S1.Idx => v) (r3 m m' c (hs c)).symm), ((h c).2.2.2.2.1).trans (r4 m m' c (hs c) (hp c)).symm, ((h c).2.2.2.2.2.1).trans (congrArg (fun v : EReal => fun _ : Cert.KernelIdeal.S1.Idx => v) (r5 m m' c (hs c) (hp c)).symm), ((h c).2.2.2.2.2.2.1).trans (r6 m m' c (hs c) (hp c)).symm, ((h c).2.2.2.2.2.2.2.1).trans (congrArg (fun v : EReal => fun _ : Cert.KernelIdeal.S1.Idx => v) (r7 m m' c (hs c) (hp c)).symm), ((h c).2.2.2.2.2.2.2.2.1).trans (r8 m m' c (hs c) (hp c)).symm, ((h c).2.2.2.2.2.2.2.2.2.1).trans (congrArg (fun v : EReal => fun _ : Cert.KernelIdeal.S1.Idx => v) (r9 m m' c (hs c) (hp c)).symm), (h c).2.2.2.2.2.2.2.2.2.2⟩) (Cert.ReferenceIdeal.Val.run m' g')⟩

/-- The claims. -/
theorem claim : Cert.Claim := ⟨Cert.Kernel.Gen.facts, Cert.KernelIdeal.Gen.facts, Cert.ReferenceIdeal.Gen.facts, Cert.Pre_inverse_tables.Gen.facts,
  fun m ρ _ => Cert.Kernel.Hand.frame m ρ, fun m ρ _ => Cert.KernelIdeal.Hand.frame m ρ, fun m ρ _ => Cert.KernelIdeal.Hand.frame m ρ,
  fun m ρ _ => Cert.ReferenceIdeal.Gen.frame m ρ, fun m ρ _ => Cert.ReferenceIdeal.Gen.frame m ρ, trivial, algebraic⟩

end Cert.Proof

end
